-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnReferenceIdeal (m : (ℓ : Loc Cert.XattnReferenceIdeal.nD Cert.XattnReferenceIdeal.τ Cert.XattnReferenceIdeal.sig) → Buf (Elt Ideal) ℓ) : Prop :=
  True

def Pre_Mlaprep (m : (ℓ : Loc Cert.Mlaprep.nD Cert.Mlaprep.τ Cert.Mlaprep.sig) → Buf (Elt Bits) ℓ) : Prop :=
  True

def Pre_MlaprepIdeal (m : (ℓ : Loc Cert.MlaprepIdeal.nD Cert.MlaprepIdeal.τ Cert.MlaprepIdeal.sig) → Buf (Elt Ideal) ℓ) : Prop :=
  True

def Pre_MlaprepReferenceIdeal (m : (ℓ : Loc Cert.MlaprepReferenceIdeal.nD Cert.MlaprepReferenceIdeal.τ Cert.MlaprepReferenceIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_Experts [hPre_block_ranges : Cert.Pre_block_ranges.Facts] (m : (ℓ : Loc Cert.Experts.nD Cert.Experts.τ Cert.Experts.sig) → Buf (Elt Bits) ℓ) : Prop :=
  ∀ c : Dev Cert.Experts.nD,
    (Cert.Pre_block_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9))).1 = (fun _ => 1#1)
    ∧ (Cert.Pre_block_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9))).2.1 = (fun _ => 1#1)
    ∧ (Cert.Pre_block_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9))).2.2 = (fun _ => 1#1)

def Pre_ExpertsIdeal [hPre_block_ranges : Cert.Pre_block_ranges.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_block_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))).1 = (fun _ => 1#1)
    ∧ (Cert.Pre_block_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))).2.1 = (fun _ => 1#1)
    ∧ (Cert.Pre_block_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5))
      ∧ r.2.sem = fun _ => 0)

def quiescent_Mlaprep [hMlaprep : Cert.Mlaprep.Facts] : Prop :=
  ∀ (m : (ℓ : Loc Cert.Mlaprep.nD Cert.Mlaprep.τ Cert.Mlaprep.sig) → Buf (Elt Bits) ℓ) (g : Dev Cert.Mlaprep.nD → PrngReg), Pre_Mlaprep m →
    θ_run (Cert.Mlaprep.defs (F := Bits)) (onTc (τ := Cert.Mlaprep.τ) (Cert.Mlaprep.main (F := Bits))) ⟨m, fun _ => 0, g⟩ (fun r => (∀ c : Dev Cert.Mlaprep.nD,
      r.2.mem ((c.tc : Thread Cert.Mlaprep.nD Cert.Mlaprep.τ).loc Cert.Mlaprep.main_arg0) = m ((c.tc : Thread Cert.Mlaprep.nD Cert.Mlaprep.τ).loc Cert.Mlaprep.main_arg0)
      ∧ r.2.mem ((c.tc : Thread Cert.Mlaprep.nD Cert.Mlaprep.τ).loc Cert.Mlaprep.main_arg1) = m ((c.tc : Thread Cert.Mlaprep.nD Cert.Mlaprep.τ).loc Cert.Mlaprep.main_arg1)
      ∧ r.2.mem ((c.tc : Thread Cert.Mlaprep.nD Cert.Mlaprep.τ).loc Cert.Mlaprep.main_arg2) = m ((c.tc : Thread Cert.Mlaprep.nD Cert.Mlaprep.τ).loc Cert.Mlaprep.main_arg2)
      ∧ r.2.mem ((c.tc : Thread Cert.Mlaprep.nD Cert.Mlaprep.τ).loc Cert.Mlaprep.main_arg3) = m ((c.tc : Thread Cert.Mlaprep.nD Cert.Mlaprep.τ).loc Cert.Mlaprep.main_arg3)
      ∧ r.2.mem ((c.tc : Thread Cert.Mlaprep.nD Cert.Mlaprep.τ).loc Cert.Mlaprep.main_arg4) = m ((c.tc : Thread Cert.Mlaprep.nD Cert.Mlaprep.τ).loc Cert.Mlaprep.main_arg4)
      ∧ r.2.mem ((c.tc : Thread Cert.Mlaprep.nD Cert.Mlaprep.τ).loc Cert.Mlaprep.main_arg5) = m ((c.tc : Thread Cert.Mlaprep.nD Cert.Mlaprep.τ).loc Cert.Mlaprep.main_arg5)
      ∧ r.2.mem ((c.tc : Thread Cert.Mlaprep.nD Cert.Mlaprep.τ).loc Cert.Mlaprep.main_arg6) = m ((c.tc : Thread Cert.Mlaprep.nD Cert.Mlaprep.τ).loc Cert.Mlaprep.main_arg6)
      ∧ r.2.mem ((c.tc : Thread Cert.Mlaprep.nD Cert.Mlaprep.τ).loc Cert.Mlaprep.main_arg7) = m ((c.tc : Thread Cert.Mlaprep.nD Cert.Mlaprep.τ).loc Cert.Mlaprep.main_arg7)
      ∧ r.2.mem ((c.tc : Thread Cert.Mlaprep.nD Cert.Mlaprep.τ).loc Cert.Mlaprep.main_arg8) = m ((c.tc : Thread Cert.Mlaprep.nD Cert.Mlaprep.τ).loc Cert.Mlaprep.main_arg8))
      ∧ r.2.sem = fun _ => 0)

def quiescent_MlaprepIdeal [hMlaprepIdeal : Cert.MlaprepIdeal.Facts] : Prop :=
  ∀ (m : (ℓ : Loc Cert.MlaprepIdeal.nD Cert.MlaprepIdeal.τ Cert.MlaprepIdeal.sig) → Buf (Elt Ideal) ℓ) (g : Dev Cert.MlaprepIdeal.nD → PrngReg), Pre_MlaprepIdeal m →
    θ_run (Cert.MlaprepIdeal.defs (F := Ideal)) (onTc (τ := Cert.MlaprepIdeal.τ) (Cert.MlaprepIdeal.main (F := Ideal))) ⟨m, fun _ => 0, g⟩ (fun r => (∀ c : Dev Cert.MlaprepIdeal.nD,
      r.2.mem ((c.tc : Thread Cert.MlaprepIdeal.nD Cert.MlaprepIdeal.τ).loc Cert.MlaprepIdeal.main_arg0) = m ((c.tc : Thread Cert.MlaprepIdeal.nD Cert.MlaprepIdeal.τ).loc Cert.MlaprepIdeal.main_arg0)
      ∧ r.2.mem ((c.tc : Thread Cert.MlaprepIdeal.nD Cert.MlaprepIdeal.τ).loc Cert.MlaprepIdeal.main_arg1) = m ((c.tc : Thread Cert.MlaprepIdeal.nD Cert.MlaprepIdeal.τ).loc Cert.MlaprepIdeal.main_arg1)
      ∧ r.2.mem ((c.tc : Thread Cert.MlaprepIdeal.nD Cert.MlaprepIdeal.τ).loc Cert.MlaprepIdeal.main_arg2) = m ((c.tc : Thread Cert.MlaprepIdeal.nD Cert.MlaprepIdeal.τ).loc Cert.MlaprepIdeal.main_arg2)
      ∧ r.2.mem ((c.tc : Thread Cert.MlaprepIdeal.nD Cert.MlaprepIdeal.τ).loc Cert.MlaprepIdeal.main_arg3) = m ((c.tc : Thread Cert.MlaprepIdeal.nD Cert.MlaprepIdeal.τ).loc Cert.MlaprepIdeal.main_arg3)
      ∧ r.2.mem ((c.tc : Thread Cert.MlaprepIdeal.nD Cert.MlaprepIdeal.τ).loc Cert.MlaprepIdeal.main_arg4) = m ((c.tc : Thread Cert.MlaprepIdeal.nD Cert.MlaprepIdeal.τ).loc Cert.MlaprepIdeal.main_arg4)
      ∧ r.2.mem ((c.tc : Thread Cert.MlaprepIdeal.nD Cert.MlaprepIdeal.τ).loc Cert.MlaprepIdeal.main_arg5) = m ((c.tc : Thread Cert.MlaprepIdeal.nD Cert.MlaprepIdeal.τ).loc Cert.MlaprepIdeal.main_arg5)
      ∧ r.2.mem ((c.tc : Thread Cert.MlaprepIdeal.nD Cert.MlaprepIdeal.τ).loc Cert.MlaprepIdeal.main_arg6) = m ((c.tc : Thread Cert.MlaprepIdeal.nD Cert.MlaprepIdeal.τ).loc Cert.MlaprepIdeal.main_arg6)
      ∧ r.2.mem ((c.tc : Thread Cert.MlaprepIdeal.nD Cert.MlaprepIdeal.τ).loc Cert.MlaprepIdeal.main_arg7) = m ((c.tc : Thread Cert.MlaprepIdeal.nD Cert.MlaprepIdeal.τ).loc Cert.MlaprepIdeal.main_arg7)
      ∧ r.2.mem ((c.tc : Thread Cert.MlaprepIdeal.nD Cert.MlaprepIdeal.τ).loc Cert.MlaprepIdeal.main_arg8) = m ((c.tc : Thread Cert.MlaprepIdeal.nD Cert.MlaprepIdeal.τ).loc Cert.MlaprepIdeal.main_arg8))
      ∧ r.2.sem = fun _ => 0)

def quiescent_MlaprepReferenceIdeal [hMlaprepReferenceIdeal : Cert.MlaprepReferenceIdeal.Facts] : Prop :=
  ∀ (m : (ℓ : Loc Cert.MlaprepReferenceIdeal.nD Cert.MlaprepReferenceIdeal.τ Cert.MlaprepReferenceIdeal.sig) → Buf (Elt Ideal) ℓ) (g : Dev Cert.MlaprepReferenceIdeal.nD → PrngReg), Pre_MlaprepReferenceIdeal m →
    θ_run (Cert.MlaprepReferenceIdeal.defs (F := Ideal)) (onTc (τ := Cert.MlaprepReferenceIdeal.τ) (Cert.MlaprepReferenceIdeal.main (F := Ideal))) ⟨m, fun _ => 0, g⟩ (fun r => (∀ c : Dev Cert.MlaprepReferenceIdeal.nD,
      r.2.mem ((c.tc : Thread Cert.MlaprepReferenceIdeal.nD Cert.MlaprepReferenceIdeal.τ).loc Cert.MlaprepReferenceIdeal.main_arg0) = m ((c.tc : Thread Cert.MlaprepReferenceIdeal.nD Cert.MlaprepReferenceIdeal.τ).loc Cert.MlaprepReferenceIdeal.main_arg0)
      ∧ r.2.mem ((c.tc : Thread Cert.MlaprepReferenceIdeal.nD Cert.MlaprepReferenceIdeal.τ).loc Cert.MlaprepReferenceIdeal.main_arg1) = m ((c.tc : Thread Cert.MlaprepReferenceIdeal.nD Cert.MlaprepReferenceIdeal.τ).loc Cert.MlaprepReferenceIdeal.main_arg1)
      ∧ r.2.mem ((c.tc : Thread Cert.MlaprepReferenceIdeal.nD Cert.MlaprepReferenceIdeal.τ).loc Cert.MlaprepReferenceIdeal.main_arg2) = m ((c.tc : Thread Cert.MlaprepReferenceIdeal.nD Cert.MlaprepReferenceIdeal.τ).loc Cert.MlaprepReferenceIdeal.main_arg2)
      ∧ r.2.mem ((c.tc : Thread Cert.MlaprepReferenceIdeal.nD Cert.MlaprepReferenceIdeal.τ).loc Cert.MlaprepReferenceIdeal.main_arg3) = m ((c.tc : Thread Cert.MlaprepReferenceIdeal.nD Cert.MlaprepReferenceIdeal.τ).loc Cert.MlaprepReferenceIdeal.main_arg3)
      ∧ r.2.mem ((c.tc : Thread Cert.MlaprepReferenceIdeal.nD Cert.MlaprepReferenceIdeal.τ).loc Cert.MlaprepReferenceIdeal.main_arg4) = m ((c.tc : Thread Cert.MlaprepReferenceIdeal.nD Cert.MlaprepReferenceIdeal.τ).loc Cert.MlaprepReferenceIdeal.main_arg4)
      ∧ r.2.mem ((c.tc : Thread Cert.MlaprepReferenceIdeal.nD Cert.MlaprepReferenceIdeal.τ).loc Cert.MlaprepReferenceIdeal.main_arg5) = m ((c.tc : Thread Cert.MlaprepReferenceIdeal.nD Cert.MlaprepReferenceIdeal.τ).loc Cert.MlaprepReferenceIdeal.main_arg5)
      ∧ r.2.mem ((c.tc : Thread Cert.MlaprepReferenceIdeal.nD Cert.MlaprepReferenceIdeal.τ).loc Cert.MlaprepReferenceIdeal.main_arg6) = m ((c.tc : Thread Cert.MlaprepReferenceIdeal.nD Cert.MlaprepReferenceIdeal.τ).loc Cert.MlaprepReferenceIdeal.main_arg6)
      ∧ r.2.mem ((c.tc : Thread Cert.MlaprepReferenceIdeal.nD Cert.MlaprepReferenceIdeal.τ).loc Cert.MlaprepReferenceIdeal.main_arg7) = m ((c.tc : Thread Cert.MlaprepReferenceIdeal.nD Cert.MlaprepReferenceIdeal.τ).loc Cert.MlaprepReferenceIdeal.main_arg7)
      ∧ r.2.mem ((c.tc : Thread Cert.MlaprepReferenceIdeal.nD Cert.MlaprepReferenceIdeal.τ).loc Cert.MlaprepReferenceIdeal.main_arg8) = m ((c.tc : Thread Cert.MlaprepReferenceIdeal.nD Cert.MlaprepReferenceIdeal.τ).loc Cert.MlaprepReferenceIdeal.main_arg8))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2)
      ∧ r.2.mem ((c.tc : Thread Cert.MemkvReferenceIdeal.nD Cert.MemkvReferenceIdeal.τ).loc Cert.MemkvReferenceIdeal.main_arg3) = m ((c.tc : Thread Cert.MemkvReferenceIdeal.nD Cert.MemkvReferenceIdeal.τ).loc Cert.MemkvReferenceIdeal.main_arg3))
      ∧ r.2.sem = fun _ => 0)

def quiescent_Experts [hExperts : Cert.Experts.Facts] [hPre_block_ranges : Cert.Pre_block_ranges.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9))
      ∧ r.2.sem = fun _ => 0)

def quiescent_ExpertsIdeal [hExpertsIdeal : Cert.ExpertsIdeal.Facts] [hPre_block_ranges : Cert.Pre_block_ranges.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def preserves_Kernel_KernelIdeal : Prop :=
  IdealRules.named_const.Statement Cert.KernelIdeal.κ "minus_inf" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v15) = v0 c
          ∧ r.2.mem ((c.tc : Thread Cert.InprojReferenceIdeal.nD Cert.InprojReferenceIdeal.τ).loc Cert.InprojReferenceIdeal.main_v16) = v1 c
          ∧ r.2.mem ((c.tc : Thread Cert.InprojReferenceIdeal.nD Cert.InprojReferenceIdeal.τ).loc Cert.InprojReferenceIdeal.main_v17) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Xattn_XattnIdeal : Prop :=
  True

def algebraic_XattnIdeal_XattnReferenceIdeal [hXattnIdeal : Cert.XattnIdeal.Facts] [hXattnReferenceIdeal : Cert.XattnReferenceIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)
      ∧ m' ((c.tc : Thread Cert.XattnReferenceIdeal.nD Cert.XattnReferenceIdeal.τ).loc Cert.XattnReferenceIdeal.main_arg3) = m ((c.tc : Thread Cert.XattnIdeal.nD Cert.XattnIdeal.τ).loc Cert.XattnIdeal.main_arg3)
      ∧ m' ((c.tc : Thread Cert.XattnReferenceIdeal.nD Cert.XattnReferenceIdeal.τ).loc Cert.XattnReferenceIdeal.main_arg4) = m ((c.tc : Thread Cert.XattnIdeal.nD Cert.XattnIdeal.τ).loc Cert.XattnIdeal.main_arg4)
      ∧ m' ((c.tc : Thread Cert.XattnReferenceIdeal.nD Cert.XattnReferenceIdeal.τ).loc Cert.XattnReferenceIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v36) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5))

def preserves_Mlaprep_MlaprepIdeal : Prop :=
  True

def algebraic_MlaprepIdeal_MlaprepReferenceIdeal [hMlaprepIdeal : Cert.MlaprepIdeal.Facts] [hMlaprepReferenceIdeal : Cert.MlaprepReferenceIdeal.Facts] : Prop :=
  ∀ (m : (ℓ : Loc Cert.MlaprepIdeal.nD Cert.MlaprepIdeal.τ Cert.MlaprepIdeal.sig) → Buf (Elt Ideal) ℓ) (g : Dev Cert.MlaprepIdeal.nD → PrngReg)
    (m' : (ℓ : Loc Cert.MlaprepReferenceIdeal.nD Cert.MlaprepReferenceIdeal.τ Cert.MlaprepReferenceIdeal.sig) → Buf (Elt Ideal) ℓ) (g' : Dev Cert.MlaprepReferenceIdeal.nD → PrngReg), Pre_MlaprepIdeal m →
    (∀ c : Dev Cert.MlaprepIdeal.nD,
      m' ((c.tc : Thread Cert.MlaprepReferenceIdeal.nD Cert.MlaprepReferenceIdeal.τ).loc Cert.MlaprepReferenceIdeal.main_arg0) = m ((c.tc : Thread Cert.MlaprepIdeal.nD Cert.MlaprepIdeal.τ).loc Cert.MlaprepIdeal.main_arg0)
      ∧ m' ((c.tc : Thread Cert.MlaprepReferenceIdeal.nD Cert.MlaprepReferenceIdeal.τ).loc Cert.MlaprepReferenceIdeal.main_arg1) = m ((c.tc : Thread Cert.MlaprepIdeal.nD Cert.MlaprepIdeal.τ).loc Cert.MlaprepIdeal.main_arg1)
      ∧ m' ((c.tc : Thread Cert.MlaprepReferenceIdeal.nD Cert.MlaprepReferenceIdeal.τ).loc Cert.MlaprepReferenceIdeal.main_arg2) = m ((c.tc : Thread Cert.MlaprepIdeal.nD Cert.MlaprepIdeal.τ).loc Cert.MlaprepIdeal.main_arg2)
      ∧ m' ((c.tc : Thread Cert.MlaprepReferenceIdeal.nD Cert.MlaprepReferenceIdeal.τ).loc Cert.MlaprepReferenceIdeal.main_arg3) = m ((c.tc : Thread Cert.MlaprepIdeal.nD Cert.MlaprepIdeal.τ).loc Cert.MlaprepIdeal.main_arg3)
      ∧ m' ((c.tc : Thread Cert.MlaprepReferenceIdeal.nD Cert.MlaprepReferenceIdeal.τ).loc Cert.MlaprepReferenceIdeal.main_arg4) = m ((c.tc : Thread Cert.MlaprepIdeal.nD Cert.MlaprepIdeal.τ).loc Cert.MlaprepIdeal.main_arg4)
      ∧ m' ((c.tc : Thread Cert.MlaprepReferenceIdeal.nD Cert.MlaprepReferenceIdeal.τ).loc Cert.MlaprepReferenceIdeal.main_arg5) = m ((c.tc : Thread Cert.MlaprepIdeal.nD Cert.MlaprepIdeal.τ).loc Cert.MlaprepIdeal.main_arg5)
      ∧ m' ((c.tc : Thread Cert.MlaprepReferenceIdeal.nD Cert.MlaprepReferenceIdeal.τ).loc Cert.MlaprepReferenceIdeal.main_arg6) = m ((c.tc : Thread Cert.MlaprepIdeal.nD Cert.MlaprepIdeal.τ).loc Cert.MlaprepIdeal.main_arg6)
      ∧ m' ((c.tc : Thread Cert.MlaprepReferenceIdeal.nD Cert.MlaprepReferenceIdeal.τ).loc Cert.MlaprepReferenceIdeal.main_arg7) = m ((c.tc : Thread Cert.MlaprepIdeal.nD Cert.MlaprepIdeal.τ).loc Cert.MlaprepIdeal.main_arg7)
      ∧ m' ((c.tc : Thread Cert.MlaprepReferenceIdeal.nD Cert.MlaprepReferenceIdeal.τ).loc Cert.MlaprepReferenceIdeal.main_arg8) = m ((c.tc : Thread Cert.MlaprepIdeal.nD Cert.MlaprepIdeal.τ).loc Cert.MlaprepIdeal.main_arg8)) →
    ∃ (v0 : (c : Dev Cert.MlaprepIdeal.nD) → Buf (Elt Ideal) ((c.tc : Thread Cert.MlaprepIdeal.nD Cert.MlaprepIdeal.τ).loc Cert.MlaprepIdeal.main_v0_0)) (v1 : (c : Dev Cert.MlaprepIdeal.nD) → Buf (Elt Ideal) ((c.tc : Thread Cert.MlaprepIdeal.nD Cert.MlaprepIdeal.τ).loc Cert.MlaprepIdeal.main_v0_1)) (v2 : (c : Dev Cert.MlaprepIdeal.nD) → Buf (Elt Ideal) ((c.tc : Thread Cert.MlaprepIdeal.nD Cert.MlaprepIdeal.τ).loc Cert.MlaprepIdeal.main_v0_2)),
      θ_run (Cert.MlaprepIdeal.defs (F := Ideal)) (onTc (τ := Cert.MlaprepIdeal.τ) (Cert.MlaprepIdeal.main (F := Ideal))) ⟨m, fun _ => 0, g⟩ (fun r => ∀ c : Dev Cert.MlaprepIdeal.nD,
          r.2.mem ((c.tc : Thread Cert.MlaprepIdeal.nD Cert.MlaprepIdeal.τ).loc Cert.MlaprepIdeal.main_v0_0) = v0 c
          ∧ r.2.mem ((c.tc : Thread Cert.MlaprepIdeal.nD Cert.MlaprepIdeal.τ).loc Cert.MlaprepIdeal.main_v0_1) = v1 c
          ∧ r.2.mem ((c.tc : Thread Cert.MlaprepIdeal.nD Cert.MlaprepIdeal.τ).loc Cert.MlaprepIdeal.main_v0_2) = v2 c
          ∧ r.2.mem ((c.tc : Thread Cert.MlaprepIdeal.nD Cert.MlaprepIdeal.τ).loc Cert.MlaprepIdeal.main_arg0) = m ((c.tc : Thread Cert.MlaprepIdeal.nD Cert.MlaprepIdeal.τ).loc Cert.MlaprepIdeal.main_arg0)
          ∧ r.2.mem ((c.tc : Thread Cert.MlaprepIdeal.nD Cert.MlaprepIdeal.τ).loc Cert.MlaprepIdeal.main_arg1) = m ((c.tc : Thread Cert.MlaprepIdeal.nD Cert.MlaprepIdeal.τ).loc Cert.MlaprepIdeal.main_arg1)
          ∧ r.2.mem ((c.tc : Thread Cert.MlaprepIdeal.nD Cert.MlaprepIdeal.τ).loc Cert.MlaprepIdeal.main_arg2) = m ((c.tc : Thread Cert.MlaprepIdeal.nD Cert.MlaprepIdeal.τ).loc Cert.MlaprepIdeal.main_arg2)
          ∧ r.2.mem ((c.tc : Thread Cert.MlaprepIdeal.nD Cert.MlaprepIdeal.τ).loc Cert.MlaprepIdeal.main_arg3) = m ((c.tc : Thread Cert.MlaprepIdeal.nD Cert.MlaprepIdeal.τ).loc Cert.MlaprepIdeal.main_arg3)
          ∧ r.2.mem ((c.tc : Thread Cert.MlaprepIdeal.nD Cert.MlaprepIdeal.τ).loc Cert.MlaprepIdeal.main_arg4) = m ((c.tc : Thread Cert.MlaprepIdeal.nD Cert.MlaprepIdeal.τ).loc Cert.MlaprepIdeal.main_arg4)
          ∧ r.2.mem ((c.tc : Thread Cert.MlaprepIdeal.nD Cert.MlaprepIdeal.τ).loc Cert.MlaprepIdeal.main_arg5) = m ((c.tc : Thread Cert.MlaprepIdeal.nD Cert.MlaprepIdeal.τ).loc Cert.MlaprepIdeal.main_arg5)
          ∧ r.2.mem ((c.tc : Thread Cert.MlaprepIdeal.nD Cert.MlaprepIdeal.τ).loc Cert.MlaprepIdeal.main_arg6) = m ((c.tc : Thread Cert.MlaprepIdeal.nD Cert.MlaprepIdeal.τ).loc Cert.MlaprepIdeal.main_arg6)
          ∧ r.2.mem ((c.tc : Thread Cert.MlaprepIdeal.nD Cert.MlaprepIdeal.τ).loc Cert.MlaprepIdeal.main_arg7) = m ((c.tc : Thread Cert.MlaprepIdeal.nD Cert.MlaprepIdeal.τ).loc Cert.MlaprepIdeal.main_arg7)
          ∧ r.2.mem ((c.tc : Thread Cert.MlaprepIdeal.nD Cert.MlaprepIdeal.τ).loc Cert.MlaprepIdeal.main_arg8) = m ((c.tc : Thread Cert.MlaprepIdeal.nD Cert.MlaprepIdeal.τ).loc Cert.MlaprepIdeal.main_arg8))
      ∧ θ_run (Cert.MlaprepReferenceIdeal.defs (F := Ideal)) (onTc (τ := Cert.MlaprepReferenceIdeal.τ) (Cert.MlaprepReferenceIdeal.main (F := Ideal))) ⟨m', fun _ => 0, g'⟩ (fun r => ∀ c : Dev Cert.MlaprepReferenceIdeal.nD,
          r.2.mem ((c.tc : Thread Cert.MlaprepReferenceIdeal.nD Cert.MlaprepReferenceIdeal.τ).loc Cert.MlaprepReferenceIdeal.main_v64) = v0 c
          ∧ r.2.mem ((c.tc : Thread Cert.MlaprepReferenceIdeal.nD Cert.MlaprepReferenceIdeal.τ).loc Cert.MlaprepReferenceIdeal.main_v66) = v1 c
          ∧ r.2.mem ((c.tc : Thread Cert.MlaprepReferenceIdeal.nD Cert.MlaprepReferenceIdeal.τ).loc Cert.MlaprepReferenceIdeal.main_v68) = v2 c
          ∧ r.2.mem ((c.tc : Thread Cert.MlaprepReferenceIdeal.nD Cert.MlaprepReferenceIdeal.τ).loc Cert.MlaprepReferenceIdeal.main_arg0) = m' ((c.tc : Thread Cert.MlaprepReferenceIdeal.nD Cert.MlaprepReferenceIdeal.τ).loc Cert.MlaprepReferenceIdeal.main_arg0)
          ∧ r.2.mem ((c.tc : Thread Cert.MlaprepReferenceIdeal.nD Cert.MlaprepReferenceIdeal.τ).loc Cert.MlaprepReferenceIdeal.main_arg1) = m' ((c.tc : Thread Cert.MlaprepReferenceIdeal.nD Cert.MlaprepReferenceIdeal.τ).loc Cert.MlaprepReferenceIdeal.main_arg1)
          ∧ r.2.mem ((c.tc : Thread Cert.MlaprepReferenceIdeal.nD Cert.MlaprepReferenceIdeal.τ).loc Cert.MlaprepReferenceIdeal.main_arg2) = m' ((c.tc : Thread Cert.MlaprepReferenceIdeal.nD Cert.MlaprepReferenceIdeal.τ).loc Cert.MlaprepReferenceIdeal.main_arg2)
          ∧ r.2.mem ((c.tc : Thread Cert.MlaprepReferenceIdeal.nD Cert.MlaprepReferenceIdeal.τ).loc Cert.MlaprepReferenceIdeal.main_arg3) = m' ((c.tc : Thread Cert.MlaprepReferenceIdeal.nD Cert.MlaprepReferenceIdeal.τ).loc Cert.MlaprepReferenceIdeal.main_arg3)
          ∧ r.2.mem ((c.tc : Thread Cert.MlaprepReferenceIdeal.nD Cert.MlaprepReferenceIdeal.τ).loc Cert.MlaprepReferenceIdeal.main_arg4) = m' ((c.tc : Thread Cert.MlaprepReferenceIdeal.nD Cert.MlaprepReferenceIdeal.τ).loc Cert.MlaprepReferenceIdeal.main_arg4)
          ∧ r.2.mem ((c.tc : Thread Cert.MlaprepReferenceIdeal.nD Cert.MlaprepReferenceIdeal.τ).loc Cert.MlaprepReferenceIdeal.main_arg5) = m' ((c.tc : Thread Cert.MlaprepReferenceIdeal.nD Cert.MlaprepReferenceIdeal.τ).loc Cert.MlaprepReferenceIdeal.main_arg5)
          ∧ r.2.mem ((c.tc : Thread Cert.MlaprepReferenceIdeal.nD Cert.MlaprepReferenceIdeal.τ).loc Cert.MlaprepReferenceIdeal.main_arg6) = m' ((c.tc : Thread Cert.MlaprepReferenceIdeal.nD Cert.MlaprepReferenceIdeal.τ).loc Cert.MlaprepReferenceIdeal.main_arg6)
          ∧ r.2.mem ((c.tc : Thread Cert.MlaprepReferenceIdeal.nD Cert.MlaprepReferenceIdeal.τ).loc Cert.MlaprepReferenceIdeal.main_arg7) = m' ((c.tc : Thread Cert.MlaprepReferenceIdeal.nD Cert.MlaprepReferenceIdeal.τ).loc Cert.MlaprepReferenceIdeal.main_arg7)
          ∧ r.2.mem ((c.tc : Thread Cert.MlaprepReferenceIdeal.nD Cert.MlaprepReferenceIdeal.τ).loc Cert.MlaprepReferenceIdeal.main_arg8) = m' ((c.tc : Thread Cert.MlaprepReferenceIdeal.nD Cert.MlaprepReferenceIdeal.τ).loc Cert.MlaprepReferenceIdeal.main_arg8))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)
      ∧ m' ((c.tc : Thread Cert.MemkvReferenceIdeal.nD Cert.MemkvReferenceIdeal.τ).loc Cert.MemkvReferenceIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v0_0)) (v1 : (c : Dev Cert.MemkvIdeal.nD) → Buf (Elt Ideal) ((c.tc : Thread Cert.MemkvIdeal.nD Cert.MemkvIdeal.τ).loc Cert.MemkvIdeal.main_v0_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v0_0) = v0 c
          ∧ r.2.mem ((c.tc : Thread Cert.MemkvIdeal.nD Cert.MemkvIdeal.τ).loc Cert.MemkvIdeal.main_v0_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v14) = v0 c
          ∧ r.2.mem ((c.tc : Thread Cert.MemkvReferenceIdeal.nD Cert.MemkvReferenceIdeal.τ).loc Cert.MemkvReferenceIdeal.main_v17) = v1 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2)
          ∧ r.2.mem ((c.tc : Thread Cert.MemkvReferenceIdeal.nD Cert.MemkvReferenceIdeal.τ).loc Cert.MemkvReferenceIdeal.main_arg3) = m' ((c.tc : Thread Cert.MemkvReferenceIdeal.nD Cert.MemkvReferenceIdeal.τ).loc Cert.MemkvReferenceIdeal.main_arg3))

def preserves_Experts_ExpertsIdeal : Prop :=
  True

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hXattn : Cert.Xattn.Facts) (hXattnIdeal : Cert.XattnIdeal.Facts) (hXattnReferenceIdeal : Cert.XattnReferenceIdeal.Facts) (hMlaprep : Cert.Mlaprep.Facts) (hMlaprepIdeal : Cert.MlaprepIdeal.Facts) (hMlaprepReferenceIdeal : Cert.MlaprepReferenceIdeal.Facts) (hMemkv : Cert.Memkv.Facts) (hMemkvIdeal : Cert.MemkvIdeal.Facts) (hMemkvReferenceIdeal : Cert.MemkvReferenceIdeal.Facts) (hExperts : Cert.Experts.Facts) (hExpertsIdeal : Cert.ExpertsIdeal.Facts) (hPre_finite_qk : Cert.Pre_finite_qk.Facts) (hPre_block_ranges : Cert.Pre_block_ranges.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Xattn (hXattn := hXattn)
    ∧ quiescent_XattnIdeal (hXattnIdeal := hXattnIdeal)
    ∧ quiescent_XattnReferenceIdeal (hXattnReferenceIdeal := hXattnReferenceIdeal)
    ∧ quiescent_Mlaprep (hMlaprep := hMlaprep)
    ∧ quiescent_MlaprepIdeal (hMlaprepIdeal := hMlaprepIdeal)
    ∧ quiescent_MlaprepReferenceIdeal (hMlaprepReferenceIdeal := hMlaprepReferenceIdeal)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_Experts (hExperts := hExperts) (hPre_block_ranges := hPre_block_ranges)
    ∧ quiescent_ExpertsIdeal (hExpertsIdeal := hExpertsIdeal) (hPre_block_ranges := hPre_block_ranges)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Inproj_InprojIdeal
    ∧ algebraic_InprojIdeal_InprojReferenceIdeal (hInprojIdeal := hInprojIdeal) (hInprojReferenceIdeal := hInprojReferenceIdeal)
    ∧ preserves_Merge_MergeIdeal
    ∧ algebraic_MergeIdeal_MergeReferenceIdeal (hMergeIdeal := hMergeIdeal) (hMergeReferenceIdeal := hMergeReferenceIdeal)
    ∧ preserves_Xattn_XattnIdeal
    ∧ algebraic_XattnIdeal_XattnReferenceIdeal (hXattnIdeal := hXattnIdeal) (hXattnReferenceIdeal := hXattnReferenceIdeal)
    ∧ preserves_Mlaprep_MlaprepIdeal
    ∧ algebraic_MlaprepIdeal_MlaprepReferenceIdeal (hMlaprepIdeal := hMlaprepIdeal) (hMlaprepReferenceIdeal := hMlaprepReferenceIdeal)
    ∧ preserves_Memkv_MemkvIdeal
    ∧ algebraic_MemkvIdeal_MemkvReferenceIdeal (hMemkvIdeal := hMemkvIdeal) (hMemkvReferenceIdeal := hMemkvReferenceIdeal)
    ∧ preserves_Experts_ExpertsIdeal
-- ==== Pre_block_ranges.lean ====
abbrev S96 : Shape := ⟨1, ![96]⟩
abbrev S786432x128 : Shape := ⟨2, ![786432, 128]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S96 : S_.BroadcastsInDim S96 (![] : Fin 0 → Fin S96.rank)

variable [Facts]

def fn {F : FTy → Type} [FloatOps F] (main_arg0 : IVec S96 32) (main_arg1 : IVec S96 32) (main_arg2 : IVec S96 32) (main_arg3 : IVec S786432x128 32) (main_arg4 : FVec F S32x2048x4096 .f32) (main_arg5 : FVec F S32x2048x4096 .f32) (main_arg6 : FVec F S32x1x4096 .f32) (main_arg7 : FVec F S32x1x4096 .f32) (main_arg8 : FVec F S32x2048x2048 .f32) (main_arg9 : FVec F S32x1x2048 .f32) : IVec S96 1 × IVec S96 1 × IVec S96 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 32#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 32 := constantI S_ 32 0#32
  let main_v5 : IVec S96 32 := broadcastInDim S96 ![] bcast_S_S96 main_c_1
  let main_v6 : IVec S96 1 := cmpi .sge main_arg1 main_v5
  let main_c_2 : IVec S_ 32 := constantI S_ 32 96#32
  let main_v7 : IVec S96 32 := broadcastInDim S96 ![] bcast_S_S96 main_c_2
  let main_v8 : IVec S96 1 := cmpi .slt main_arg1 main_v7
  let main_v9 : IVec S96 1 := andi main_v6 main_v8
  let main_c_3 : IVec S_ 32 := constantI S_ 32 0#32
  let main_v10 : IVec S96 32 := broadcastInDim S96 ![] bcast_S_S96 main_c_3
  let main_v11 : IVec S96 1 := cmpi .sge main_arg2 main_v10
  let main_c_4 : IVec S_ 32 := constantI S_ 32 1#32
  let main_v12 : IVec S96 32 := broadcastInDim S96 ![] bcast_S_S96 main_c_4
  let main_v13 : IVec S96 1 := cmpi .sle main_arg2 main_v12
  let main_v14 : IVec S96 1 := andi main_v11 main_v13
  (main_v4, main_v9, main_v14)
-- ==== Pre_finite_qk.lean ====
abbrev S16x16384x256 : Shape := ⟨3, ![16, 16384, 256]⟩
abbrev S16x16384x128 : Shape := ⟨3, ![16, 16384, 128]⟩
abbrev S_ : Shape := ⟨0, ![]⟩

class Facts : Prop where
  bcast_S_S16x16384x256 : S_.BroadcastsInDim S16x16384x256 (![] : Fin 0 → Fin S16x16384x256.rank)

variable [Facts]

def fn {F : FTy → Type} [FloatOps F] (main_arg0 : FVec F S16x16384x256 .bf16) (main_arg1 : FVec F S16x16384x256 .bf16) (main_arg2 : FVec F S16x16384x128 .bf16) : IVec S16x16384x256 1 × IVec S16x16384x256 1 :=
  let main_cst : FVec F S_ .bf16 := constant S_ .bf16 0x7F80#16
  let main_v0 : FVec F S16x16384x256 .bf16 := broadcastInDim S16x16384x256 ![] bcast_S_S16x16384x256 main_cst
  let main_v1 : IVec S16x16384x256 1 := cmpf .olt main_arg0 main_v0
  let main_cst_0 : FVec F S_ .bf16 := constant S_ .bf16 0xFF80#16
  let main_v2 : FVec F S16x16384x256 .bf16 := broadcastInDim S16x16384x256 ![] bcast_S_S16x16384x256 main_cst_0
  let main_v3 : IVec S16x16384x256 1 := cmpf .ogt main_arg0 main_v2
  let main_v4 : IVec S16x16384x256 1 := andi main_v1 main_v3
  let main_cst_1 : FVec F S_ .bf16 := constant S_ .bf16 0x7F80#16
  let main_v5 : FVec F S16x16384x256 .bf16 := broadcastInDim S16x16384x256 ![] bcast_S_S16x16384x256 main_cst_1
  let main_v6 : IVec S16x16384x256 1 := cmpf .olt main_arg1 main_v5
  let main_cst_2 : FVec F S_ .bf16 := constant S_ .bf16 0xFF80#16
  let main_v7 : FVec F S16x16384x256 .bf16 := broadcastInDim S16x16384x256 ![] bcast_S_S16x16384x256 main_cst_2
  let main_v8 : IVec S16x16384x256 1 := cmpf .ogt main_arg1 main_v7
  let main_v9 : IVec S16x16384x256 1 := andi main_v6 main_v8
  (main_v4, main_v9)
-- ==== Kernel.lean ====
abbrev S16x16384x256 : Shape := ⟨3, ![16, 16384, 256]⟩
abbrev S16x16384x128 : Shape := ⟨3, ![16, 16384, 128]⟩
abbrev S16384x2048 : Shape := ⟨2, ![16384, 2048]⟩
abbrev S1x512x256 : Shape := ⟨3, ![1, 512, 256]⟩
abbrev S1x16384x256 : Shape := ⟨3, ![1, 16384, 256]⟩
abbrev S1x16384x128 : Shape := ⟨3, ![1, 16384, 128]⟩
abbrev S512x128 : Shape := ⟨2, ![512, 128]⟩
abbrev S512x256 : Shape := ⟨2, ![512, 256]⟩
abbrev S512x1 : Shape := ⟨2, ![512, 1]⟩
abbrev S512x512 : Shape := ⟨2, ![512, 512]⟩
abbrev S512 : Shape := ⟨1, ![512]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S16x16384x256, .bf16⟩
  | .hbm, ⟨1, _⟩ => ⟨S16x16384x256, .bf16⟩
  | .hbm, ⟨2, _⟩ => ⟨S16x16384x128, .bf16⟩
  | .hbm, ⟨3, _⟩ => ⟨S16384x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x128, .bf16⟩
  | .local _ .vmem, ⟨5, _⟩ => ⟨S1x16384x128, .bf16⟩
  | .local _ .vmem, ⟨6, _⟩ => ⟨S512x128, .bf16⟩
  | .local _ .vmem, ⟨7, _⟩ => ⟨S512x128, .bf16⟩
  | _, _ => ⟨S16x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 32], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg6 : BitVec 32 := Scf.iv c0_i32 c1_i32_4 k0_t1
  let c512_i32_17 : BitVec 32 := 512#32
  let v47 : BitVec 32 := Scalar.muli arg6 c512_i32_17
  v47
def k0_off1 (i : grid0.Coords) (k0_t1 : Fin (k0_t1_loop i).trips) : Fin 3 → Nat :=
  let c0_18 : Index := 0#32
  let c0_i32 : BitVec 32 := 0#32
  let c1_i32_4 : BitVec 32 := 1#32
  let arg6 : BitVec 32 := Scf.iv c0_i32 c1_i32_4 k0_t1
  let c512_i32_17 : BitVec 32 := 512#32
  let v47 : BitVec 32 := Scalar.muli arg6 c512_i32_17
  let v48 : BitVec 32 := v47
  let v49 : Index := Scalar.indexCast v48
  let c0_19 : Index := 0#32
  ![0, v49.toNat, 0]
def k0_off2 (i : grid0.Coords) (k0_t1 : Fin (k0_t1_loop i).trips) : Fin 3 → Nat :=
  let c0_23 : Index := 0#32
  let c0_i32 : BitVec 32 := 0#32
  let c1_i32_4 : BitVec 32 := 1#32
  let arg6 : BitVec 32 := Scf.iv c0_i32 c1_i32_4 k0_t1
  let c512_i32_17 : BitVec 32 := 512#32
  let v47 : BitVec 32 := Scalar.muli arg6 c512_i32_17
  let v48 : BitVec 32 := v47
  let v68 : Index := Scalar.indexCast v48
  let c0_24 : Index := 0#32
  ![0, v68.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg6 : BitVec 32 := Scf.iv v9 c1_i32_5 k0_t2
  let c512_i32_17 : BitVec 32 := 512#32
  let v47 : BitVec 32 := Scalar.muli arg6 c512_i32_17
  v47
def k0_off3 (i : grid0.Coords) (k0_t2 : Fin (k0_t2_loop i).trips) : Fin 3 → Nat :=
  let c0_18 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg6 : BitVec 32 := Scf.iv v9 c1_i32_5 k0_t2
  let c512_i32_17 : BitVec 32 := 512#32
  let v47 : BitVec 32 := Scalar.muli arg6 c512_i32_17
  let v48 : BitVec 32 := v47
  let v49 : Index := Scalar.indexCast v48
  let c0_19 : Index := 0#32
  ![0, v49.toNat, 0]
def k0_off4 (i : grid0.Coords) (k0_t2 : Fin (k0_t2_loop i).trips) : Fin 3 → Nat :=
  let c0_23 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg6 : BitVec 32 := Scf.iv v9 c1_i32_5 k0_t2
  let c512_i32_17 : BitVec 32 := 512#32
  let v47 : BitVec 32 := Scalar.muli arg6 c512_i32_17
  let v48 : BitVec 32 := v47
  let v68 : Index := Scalar.indexCast v48
  let c0_24 : Index := 0#32
  ![0, v68.toNat, 0]
def k0_mult3 (i : grid0.Coords) : BitVec 32 :=
  let arg1 : BitVec 32 := BitVec.ofNat 32 (i 1).val
  let c512_i32 : BitVec 32 := 512#32
  let v12 : BitVec 32 := Scalar.muli arg1 c512_i32
  v12
def k0_off5 (i : grid0.Coords) : Fin 3 → Nat :=
  let c0_6 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_7 : Index := 0#32
  ![0, v14.toNat, 0]
def k0_off6 (i : grid0.Coords) : Fin 3 → Nat :=
  let c0_12 : Index := 0#32
  let arg1 : BitVec 32 := BitVec.ofNat 32 (i 1).val
  let c512_i32 : BitVec 32 := 512#32
  let v12 : BitVec 32 := Scalar.muli arg1 c512_i32
  let v13 : BitVec 32 := v12
  let v38 : Index := Scalar.indexCast v13
  let c0_13 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "minus_inf" => some ⊥
  | _ => none
-- ==== ReferenceIdeal.lean ====
abbrev S16x16384x256 : Shape := ⟨3, ![16, 16384, 256]⟩
abbrev S16x16384x128 : Shape := ⟨3, ![16, 16384, 128]⟩
abbrev S16x16384x16384 : Shape := ⟨3, ![16, 16384, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S16x16384 : Shape := ⟨2, ![16, 16384]⟩
abbrev S16x16384x1 : Shape := ⟨3, ![16, 16384, 1]⟩
abbrev S16x128x16384 : Shape := ⟨3, ![16, 128, 16384]⟩
abbrev S16384x16x128 : Shape := ⟨3, ![16384, 16, 128]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16x16384x256, .bf16⟩
  | .hbm, ⟨1, _⟩ => ⟨S16x16384x256, .bf16⟩
  | .hbm, ⟨2, _⟩ => ⟨S16x16384x128, .bf16⟩
  | .hbm, ⟨3, _⟩ => ⟨S16x16384x16384, .f32⟩
  | .hbm, ⟨4, _⟩ => ⟨S16384, .i32⟩
  | .hbm, ⟨5, _⟩ => ⟨S16384x1, .i32⟩
  | .hbm, ⟨6, _⟩ => ⟨S1x16384, .i32⟩
  | .hbm, ⟨7, _⟩ => ⟨S16384x16384, .i32⟩
  | .hbm, ⟨8, _⟩ => ⟨S16384x16384, .i32⟩
  | .hbm, ⟨9, _⟩ => ⟨S16384x16384, .i1⟩
  | .hbm, ⟨10, _⟩ => ⟨S_, .f32⟩
  | .hbm, ⟨11, _⟩ => ⟨S_, .f32⟩
  | .hbm, ⟨12, _⟩ => ⟨S16x16384x16384, .i1⟩
  | .hbm, ⟨13, _⟩ => ⟨S16x16384x16384, .f32⟩
  | .hbm, ⟨14, _⟩ => ⟨S16x16384x16384, .f32⟩
  | .hbm, ⟨15, _⟩ => ⟨S_, .f32⟩
  | .hbm, ⟨16, _⟩ => ⟨S16x16384, .f32⟩
  | .hbm, ⟨17, _⟩ => ⟨S_, .f32⟩
  | .hbm, ⟨18, _⟩ => ⟨S16x16384, .f32⟩
  | .hbm, ⟨19, _⟩ => ⟨S16x16384, .f32⟩
  | .hbm, ⟨20, _⟩ => ⟨S16x16384x1, .f32⟩
  | .hbm, ⟨21, _⟩ => ⟨S16x16384x16384, .f32⟩
  | .hbm, ⟨22, _⟩ => ⟨S16x16384x16384, .f32⟩
  | .hbm, ⟨23, _⟩ => ⟨S16x16384x16384, .f32⟩
  | .hbm, ⟨24, _⟩ => ⟨S_, .f32⟩
  | .hbm, ⟨25, _⟩ => ⟨S16x16384, .f32⟩
  | .hbm, ⟨26, _⟩ => ⟨S16x16384x1, .f32⟩
  | .hbm, ⟨27, _⟩ => ⟨S16x16384x16384, .f32⟩
  | .hbm, ⟨28, _⟩ => ⟨S16x16384x16384, .f32⟩
  | .hbm, ⟨29, _⟩ => ⟨S16x16384x16384, .bf16⟩
  | .hbm, ⟨30, _⟩ => ⟨S16x128x16384, .f32⟩
  | .hbm, ⟨31, _⟩ => ⟨S16384x16x128, .f32⟩
  | .hbm, ⟨32, _⟩ => ⟨S16384x16x128, .bf16⟩
  | .hbm, ⟨33, _⟩ => ⟨S16384x2048, .bf16⟩
  | _, _ => ⟨S16x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Inproj.lean ====
abbrev S16384x2048 : Shape := ⟨2, ![16384, 2048]⟩
abbrev S1x2048 : Shape := ⟨2, ![1, 2048]⟩
abbrev S2048x6400 : Shape := ⟨2, ![2048, 6400]⟩
abbrev S16384x1024 : Shape := ⟨2, ![16384, 1024]⟩
abbrev S16384x1280 : Shape := ⟨2, ![16384, 1280]⟩
abbrev S16384x4096 : Shape := ⟨2, ![16384, 4096]⟩
abbrev S512x2048 : Shape := ⟨2, ![512, 2048]⟩
abbrev S512x1024 : Shape := ⟨2, ![512, 1024]⟩
abbrev S512x1280 : Shape := ⟨2, ![512, 1280]⟩
abbrev S512x4096 : Shape := ⟨2, ![512, 4096]⟩
abbrev S512 : Shape := ⟨1, ![512]⟩
abbrev S512x1 : Shape := ⟨2, ![512, 1]⟩
abbrev S2048x1024 : Shape := ⟨2, ![2048, 1024]⟩
abbrev S2048x1280 : Shape := ⟨2, ![2048, 1280]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6400, .bf16⟩
  | .hbm, ⟨3, _⟩ => ⟨S16384x1024, .bf16⟩
  | .hbm, ⟨4, _⟩ => ⟨S16384x1280, .bf16⟩
  | .hbm, ⟨5, _⟩ => ⟨S16384x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x6400, .bf16⟩
  | .local _ .vmem, ⟨4, _⟩ => ⟨S512x1024, .bf16⟩
  | .local _ .vmem, ⟨5, _⟩ => ⟨S512x1024, .bf16⟩
  | .local _ .vmem, ⟨6, _⟩ => ⟨S512x1280, .bf16⟩
  | .local _ .vmem, ⟨7, _⟩ => ⟨S512x1280, .bf16⟩
  | .local _ .vmem, ⟨8, _⟩ => ⟨S512x4096, .bf16⟩
  | .local _ .vmem, ⟨9, _⟩ => ⟨S512x4096, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojReferenceIdeal.lean ====
abbrev S16384x2048 : Shape := ⟨2, ![16384, 2048]⟩
abbrev S1x2048 : Shape := ⟨2, ![1, 2048]⟩
abbrev S2048x6400 : Shape := ⟨2, ![2048, 6400]⟩
abbrev S_ : Shape := ⟨0, ![]⟩
abbrev S16384 : Shape := ⟨1, ![16384]⟩
abbrev S16384x1 : Shape := ⟨2, ![16384, 1]⟩
abbrev S16384x6400 : Shape := ⟨2, ![16384, 6400]⟩
abbrev S16384x1024 : Shape := ⟨2, ![16384, 1024]⟩
abbrev S16384x1280 : Shape := ⟨2, ![16384, 1280]⟩
abbrev S16384x4096 : Shape := ⟨2, ![16384, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6400, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x6400, .f32⟩
  | .hbm, ⟨19, _⟩ => ⟨S16384x6400, .f32⟩
  | .hbm, ⟨20, _⟩ => ⟨S16384x6400, .bf16⟩
  | .hbm, ⟨21, _⟩ => ⟨S16384x1024, .bf16⟩
  | .hbm, ⟨22, _⟩ => ⟨S16384x1280, .bf16⟩
  | .hbm, ⟨23, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Merge.lean ====
abbrev S16384x1024 : Shape := ⟨2, ![16384, 1024]⟩
abbrev S16384x2048 : Shape := ⟨2, ![16384, 2048]⟩
abbrev S16384x4096 : Shape := ⟨2, ![16384, 4096]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x4096, .bf16⟩
  | .hbm, ⟨3, _⟩ => ⟨S16384x2048, .f32⟩
  | .hbm, ⟨4, _⟩ => ⟨S1024x2048, .bf16⟩
  | .hbm, ⟨5, _⟩ => ⟨S2048x2048, .bf16⟩
  | .hbm, ⟨6, _⟩ => ⟨S2048x2048, .bf16⟩
  | .hbm, ⟨7, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S2048x2048, .bf16⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeReferenceIdeal.lean ====
abbrev S16384x1024 : Shape := ⟨2, ![16384, 1024]⟩
abbrev S16384x2048 : Shape := ⟨2, ![16384, 2048]⟩
abbrev S16384x4096 : Shape := ⟨2, ![16384, 4096]⟩
abbrev S1024x2048 : Shape := ⟨2, ![1024, 2048]⟩
abbrev S2048x2048 : Shape := ⟨2, ![2048, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x4096, .bf16⟩
  | .hbm, ⟨3, _⟩ => ⟨S16384x2048, .f32⟩
  | .hbm, ⟨4, _⟩ => ⟨S1024x2048, .bf16⟩
  | .hbm, ⟨5, _⟩ => ⟨S2048x2048, .bf16⟩
  | .hbm, ⟨6, _⟩ => ⟨S2048x2048, .bf16⟩
  | .hbm, ⟨7, _⟩ => ⟨S16384x1024, .f32⟩
  | .hbm, ⟨8, _⟩ => ⟨S16384x2048, .f32⟩
  | .hbm, ⟨9, _⟩ => ⟨S16384x4096, .f32⟩
  | .hbm, ⟨10, _⟩ => ⟨S1024x2048, .f32⟩
  | .hbm, ⟨11, _⟩ => ⟨S2048x2048, .f32⟩
  | .hbm, ⟨12, _⟩ => ⟨S2048x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Xattn.lean ====
abbrev S16384x2048 : Shape := ⟨2, ![16384, 2048]⟩
abbrev S1x2048 : Shape := ⟨2, ![1, 2048]⟩
abbrev S2048x512 : Shape := ⟨2, ![2048, 512]⟩
abbrev S256x512 : Shape := ⟨2, ![256, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x512, .bf16⟩
  | .hbm, ⟨3, _⟩ => ⟨S256x512, .bf16⟩
  | .hbm, ⟨4, _⟩ => ⟨S256x512, .bf16⟩
  | .hbm, ⟨5, _⟩ => ⟨S512x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S512x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== XattnReferenceIdeal.lean ====
abbrev S16384x2048 : Shape := ⟨2, ![16384, 2048]⟩
abbrev S1x2048 : Shape := ⟨2, ![1, 2048]⟩
abbrev S2048x512 : Shape := ⟨2, ![2048, 512]⟩
abbrev S256x512 : Shape := ⟨2, ![256, 512]⟩
abbrev S512x2048 : Shape := ⟨2, ![512, 2048]⟩
abbrev S_ : Shape := ⟨0, ![]⟩
abbrev S16384 : Shape := ⟨1, ![16384]⟩
abbrev S16384x1 : Shape := ⟨2, ![16384, 1]⟩
abbrev S16384x512 : Shape := ⟨2, ![16384, 512]⟩
abbrev S16384x4x128 : Shape := ⟨3, ![16384, 4, 128]⟩
abbrev S256x4x128 : Shape := ⟨3, ![256, 4, 128]⟩
abbrev S4x16384x256 : Shape := ⟨3, ![4, 16384, 256]⟩
abbrev S4x16384 : Shape := ⟨2, ![4, 16384]⟩
abbrev S4x16384x1 : Shape := ⟨3, ![4, 16384, 1]⟩
abbrev S4x128x16384 : Shape := ⟨3, ![4, 128, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x512, .bf16⟩
  | .hbm, ⟨3, _⟩ => ⟨S256x512, .bf16⟩
  | .hbm, ⟨4, _⟩ => ⟨S256x512, .bf16⟩
  | .hbm, ⟨5, _⟩ => ⟨S512x2048, .bf16⟩
  | .hbm, ⟨6, _⟩ => ⟨S2048x512, .f32⟩
  | .hbm, ⟨7, _⟩ => ⟨S256x512, .f32⟩
  | .hbm, ⟨8, _⟩ => ⟨S256x512, .f32⟩
  | .hbm, ⟨9, _⟩ => ⟨S512x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x512, .f32⟩
  | .hbm, ⟨26, _⟩ => ⟨S16384x4x128, .f32⟩
  | .hbm, ⟨27, _⟩ => ⟨S256x4x128, .f32⟩
  | .hbm, ⟨28, _⟩ => ⟨S256x4x128, .f32⟩
  | .hbm, ⟨29, _⟩ => ⟨S4x16384x256, .f32⟩
  | .hbm, ⟨30, _⟩ => ⟨S_, .f32⟩
  | .hbm, ⟨31, _⟩ => ⟨S4x16384, .f32⟩
  | .hbm, ⟨32, _⟩ => ⟨S_, .f32⟩
  | .hbm, ⟨33, _⟩ => ⟨S4x16384, .f32⟩
  | .hbm, ⟨34, _⟩ => ⟨S4x16384, .f32⟩
  | .hbm, ⟨35, _⟩ => ⟨S4x16384x1, .f32⟩
  | .hbm, ⟨36, _⟩ => ⟨S4x16384x256, .f32⟩
  | .hbm, ⟨37, _⟩ => ⟨S4x16384x256, .f32⟩
  | .hbm, ⟨38, _⟩ => ⟨S4x16384x256, .f32⟩
  | .hbm, ⟨39, _⟩ => ⟨S_, .f32⟩
  | .hbm, ⟨40, _⟩ => ⟨S4x16384, .f32⟩
  | .hbm, ⟨41, _⟩ => ⟨S4x16384x1, .f32⟩
  | .hbm, ⟨42, _⟩ => ⟨S4x16384x256, .f32⟩
  | .hbm, ⟨43, _⟩ => ⟨S4x16384x256, .f32⟩
  | .hbm, ⟨44, _⟩ => ⟨S4x128x16384, .f32⟩
  | .hbm, ⟨45, _⟩ => ⟨S16384x4x128, .f32⟩
  | .hbm, ⟨46, _⟩ => ⟨S16384x512, .f32⟩
  | .hbm, ⟨47, _⟩ => ⟨S16384x2048, .f32⟩
  | .hbm, ⟨48, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Mlaprep.lean ====
abbrev S16384x1280 : Shape := ⟨2, ![16384, 1280]⟩
abbrev S16384x1 : Shape := ⟨2, ![16384, 1]⟩
abbrev S1x128 : Shape := ⟨2, ![1, 128]⟩
abbrev S1x512 : Shape := ⟨2, ![1, 512]⟩
abbrev S512x4096 : Shape := ⟨2, ![512, 4096]⟩
abbrev S512x2048 : Shape := ⟨2, ![512, 2048]⟩
abbrev S16x16384x256 : Shape := ⟨3, ![16, 16384, 256]⟩
abbrev S16x16384x128 : Shape := ⟨3, ![16, 16384, 128]⟩
abbrev S256x1280 : Shape := ⟨2, ![256, 1280]⟩
abbrev S256x1 : Shape := ⟨2, ![256, 1]⟩
abbrev S16x256x256 : Shape := ⟨3, ![16, 256, 256]⟩
abbrev S16x256x128 : Shape := ⟨3, ![16, 256, 128]⟩
abbrev S256x128 : Shape := ⟨2, ![256, 128]⟩
abbrev S256x512 : Shape := ⟨2, ![256, 512]⟩
abbrev S256 : Shape := ⟨1, ![256]⟩
abbrev S256x4096 : Shape := ⟨2, ![256, 4096]⟩
abbrev S256x2048 : Shape := ⟨2, ![256, 2048]⟩
abbrev S1x256x128 : Shape := ⟨3, ![1, 256, 128]⟩

abbrev nBuf : Space → Nat
  | .hbm => 12
  | .vmem => 17
  | .smem => 0
  | _ => 0

abbrev bufTy : (tb : Table) → Fin (tcTables nBuf tb) → BufTy
  | .hbm, ⟨0, _⟩ => ⟨S16384x1280, .bf16⟩
  | .hbm, ⟨1, _⟩ => ⟨S16384x1, .i32⟩
  | .hbm, ⟨2, _⟩ => ⟨S1x128, .f32⟩
  | .hbm, ⟨3, _⟩ => ⟨S1x512, .f32⟩
  | .hbm, ⟨4, _⟩ => ⟨S1x512, .f32⟩
  | .hbm, ⟨5, _⟩ => ⟨S512x4096, .bf16⟩
  | .hbm, ⟨6, _⟩ => ⟨S512x2048, .bf16⟩
  | .hbm, ⟨7, _⟩ => ⟨S512x2048, .bf16⟩
  | .hbm, ⟨8, _⟩ => ⟨S512x2048, .bf16⟩
  | .hbm, ⟨9, _⟩ => ⟨S16x16384x256, .bf16⟩
  | .hbm, ⟨10, _⟩ => ⟨S16x16384x256, .bf16⟩
  | .hbm, ⟨11, _⟩ => ⟨S16x16384x128, .bf16⟩
  | .local _ .vmem, ⟨0, _⟩ => ⟨S256x1280, .bf16⟩
  | .local _ .vmem, ⟨1, _⟩ => ⟨S256x1280, .bf16⟩
  | .local _ .vmem, ⟨2, _⟩ => ⟨S256x1, .i32⟩
  | .local _ .vmem, ⟨3, _⟩ => ⟨S256x1, .i32⟩
  | .local _ .vmem, ⟨4, _⟩ => ⟨S1x128, .f32⟩
  | .local _ .vmem, ⟨5, _⟩ => ⟨S1x512, .f32⟩
  | .local _ .vmem, ⟨6, _⟩ => ⟨S1x512, .f32⟩
  | .local _ .vmem, ⟨7, _⟩ => ⟨S512x4096, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S16x256x256, .bf16⟩
  | .local _ .vmem, ⟨12, _⟩ => ⟨S16x256x256, .bf16⟩
  | .local _ .vmem, ⟨13, _⟩ => ⟨S16x256x256, .bf16⟩
  | .local _ .vmem, ⟨14, _⟩ => ⟨S16x256x256, .bf16⟩
  | .local _ .vmem, ⟨15, _⟩ => ⟨S16x256x128, .bf16⟩
  | .local _ .vmem, ⟨16, _⟩ => ⟨S16x256x128, .bf16⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MlaprepReferenceIdeal.lean ====
abbrev S16384x1280 : Shape := ⟨2, ![16384, 1280]⟩
abbrev S16384x1 : Shape := ⟨2, ![16384, 1]⟩
abbrev S1x128 : Shape := ⟨2, ![1, 128]⟩
abbrev S1x512 : Shape := ⟨2, ![1, 512]⟩
abbrev S512x4096 : Shape := ⟨2, ![512, 4096]⟩
abbrev S512x2048 : Shape := ⟨2, ![512, 2048]⟩
abbrev S16384x512 : Shape := ⟨2, ![16384, 512]⟩
abbrev S16384x128 : Shape := ⟨2, ![16384, 128]⟩
abbrev S_ : Shape := ⟨0, ![]⟩
abbrev S16384 : Shape := ⟨1, ![16384]⟩
abbrev S16384x4096 : Shape := ⟨2, ![16384, 4096]⟩
abbrev S16384x16x256 : Shape := ⟨3, ![16384, 16, 256]⟩
abbrev S16384x2048 : Shape := ⟨2, ![16384, 2048]⟩
abbrev S16384x16x128 : Shape := ⟨3, ![16384, 16, 128]⟩
abbrev S16384x1x128 : Shape := ⟨3, ![16384, 1, 128]⟩
abbrev S16x16384x256 : Shape := ⟨3, ![16, 16384, 256]⟩
abbrev S16x16384x128 : Shape := ⟨3, ![16, 16384, 128]⟩

abbrev nBuf : Space → Nat
  | .hbm => 84
  | .vmem => 0
  | .smem => 0
  | _ => 0

abbrev bufTy : (tb : Table) → Fin (tcTables nBuf tb) → BufTy
  | .hbm, ⟨0, _⟩ => ⟨S16384x1280, .bf16⟩
  | .hbm, ⟨1, _⟩ => ⟨S16384x1, .i32⟩
  | .hbm, ⟨2, _⟩ => ⟨S1x128, .f32⟩
  | .hbm, ⟨3, _⟩ => ⟨S1x512, .f32⟩
  | .hbm, ⟨4, _⟩ => ⟨S1x512, .f32⟩
  | .hbm, ⟨5, _⟩ => ⟨S512x4096, .bf16⟩
  | .hbm, ⟨6, _⟩ => ⟨S512x2048, .bf16⟩
  | .hbm, ⟨7, _⟩ => ⟨S512x2048, .bf16⟩
  | .hbm, ⟨8, _⟩ => ⟨S512x2048, .bf16⟩
  | .hbm, ⟨9, _⟩ => ⟨S16384x1280, .f32⟩
  | .hbm, ⟨10, _⟩ => ⟨S512x4096, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S16384x512, .f32⟩
  | .hbm, ⟨15, _⟩ => ⟨S16384x512, .f32⟩
  | .hbm, ⟨16, _⟩ => ⟨S16384x128, .f32⟩
  | .hbm, ⟨17, _⟩ => ⟨S16384x128, .f32⟩
  | .hbm, ⟨18, _⟩ => ⟨S16384x512, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x1, .f32⟩
  | .hbm, ⟨49, _⟩ => ⟨S16384x128, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S16384x4096, .f32⟩
  | .hbm, ⟨55, _⟩ => ⟨S16384x16x256, .f32⟩
  | .hbm, ⟨56, _⟩ => ⟨S16384x2048, .f32⟩
  | .hbm, ⟨57, _⟩ => ⟨S16384x16x128, .f32⟩
  | .hbm, ⟨58, _⟩ => ⟨S16384x16x128, .f32⟩
  | .hbm, ⟨59, _⟩ => ⟨S16384x1x128, .f32⟩
  | .hbm, ⟨60, _⟩ => ⟨S16384x16x128, .f32⟩
  | .hbm, ⟨61, _⟩ => ⟨S16384x16x128, .f32⟩
  | .hbm, ⟨62, _⟩ => ⟨S16384x1x128, .f32⟩
  | .hbm, ⟨63, _⟩ => ⟨S16384x16x128, .f32⟩
  | .hbm, ⟨64, _⟩ => ⟨S16384x16x128, .f32⟩
  | .hbm, ⟨65, _⟩ => ⟨S16384x16x128, .f32⟩
  | .hbm, ⟨66, _⟩ => ⟨S16384x16x128, .f32⟩
  | .hbm, ⟨67, _⟩ => ⟨S16384x16x256, .f32⟩
  | .hbm, ⟨68, _⟩ => ⟨S16384x2048, .f32⟩
  | .hbm, ⟨69, _⟩ => ⟨S16384x16x128, .f32⟩
  | .hbm, ⟨70, _⟩ => ⟨S16384x128, .f32⟩
  | .hbm, ⟨71, _⟩ => ⟨S16384x128, .f32⟩
  | .hbm, ⟨72, _⟩ => ⟨S16384x128, .f32⟩
  | .hbm, ⟨73, _⟩ => ⟨S16384x1x128, .f32⟩
  | .hbm, ⟨74, _⟩ => ⟨S16384x16x128, .f32⟩
  | .hbm, ⟨75, _⟩ => ⟨S16384x16x256, .f32⟩
  | .hbm, ⟨76, _⟩ => ⟨S16384x2048, .f32⟩
  | .hbm, ⟨77, _⟩ => ⟨S16384x16x128, .f32⟩
  | .hbm, ⟨78, _⟩ => ⟨S16x16384x256, .f32⟩
  | .hbm, ⟨79, _⟩ => ⟨S16x16384x256, .bf16⟩
  | .hbm, ⟨80, _⟩ => ⟨S16x16384x256, .f32⟩
  | .hbm, ⟨81, _⟩ => ⟨S16x16384x256, .bf16⟩
  | .hbm, ⟨82, _⟩ => ⟨S16x16384x128, .f32⟩
  | .hbm, ⟨83, _⟩ => ⟨S16x16384x128, .bf16⟩
  | _, _ => ⟨S16384x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩

abbrev nD : Nat := 1
abbrev τ : Topo := Topo.v7x

variable {F : FTy → Type} [FloatOps F]
-- ==== Memkv.lean ====
abbrev S256x2048 : Shape := ⟨2, ![256, 2048]⟩
abbrev S1x2048 : Shape := ⟨2, ![1, 2048]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x512, .bf16⟩
  | .hbm, ⟨3, _⟩ => ⟨S2048x512, .bf16⟩
  | .hbm, ⟨4, _⟩ => ⟨S256x512, .bf16⟩
  | .hbm, ⟨5, _⟩ => ⟨S256x512, .bf16⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemkvReferenceIdeal.lean ====
abbrev S256x2048 : Shape := ⟨2, ![256, 2048]⟩
abbrev S1x2048 : Shape := ⟨2, ![1, 2048]⟩
abbrev S2048x512 : Shape := ⟨2, ![2048, 512]⟩
abbrev S_ : Shape := ⟨0, ![]⟩
abbrev S256 : Shape := ⟨1, ![256]⟩
abbrev S256x1 : Shape := ⟨2, ![256, 1]⟩
abbrev S256x512 : Shape := ⟨2, ![256, 512]⟩

abbrev nBuf : Space → Nat
  | .hbm => 25
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x512, .bf16⟩
  | .hbm, ⟨3, _⟩ => ⟨S2048x512, .bf16⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S2048x512, .f32⟩
  | .hbm, ⟨20, _⟩ => ⟨S256x512, .f32⟩
  | .hbm, ⟨21, _⟩ => ⟨S256x512, .bf16⟩
  | .hbm, ⟨22, _⟩ => ⟨S2048x512, .f32⟩
  | .hbm, ⟨23, _⟩ => ⟨S256x512, .f32⟩
  | .hbm, ⟨24, _⟩ => ⟨S256x512, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Experts.lean ====
abbrev S96 : Shape := ⟨1, ![96]⟩
abbrev S786432x128 : Shape := ⟨2, ![786432, 128]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S1572864x128 : Shape := ⟨2, ![1572864, 128]⟩
abbrev S8192x128 : Shape := ⟨2, ![8192, 128]⟩
abbrev S1 : Shape := ⟨1, ![1]⟩
abbrev S1x2048x256 : Shape := ⟨3, ![1, 2048, 256]⟩
abbrev S1x1x256 : Shape := ⟨3, ![1, 1, 256]⟩
abbrev S1x256x2048 : Shape := ⟨3, ![1, 256, 2048]⟩
abbrev S1x1x2048 : Shape := ⟨3, ![1, 1, 2048]⟩
abbrev S16384x128 : Shape := ⟨2, ![16384, 128]⟩
abbrev S1024x2048 : Shape := ⟨2, ![1024, 2048]⟩
abbrev S1024x128 : Shape := ⟨2, ![1024, 128]⟩
abbrev S2048x256 : Shape := ⟨2, ![2048, 256]⟩
abbrev S1024x256 : Shape := ⟨2, ![1024, 256]⟩
abbrev S1x256 : Shape := ⟨2, ![1, 256]⟩
abbrev S256x2048 : Shape := ⟨2, ![256, 2048]⟩
abbrev S256x512 : Shape := ⟨2, ![256, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 18
  | .smem => 3
  | _ => 0

abbrev bufTy : (tb : Table) → Fin (tcTables nBuf tb) → BufTy
  | .hbm, ⟨0, _⟩ => ⟨S786432x128, .i32⟩
  | .hbm, ⟨1, _⟩ => ⟨S32x2048x4096, .f32⟩
  | .hbm, ⟨2, _⟩ => ⟨S32x2048x4096, .f32⟩
  | .hbm, ⟨3, _⟩ => ⟨S32x1x4096, .f32⟩
  | .hbm, ⟨4, _⟩ => ⟨S32x1x4096, .f32⟩
  | .hbm, ⟨5, _⟩ => ⟨S32x2048x2048, .f32⟩
  | .hbm, ⟨6, _⟩ => ⟨S32x1x2048, .f32⟩
  | .hbm, ⟨7, _⟩ => ⟨S1572864x128, .f32⟩
  | .local _ .vmem, ⟨0, _⟩ => ⟨S8192x128, .i32⟩
  | .local _ .vmem, ⟨1, _⟩ => ⟨S8192x128, .i32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x256x2048, .f32⟩
  | .local _ .vmem, ⟨11, _⟩ => ⟨S1x256x2048, .f32⟩
  | .local _ .vmem, ⟨12, _⟩ => ⟨S1x1x2048, .f32⟩
  | .local _ .vmem, ⟨13, _⟩ => ⟨S1x1x2048, .f32⟩
  | .local _ .vmem, ⟨14, _⟩ => ⟨S16384x128, .f32⟩
  | .local _ .vmem, ⟨15, _⟩ => ⟨S16384x128, .f32⟩
  | .local _ .vmem, ⟨16, _⟩ => ⟨S1024x2048, .bf16⟩
  | .local _ .vmem, ⟨17, _⟩ => ⟨S1024x2048, .f32⟩
  | .local _ .smem, ⟨0, _⟩ => ⟨S96, .i32⟩
  | .local _ .smem, ⟨1, _⟩ => ⟨S96, .i32⟩
  | .local _ .smem, ⟨2, _⟩ => ⟨S96, .i32⟩
  | _, _ => ⟨S786432x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![96, 8], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond11 (i : grid0.Coords) : BitVec 1 :=
  let arg1 : BitVec 32 := BitVec.ofNat 32 (i 1).val
  let c7_i32_46 : BitVec 32 := 7#32
  let v81 : BitVec 1 := Scalar.cmpi .eq arg1 c7_i32_46
  let v82 : BitVec 32 := Scalar.extui v81
  let c0_i32_47 : BitVec 32 := 0#32
  let v83 : BitVec 1 := Scalar.cmpi .ne v82 c0_i32_47
  v83

def k0_cond12 (i : grid0.Coords) (v6 : BitVec 32) : BitVec 1 :=
  let c0_i32_0 : BitVec 32 := 0#32
  let v7 : BitVec 1 := Scalar.cmpi .eq v6 c0_i32_0
  let arg1 : BitVec 32 := BitVec.ofNat 32 (i 1).val
  let c7_i32 : BitVec 32 := 7#32
  let v8 : BitVec 1 := Scalar.cmpi .eq arg1 c7_i32
  let v9 : BitVec 1 := Scalar.andi v7 v8
  let v10 : BitVec 32 := Scalar.extui v9
  let c0_i32_1 : BitVec 32 := 0#32
  let v11 : BitVec 1 := Scalar.cmpi .ne v10 c0_i32_1
  v11

def cc0_transform_0 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S96) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c8_i32 : BitVec 32 := 8#32
  let v2 : BitVec 32 := Scalar.addi arg1 c8_i32
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c8_i32 : BitVec 32 := 8#32
  let v2 : BitVec 32 := Scalar.addi arg1 c8_i32
  let c0_i32 : BitVec 32 := 0#32
  let c0_i32_0 : BitVec 32 := 0#32
  ![v1.toNat, c0_i32.toNat, v2.toNat]

def cc0_transform_5 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, arg1.toNat, c0_i32.toNat]

def cc0_transform_6 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Proof.Softmax.lean ====
/- The softmax-weighted mean of a row of scores over the extended reals, and how it is accumulated over one run of keys
   after another: a running maximum, a running sum of weights and a running weighted sum, both rescaled whenever the
   maximum grows. Keys are natural numbers; a row is a function of the key. -/
module

public import Idealize.ShloMosaic.PureOps.Ideal.Laws

@[expose] public section

noncomputable section

namespace Cert.Attn

open Idealize.ShloMosaic

/-- The weight of a score `s` against a maximum `m`. -/
def wt (s m : EReal) : EReal := Ideal.exp (s - m)

theorem exp_bot : Ideal.exp ⊥ = 0 := rfl

theorem exp_coe (r : ℝ) : Ideal.exp (r : EReal) = ((Real.exp r : ℝ) : EReal) := rfl

/-- A score of minus infinity has no weight. -/
theorem wt_bot (m : EReal) : wt ⊥ m = 0 := by
  rw [wt, EReal.bot_sub, exp_bot]

theorem wt_top (s : EReal) : wt s ⊤ = 0 := by
  have h : s - ⊤ = ⊥ := by rw [sub_eq_add_neg, EReal.neg_top, EReal.add_bot]
  rw [wt, h, exp_bot]

theorem wt_coe (a b : ℝ) : wt (a : EReal) (b : EReal) = ((Real.exp (a - b) : ℝ) : EReal) := by
  rw [wt, ← EReal.coe_sub, exp_coe]

/-- Against a maximum at least the score, a weight is a nonnegative real number. -/
theorem wt_real {s m : EReal} (h : s ≤ m) : ∃ r : ℝ, 0 ≤ r ∧ wt s m = (r : EReal) := by
  induction s with
  | bot => exact ⟨0, le_rfl, by rw [wt_bot]; rfl⟩
  | top => rw [top_le_iff.mp h]; exact ⟨0, le_rfl, by rw [wt_top]; rfl⟩
  | coe a =>
    induction m with
    | bot => exact absurd (le_bot_iff.mp h) (EReal.coe_ne_bot a)
    | top => exact ⟨0, le_rfl, by rw [wt_top]; rfl⟩
    | coe b => exact ⟨Real.exp (a - b), (Real.exp_pos _).le, wt_coe a b⟩

/-- Moving a weight from the maximum `m` to a greater one `m'` is a multiplication by the weight of `m`. -/
theorem wt_mul {s m m' : EReal} (h : s ≤ m) (h' : m ≤ m') : wt m m' * wt s m = wt s m' := by
  induction m' with
  | top => rw [wt_top, wt_top, zero_mul]
  | bot =>
    have hm : m = ⊥ := le_bot_iff.mp h'
    subst hm
    rw [le_bot_iff.mp h, wt_bot, zero_mul]
  | coe c =>
    induction m with
    | top => exact absurd (top_le_iff.mp h') (EReal.coe_ne_top c)
    | bot => rw [le_bot_iff.mp h, wt_bot, wt_bot, mul_zero]
    | coe b =>
      induction s with
      | top => exact absurd (top_le_iff.mp h) (EReal.coe_ne_top b)
      | bot => rw [wt_bot, wt_bot, mul_zero]
      | coe a =>
        rw [wt_coe, wt_coe, wt_coe, ← EReal.coe_mul, ← Real.exp_add]
        congr 2; ring

/-- Multiplication by a nonnegative real number goes through a sum, whatever its terms. -/
theorem real_mul_sum {ι : Type*} (t : Finset ι) (r : ℝ) (hr : 0 ≤ r) (f : ι → EReal) :
    (r : EReal) * ∑ i ∈ t, f i = ∑ i ∈ t, (r : EReal) * f i := by
  classical
  induction t using Finset.induction_on with
  | empty => simp
  | insert a t ha ih =>
    rw [Finset.sum_insert ha, Finset.sum_insert ha, ← ih]
    exact EReal.left_distrib_of_nonneg_of_ne_top (EReal.coe_nonneg.mpr hr) (EReal.coe_ne_top r) _ _

/-- A sum of real numbers, taken over the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

variable (s : ℕ → EReal) (v : ℕ → EReal)

/-- The greatest score of the first `n` keys (minus infinity before the first). -/
def top (n : ℕ) : EReal := (Finset.range n).sup s

/-- The sum of the weights of the first `n` keys. -/
def den (n : ℕ) : EReal := ∑ j ∈ Finset.range n, wt (s j) (top s n)

/-- The weighted sum of `v` over the first `n` keys. -/
def num (n : ℕ) : EReal := ∑ j ∈ Finset.range n, wt (s j) (top s n) * v j

theorem top_zero : top s 0 = ⊥ := rfl
theorem den_zero : den s 0 = 0 := rfl
theorem num_zero : num s v 0 = 0 := rfl

theorem le_top_of_lt {n j : ℕ} (h : j < n) : s j ≤ top s n :=
  Finset.le_sup (f := s) (Finset.mem_range.mpr h)

theorem top_mono {n m : ℕ} (h : n ≤ m) : top s n ≤ top s m :=
  Finset.sup_mono (Finset.range_mono h)

/-- A further run of `b` keys: the maximum grows by the run's own. -/
theorem top_add (n b : ℕ) : top s (n + b) = max (top s n) ((Finset.range b).sup fun j => s (n + j)) := by
  apply le_antisymm
  · refine Finset.sup_le fun j hj => ?_
    rcases lt_or_ge j n with h | h
    · exact le_max_of_le_left (le_top_of_lt s h)
    · refine le_max_of_le_right ?_
      have hb : j - n ∈ Finset.range b := Finset.mem_range.mpr (by have := Finset.mem_range.mp hj; omega)
      have := Finset.le_sup (f := fun j => s (n + j)) hb
      rwa [show n + (j - n) = j by omega] at this
  · refine max_le (top_mono s (Nat.le_add_right n b)) (Finset.sup_le fun j hj => ?_)
    exact le_top_of_lt s (by have := Finset.mem_range.mp hj; omega)

/-- The sum of weights after a further run: the old one rescaled, plus the run's weights. -/
theorem den_add (n b : ℕ) : den s (n + b)
    = wt (top s n) (top s (n + b)) * den s n + ∑ j ∈ Finset.range b, wt (s (n + j)) (top s (n + b)) := by
  have hm := top_mono s (Nat.le_add_right n b)
  obtain ⟨r, hr, e⟩ := wt_real hm
  rw [den, den, Finset.sum_range_add, e, real_mul_sum _ r hr]
  congr 1
  refine Finset.sum_congr rfl fun j hj => ?_
  rw [← e, wt_mul (le_top_of_lt s (Finset.mem_range.mp hj)) hm]

/-- The weighted sum after a further run: the old one rescaled, plus the run's own. -/
theorem num_add (n b : ℕ) : num s v (n + b)
    = wt (top s n) (top s (n + b)) * num s v n + ∑ j ∈ Finset.range b, wt (s (n + j)) (top s (n + b)) * v (n + j) := by
  have hm := top_mono s (Nat.le_add_right n b)
  obtain ⟨r, hr, e⟩ := wt_real hm
  rw [num, num, Finset.sum_range_add, e, real_mul_sum _ r hr]
  congr 1
  refine Finset.sum_congr rfl fun j hj => ?_
  rw [← mul_assoc, ← e, wt_mul (le_top_of_lt s (Finset.mem_range.mp hj)) hm]

/-- Keys of score minus infinity beyond the first `n` change none of the three. -/
theorem top_of_bot {n m : ℕ} (h : n ≤ m) (hb : ∀ j, n ≤ j → j < m → s j = ⊥) : top s m = top s n := by
  refine le_antisymm (Finset.sup_le fun j hj => ?_) (top_mono s h)
  rcases lt_or_ge j n with h' | h'
  · exact le_top_of_lt s h'
  · rw [hb j h' (Finset.mem_range.mp hj)]; exact bot_le

theorem den_of_bot {n m : ℕ} (h : n ≤ m) (hb : ∀ j, n ≤ j → j < m → s j = ⊥) : den s m = den s n := by
  rw [den, den, top_of_bot s h hb]
  refine (Finset.sum_subset (Finset.range_mono h) fun j hj hj' => ?_).symm
  rw [hb j (by simpa using hj') (Finset.mem_range.mp hj), wt_bot]

theorem num_of_bot {n m : ℕ} (h : n ≤ m) (hb : ∀ j, n ≤ j → j < m → s j = ⊥) : num s v m = num s v n := by
  rw [num, num, top_of_bot s h hb]
  refine (Finset.sum_subset (Finset.range_mono h) fun j hj hj' => ?_).symm
  rw [hb j (by simpa using hj') (Finset.mem_range.mp hj), wt_bot, zero_mul]

/-- Where no score is plus infinity and one is finite, the sum of the weights is a positive real number. -/
theorem den_pos {n : ℕ} (ht : ∀ j, j < n → s j ≠ ⊤) {i : ℕ} (hi : i < n) (hf : s i ≠ ⊥) :
    ∃ r : ℝ, 0 < r ∧ den s n = (r : EReal) := by
  have hreal : ∀ j, j < n → ∃ r : ℝ, 0 ≤ r ∧ wt (s j) (top s n) = (r : EReal) := fun j hj => wt_real (le_top_of_lt s hj)
  choose! r hr hr' using hreal
  have hsum : den s n = ((∑ j ∈ Finset.range n, r j : ℝ) : EReal) := by
    rw [den, coe_sum]
    exact Finset.sum_congr rfl fun j hj => hr' j (Finset.mem_range.mp hj)
  refine ⟨_, ?_, hsum⟩
  refine Finset.sum_pos' (fun j hj => hr j (Finset.mem_range.mp hj)) ⟨i, Finset.mem_range.mpr hi, ?_⟩
  -- the maximum is a real number, so the finite score's weight is positive
  have hM : top s n ≠ ⊤ := by
    refine ne_of_lt ((Finset.sup_lt_iff bot_lt_top).mpr fun j hj => ?_)
    exact lt_top_iff_ne_top.mpr (ht j (Finset.mem_range.mp hj))
  have hM' : top s n ≠ ⊥ := fun h => hf (le_bot_iff.mp (h ▸ le_top_of_lt s hi))
  have h1 := hr' i hi
  lift s i to ℝ using ⟨ht i hi, hf⟩ with a ha
  lift top s n to ℝ using ⟨hM, hM'⟩ with b hb
  rw [wt_coe] at h1
  rw [← EReal.coe_eq_coe_iff.mp h1]
  exact Real.exp_pos _

/-- The mean read two ways: the weighted sum divided by the sum of the weights, and the sum of `v` against the
    normalized weights. -/
theorem mean_eq {n : ℕ} {r : ℝ} (hr : 0 < r) (hd : den s n = (r : EReal)) :
    Ideal.div (num s v n) (den s n)
      = ∑ j ∈ Finset.range n, v j * Ideal.div (wt (s j) (top s n)) (den s n) := by
  have h0 : den s n ≠ 0 := by rw [hd]; exact EReal.coe_ne_zero.mpr hr.ne'
  have hi : (den s n)⁻¹ = ((r⁻¹ : ℝ) : EReal) := by rw [hd, EReal.coe_inv]
  have hdiv : ∀ x : EReal, Ideal.div x (den s n) = ((r⁻¹ : ℝ) : EReal) * x := fun x => by
    rw [Ideal.div, if_neg h0, hi, mul_comm]
  simp only [hdiv]
  rw [num, real_mul_sum _ _ (inv_pos.mpr hr).le]
  refine Finset.sum_congr rfl fun j _ => ?_
  rw [mul_comm (v j), mul_assoc]

end Cert.Attn

end
-- ==== Proof.Steps.lean ====
/-
One block step of the attention kernel, read row by row.

The kernel walks over blocks of 512 keys. Each step takes the running maximum, the running weight
and the running weighted sum of a query row, and returns them for 512 more keys. Here the values a
step computes are read at one entry, and each step is shown to carry the quantities `top`, `den` and
`num` of the row's scores from `n` keys to `n + 512`.
-/
module

public import proofs.«01_k».proof.Proof.Softmax
public import proofs.«01_k».proof.Proof.Gen.KernelIdeal.Skeleton
public import Idealize.ShloMosaic.Lib.Pointwise

@[expose] public section

noncomputable section

namespace Cert.Attn

open Idealize.ShloMosaic Cert.KernelIdeal Cert.KernelIdeal.Gen

/-- A block of 512 rows of queries or keys of one head. -/
abbrev QK := Vec Ideal S1x512x256 .bf16
/-- A block of 512 rows of values of one head. -/
abbrev VB := Vec Ideal S1x512x128 .bf16

/-- The accumulator's starting bits for a maximum are minus infinity. -/
theorem neg_inf_bits : Ideal.ofBits .f32 0xFF800000#32 = ⊥ := by simp [Ideal.ofBits, Ideal.ieee]

/-- A maximum taken entry after entry over `Fin n` is the supremum over the first `n` numbers. -/
theorem fold_max_range (n : ℕ) (f : ℕ → EReal) :
    (Finset.univ : Finset (Fin n)).fold max ⊥ (fun j : Fin n => f j.val) = (Finset.range n).sup f := by
  refine le_antisymm ?_ ?_
  · rw [Finset.fold_max_le]
    exact ⟨bot_le, fun j _ => Finset.le_sup (f := f) (Finset.mem_range.2 j.isLt)⟩
  · refine Finset.sup_le fun j hj => ?_
    rw [Finset.le_fold_max]
    exact Or.inr ⟨⟨j, Finset.mem_range.1 hj⟩, Finset.mem_univ _, le_rfl⟩

/-- The signed comparison of two small row numbers is the comparison of the numbers. -/
theorem sge_small {a b : ℕ} (ha : a < 2 ^ 31) (hb : b < 2 ^ 31) :
    IntOp.cmpi CmpIPredicate.sge (BitVec.ofNat 32 a) (BitVec.ofNat 32 b) = if b ≤ a then 1#1 else 0#1 := by
  have e : ∀ c : ℕ, c < 2 ^ 31 → (BitVec.ofNat 32 c).toInt = c := fun c hc => by
    rw [BitVec.toInt_eq_toNat_cond, BitVec.toNat_ofNat, Nat.mod_eq_of_lt (by omega), if_pos (by omega)]
  by_cases h : b ≤ a <;> simp [IntOp.cmpi, BitVec.sle, e a ha, e b hb, h]

/-! ### The values of an unmasked step at one entry -/

/-- A block of scores: the products of a query row with the key rows. -/
theorem scores_apply (q k : QK) (a j : Fin 512) :
    k0_pay6 (F := Ideal) q k (ix2 a j) = ∑ d : Fin 256, q (ix3 0 a d) * k (ix3 0 j d) := by
  pointwise [k0_pay6, k0_pay2]

/-- The new maximum is the old one against the block's. -/
theorem max_apply (q k : QK) (m : FVec Ideal S512x1 .f32) (a : Fin 512) :
    k0_pay7 (F := Ideal) q m k (ix2 a 0)
      = max (m (ix2 a 0)) (Finset.univ.fold max ⊥ fun j : Fin 512 => k0_pay6 (F := Ideal) q k (ix2 a j)) := by
  rw [← neg_inf_bits]
  pointwise [k0_pay7]

/-- The block's weights. -/
theorem weight_apply (q k : QK) (m : FVec Ideal S512x1 .f32) (a j : Fin 512) :
    k0_pay8 (F := Ideal) q m k (ix2 a j)
      = wt (k0_pay6 (F := Ideal) q k (ix2 a j)) (k0_pay7 (F := Ideal) q m k (ix2 a 0)) := by
  pointwise [k0_pay8, wt]

/-- The factor that brings the old weights to the new maximum. -/
theorem factor_apply (q k : QK) (m : FVec Ideal S512x1 .f32) (a : Fin 512) :
    k0_pay9 (F := Ideal) q m k (ix2 a 0)
      = wt (m (ix2 a 0)) (k0_pay7 (F := Ideal) q m k (ix2 a 0)) := by
  pointwise [k0_pay9, wt]

/-- The new total weight. -/
theorem total_apply (q k : QK) (m l : FVec Ideal S512x1 .f32) (a : Fin 512) :
    k0_pay10 (F := Ideal) q m l k (ix2 a 0)
      = k0_pay9 (F := Ideal) q m k (ix2 a 0) * l (ix2 a 0) + ∑ j : Fin 512, k0_pay8 (F := Ideal) q m k (ix2 a j) := by
  pointwise [k0_pay10]

/-- The new weighted sum of values. -/
theorem sum_apply (q k : QK) (m : FVec Ideal S512x1 .f32) (acc : FVec Ideal S512x128 .f32) (v : VB)
    (a : Fin 512) (d : Fin 128) :
    k0_pay11 (F := Ideal) q m acc k v (ix2 a d)
      = k0_pay9 (F := Ideal) q m k (ix2 a 0) * acc (ix2 a d)
        + ∑ j : Fin 512, k0_pay8 (F := Ideal) q m k (ix2 a j) * v (ix3 0 j d) := by
  pointwise [k0_pay11]

/-! ### The values of the masked step at one entry -/

/-- On the diagonal block a query row sees the key rows up to itself. -/
theorem masked_apply (q k : QK) (a j : Fin 512) :
    k0_pay18 (F := Ideal) q k (ix2 a j)
      = if j.val ≤ a.val then ∑ d : Fin 256, q (ix3 0 a d) * k (ix3 0 j d) else ⊥ := by
  pointwise [k0_pay18, k0_pay2]
  rw [sge_small (by omega) (by omega), neg_inf_bits]
  split <;> rfl

theorem max_apply' (q k : QK) (m : FVec Ideal S512x1 .f32) (a : Fin 512) :
    k0_pay19 (F := Ideal) q m k (ix2 a 0)
      = max (m (ix2 a 0)) (Finset.univ.fold max ⊥ fun j : Fin 512 => k0_pay18 (F := Ideal) q k (ix2 a j)) := by
  rw [← neg_inf_bits]
  pointwise [k0_pay19]

theorem weight_apply' (q k : QK) (m : FVec Ideal S512x1 .f32) (a j : Fin 512) :
    k0_pay20 (F := Ideal) q m k (ix2 a j)
      = wt (k0_pay18 (F := Ideal) q k (ix2 a j)) (k0_pay19 (F := Ideal) q m k (ix2 a 0)) := by
  pointwise [k0_pay20, wt]

theorem factor_apply' (q k : QK) (m : FVec Ideal S512x1 .f32) (a : Fin 512) :
    k0_pay21 (F := Ideal) q m k (ix2 a 0)
      = wt (m (ix2 a 0)) (k0_pay19 (F := Ideal) q m k (ix2 a 0)) := by
  pointwise [k0_pay21, wt]

theorem total_apply' (q k : QK) (m l : FVec Ideal S512x1 .f32) (a : Fin 512) :
    k0_pay22 (F := Ideal) q m l k (ix2 a 0)
      = k0_pay21 (F := Ideal) q m k (ix2 a 0) * l (ix2 a 0) + ∑ j : Fin 512, k0_pay20 (F := Ideal) q m k (ix2 a j) := by
  pointwise [k0_pay22]

/-- What the kernel writes: the weighted sum over the total weight. -/
theorem out_apply (q k : QK) (m : FVec Ideal S512x1 .f32) (l : FVec Ideal S512x1 .f32)
    (acc : FVec Ideal S512x128 .f32) (v : VB) (a : Fin 512) (d : Fin 128) :
    k0_pay1 (F := Ideal) l (k0_pay23 (F := Ideal) q m acc k) (k0_pay24 (F := Ideal) q m k) v (ix2 a d)
      = Ideal.div (k0_pay21 (F := Ideal) q m k (ix2 a 0) * acc (ix2 a d)
        + ∑ j : Fin 512, k0_pay20 (F := Ideal) q m k (ix2 a j) * v (ix3 0 j d)) (l (ix2 a 0)) := by
  pointwise [k0_pay1, k0_pay23, k0_pay24]

/-! ### One step carries the row's quantities 512 keys further -/

section
variable {s v : ℕ → EReal} {n : ℕ} {q k : QK} {m l : FVec Ideal S512x1 .f32}
  {acc : FVec Ideal S512x128 .f32} {vb : VB} {a : Fin 512} {d : Fin 128}

theorem top_step (hs : ∀ j : Fin 512, k0_pay6 (F := Ideal) q k (ix2 a j) = s (n + j))
    (hm : m (ix2 a 0) = top s n) : k0_pay7 (F := Ideal) q m k (ix2 a 0) = top s (n + 512) := by
  simp only [max_apply, hs, hm, top_add]
  rw [← fold_max_range 512 fun j => s (n + j)]

theorem den_step (hs : ∀ j : Fin 512, k0_pay6 (F := Ideal) q k (ix2 a j) = s (n + j))
    (hm : m (ix2 a 0) = top s n) (hl : l (ix2 a 0) = den s n) :
    k0_pay10 (F := Ideal) q m l k (ix2 a 0) = den s (n + 512) := by
  simp only [total_apply, factor_apply, weight_apply, top_step hs hm, hs, hm, hl, den_add]
  rw [Finset.sum_range]

theorem num_step (hs : ∀ j : Fin 512, k0_pay6 (F := Ideal) q k (ix2 a j) = s (n + j))
    (hv : ∀ j : Fin 512, vb (ix3 0 j d) = v (n + j))
    (hm : m (ix2 a 0) = top s n) (ha : acc (ix2 a d) = num s v n) :
    k0_pay11 (F := Ideal) q m acc k vb (ix2 a d) = num s v (n + 512) := by
  simp only [sum_apply, factor_apply, weight_apply, top_step hs hm, hs, hv, hm, ha, num_add]
  rw [Finset.sum_range]

/-- The last step and the division: the row's mean over its first `n + 512` keys. -/
theorem last_step (hs : ∀ j : Fin 512, k0_pay18 (F := Ideal) q k (ix2 a j) = s (n + j))
    (hv : ∀ j : Fin 512, vb (ix3 0 j d) = v (n + j))
    (hm : m (ix2 a 0) = top s n) (hl : l (ix2 a 0) = den s n) (ha : acc (ix2 a d) = num s v n) :
    k0_pay1 (F := Ideal) (k0_pay22 (F := Ideal) q m l k) (k0_pay23 (F := Ideal) q m acc k)
        (k0_pay24 (F := Ideal) q m k) vb (ix2 a d)
      = Ideal.div (num s v (n + 512)) (den s (n + 512)) := by
  have ht : k0_pay19 (F := Ideal) q m k (ix2 a 0) = top s (n + 512) := by
    simp only [max_apply', hs, hm, top_add]
    rw [← fold_max_range 512 fun j => s (n + j)]
  simp only [out_apply, total_apply', factor_apply', weight_apply', ht, hs, hv, hm, hl, ha, den_add, num_add]
  rw [Finset.sum_range, Finset.sum_range]

end

/-! ### The starting values -/

theorem start_max (a : Fin 512) : k0_pay3 (F := Ideal) (ix2 a 0) = ⊥ := by
  unfold k0_pay3
  exact IdealRules.named_const.ideal_named_scalar _ _ _ _ rfl

theorem start_total (a : Fin 512) : k0_pay4 (F := Ideal) (ix2 a 0) = 0 := by
  pointwise [k0_pay4]

theorem start_sum (a : Fin 512) (d : Fin 128) : k0_pay5 (F := Ideal) (ix2 a d) = 0 := by
  pointwise [k0_pay5]

end Cert.Attn

end
-- ==== Proof.Block.lean ====
/-
What one grid point of the attention kernel leaves in its output block.

Grid point `(h, i)` holds 512 query rows of head `h`, and all keys and values of that head. Its loop
walks over the `i` key blocks before the diagonal, and its last step treats the diagonal block.
-/
module

public import proofs.«01_k».proof.Proof.Steps
public import proofs.«01_k».proof.Proof.Gen.KernelIdeal.Value

@[expose] public section

noncomputable section

namespace Cert.Attn

open Idealize.ShloMosaic Idealize.ShloMosaic.TcCoe Cert.KernelIdeal Cert.KernelIdeal.Gen

/-- The keys of one head. -/
abbrev Ks := Vec Ideal S1x16384x256 .bf16
/-- The values of one head. -/
abbrev Vs := Vec Ideal S1x16384x128 .bf16

/-- The loop over the blocks before the diagonal makes as many trips as the point's second coordinate. -/
theorem trips1 (i : grid0.Coords) : (k0_t1_loop i).trips = (i 1).val := by
  have h : ∀ n : Fin 32, (⟨0#32, Scalar.addi 0#32 (Scalar.muli (Scalar.divsi
      (Scalar.subi (BitVec.ofNat 32 n.val) 0#32) 1#32) 1#32), 1#32⟩ : Scf.Loop 32).trips = n.val := by
    decide +kernel
  exact h (i 1)

/-- The remainder loop makes no trip. -/
theorem trips2 (i : grid0.Coords) : (k0_t2_loop i).trips = 0 := by
  have h : ∀ n : Fin 32, (⟨Scalar.addi 0#32 (Scalar.muli (Scalar.divsi
      (Scalar.subi (BitVec.ofNat 32 n.val) 0#32) 1#32) 1#32),
      Scalar.addi 0#32 (Scalar.subi (BitVec.ofNat 32 n.val) 0#32), 1#32⟩ : Scf.Loop 32).trips = 0 := by
    decide +kernel
  exact h (i 1)

theorem off1 (i : grid0.Coords) (k : Fin (k0_t1_loop i).trips) : k0_off1 i k = ![0, 512 * k.val, 0] := by
  have h : ∀ n : Fin 32, (Scalar.indexCast (Scalar.muli (Scf.iv 0#32 1#32 n.val) 512#32)).toNat = 512 * n.val := by
    decide +kernel
  have hk : k.val < 32 := lt_of_lt_of_le k.isLt (by rw [trips1]; exact (i 1).isLt.le)
  simp only [k0_off1]
  exact congrArg (fun z => ![0, z, 0]) (h ⟨k.val, hk⟩)

theorem off2 (i : grid0.Coords) (k : Fin (k0_t1_loop i).trips) : k0_off2 i k = ![0, 512 * k.val, 0] := off1 i k

theorem off5 (i : grid0.Coords) : k0_off5 i = ![0, 512 * (i 1).val, 0] := by
  have h : ∀ n : Fin 32, (Scalar.indexCast (Scalar.muli (BitVec.ofNat 32 n.val) 512#32)).toNat = 512 * n.val := by
    decide +kernel
  simp only [k0_off5]
  exact congrArg (fun z => ![0, z, 0]) (h (i 1))

theorem off6 (i : grid0.Coords) : k0_off6 i = ![0, 512 * (i 1).val, 0] := off5 i

/-- Rows `512 k` to `512 k + 511` of the keys. -/
def keyBlock (K : Ks) (k : ℕ) : QK := fun y =>
  if h : 512 * k + (y 1).val < 16384 then K (ix3 0 ⟨512 * k + (y 1).val, h⟩ (y 2)) else 0

/-- Rows `512 k` to `512 k + 511` of the values. -/
def valBlock (V : Vs) (k : ℕ) : VB := fun y =>
  if h : 512 * k + (y 1).val < 16384 then V (ix3 0 ⟨512 * k + (y 1).val, h⟩ (y 2)) else 0

/-- A load of 512 key rows. -/
theorem ld_keys (K : Ks) (k : ℕ) (hk : k < 32) (off : Fin 3 → ℕ) (ho : off = ![0, 512 * k, 0])
    (h : ∀ x, off x + S1x512x256.size x ≤ S1x16384x256.size x) :
    View.ld K (Rect.unit (s := S1x16384x256) off S1x512x256.size h) = keyBlock K k := by
  subst ho
  funext y
  have hy : (y 1).val < 512 := (y 1).isLt
  rw [keyBlock, dif_pos (by omega)]
  rw [View.ld_unit]
  refine congrArg K (funext fun x => Fin.ext ?_)
  fin_cases x
  · exact (Nat.zero_add _).trans (Nat.lt_one_iff.1 (y 0).isLt)
  · rfl
  · exact Nat.zero_add _

/-- A load of 512 value rows. -/
theorem ld_vals (V : Vs) (k : ℕ) (hk : k < 32) (off : Fin 3 → ℕ) (ho : off = ![0, 512 * k, 0])
    (h : ∀ x, off x + S1x512x128.size x ≤ S1x16384x128.size x) :
    View.ld V (Rect.unit (s := S1x16384x128) off S1x512x128.size h) = valBlock V k := by
  subst ho
  funext y
  have hy : (y 1).val < 512 := (y 1).isLt
  rw [valBlock, dif_pos (by omega)]
  rw [View.ld_unit]
  refine congrArg V (funext fun x => Fin.ext ?_)
  fin_cases x
  · exact (Nat.zero_add _).trans (Nat.lt_one_iff.1 (y 0).isLt)
  · rfl
  · exact Nat.zero_add _

section
variable (c : Dev nD) (i : grid0.Coords)
  (arg2 : Memref sig .tc .vmem S1x512x256 .bf16) (harg2 : arg2.IsWhole)
  (arg3 : Memref sig .tc .vmem S1x16384x256 .bf16) (harg3 : arg3.IsWhole)
  (arg4 : Memref sig .tc .vmem S1x16384x128 .bf16) (harg4 : arg4.IsWhole)
  (arg5 : Memref sig .tc .vmem S512x128 .bf16) (harg5 : arg5.IsWhole)
  (x0 : QK) (x1 : Ks) (x2 : Vs)

/-- What a row carries: its maximum, its total weight and its weighted sum. -/
abbrev Carried := FVec Ideal S512x1 .f32 × FVec Ideal S512x1 .f32 × FVec Ideal S512x128 .f32

/-- The loop's carried values before trip `k`. -/
abbrev state (k : ℕ) : Carried :=
  st_k0_t1 (F := Ideal) Variants.none c none i arg2 harg2 arg3 harg3 arg4 harg4 arg5 harg5 x0
    (harg3.unread x1) (harg4.unread x2) (k0_pay3 (F := Ideal), k0_pay4 (F := Ideal), k0_pay5 (F := Ideal)) k

/-- One trip of the loop is one step over the trip's block. -/
theorem state_succ (k : Fin (k0_t1_loop i).trips) :
    state c i arg2 harg2 arg3 harg3 arg4 harg4 arg5 harg5 x0 x1 x2 (k.val + 1)
      = (k0_pay7 (F := Ideal) x0 (state c i arg2 harg2 arg3 harg3 arg4 harg4 arg5 harg5 x0 x1 x2 k.val).1 (keyBlock x1 k.val),
         k0_pay10 (F := Ideal) x0 (state c i arg2 harg2 arg3 harg3 arg4 harg4 arg5 harg5 x0 x1 x2 k.val).1
           (state c i arg2 harg2 arg3 harg3 arg4 harg4 arg5 harg5 x0 x1 x2 k.val).2.1 (keyBlock x1 k.val),
         k0_pay11 (F := Ideal) x0 (state c i arg2 harg2 arg3 harg3 arg4 harg4 arg5 harg5 x0 x1 x2 k.val).1
           (state c i arg2 harg2 arg3 harg3 arg4 harg4 arg5 harg5 x0 x1 x2 k.val).2.2 (keyBlock x1 k.val)
           (valBlock x2 k.val)) := by
  have hk : k.val < 32 := lt_of_lt_of_le k.isLt (by rw [trips1]; exact (i 1).isLt.le)
  rw [state, st_k0_t1_succ]
  unfold tripR_k0_t1 trip_k0_t1
  dsimp only
  simp only [View.readAt_eq_ld, harg3.read_unread, harg4.read_unread]
  rw [← ld_keys x1 k.val hk _ (off1 i k) (k0_off1_inb i k), ← ld_vals x2 k.val hk _ (off2 i k) (k0_off2_inb i k)]

/-- The block a grid point leaves: the last step over the diagonal block, from what the loop carried. -/
theorem out_eq : out0_A_3 (F := Ideal) c i arg2 harg2 arg3 harg3 arg4 harg4 arg5 harg5 x0 x1 x2
      = k0_pay1 (F := Ideal)
          (k0_pay22 (F := Ideal) x0 (state c i arg2 harg2 arg3 harg3 arg4 harg4 arg5 harg5 x0 x1 x2 (i 1).val).1
            (state c i arg2 harg2 arg3 harg3 arg4 harg4 arg5 harg5 x0 x1 x2 (i 1).val).2.1 (keyBlock x1 (i 1).val))
          (k0_pay23 (F := Ideal) x0 (state c i arg2 harg2 arg3 harg3 arg4 harg4 arg5 harg5 x0 x1 x2 (i 1).val).1
            (state c i arg2 harg2 arg3 harg3 arg4 harg4 arg5 harg5 x0 x1 x2 (i 1).val).2.2 (keyBlock x1 (i 1).val))
          (k0_pay24 (F := Ideal) x0 (state c i arg2 harg2 arg3 harg3 arg4 harg4 arg5 harg5 x0 x1 x2 (i 1).val).1
            (keyBlock x1 (i 1).val))
          (valBlock x2 (i 1).val) := by
  have hi : (i 1).val < 32 := (i 1).isLt
  unfold out0_A_3
  rw [View.read_writes_eq_canon _ _ _ (cover0_A_3 c i arg2 harg2 arg3 harg3 arg4 harg4 arg5 harg5 x0 x1 x2)]
  unfold kernelRun0_A
  dsimp only
  sl_unfold_words
  simp only [View.readAt_eq_ld, harg2.read_unread, harg3.read_unread, harg4.read_unread]
  have z2 : (![0, 0] : Fin 2 → ℕ) = fun _ => 0 := by funext x; fin_cases x <;> rfl
  have z3 : (![0, 0, 0] : Fin 3 → ℕ) = fun _ => 0 := by funext x; fin_cases x <;> rfl
  have e0 : View.ld x0 (Rect.unit (s := S1x512x256) ![0, 0, 0] ![1, 512, 256] inb_S1x512x256_S1x512x256_0_0_0) = x0 :=
    View.ld_unit_zero z3 _ _
  have e1 : View.ld x1 (Rect.unit (s := S1x16384x256) (k0_off5 i) S1x512x256.size (k0_off5_inb i)) = keyBlock x1 (i 1).val :=
    ld_keys x1 _ hi _ (off5 i) _
  have e2 : View.ld x2 (Rect.unit (s := S1x16384x128) (k0_off6 i) S1x512x128.size (k0_off6_inb i)) = valBlock x2 (i 1).val :=
    ld_vals x2 _ hi _ (off6 i) _
  have t1 := trips1 i
  have t2 := trips2 i
  unfold Scf.Loop.trips k0_t1_loop at t1
  unfold Scf.Loop.trips k0_t2_loop at t2
  dsimp only at t1 t2
  unfold k0_off5 at e1
  unfold k0_off6 at e2
  dsimp only at e1 e2
  refine (View.canon_cons_unit_zero (S := S512x128) z2 _ _ _).trans ?_
  rw [t1, t2]
  simp only [st_k0_t2_zero, e0]
  rw [← e1, ← e2]

/-! ### The values carried, row by row -/

/-- The scores of a query row against the keys of its head, at a key's number. -/
def allScores (a : Fin 512) (j : ℕ) : EReal :=
  if h : j < 16384 then ∑ d : Fin 256, x0 (ix3 0 a d) * x1 (ix3 0 ⟨j, h⟩ d) else ⊥

/-- The scores the row may see: those of the keys up to its own number `512 (i 1) + a`. -/
def seen (a : Fin 512) (j : ℕ) : EReal :=
  if j ≤ 512 * (i 1).val + a.val then allScores x0 x1 a j else ⊥

/-- One column of the values, at a key's number. -/
def column (d : Fin 128) (j : ℕ) : EReal := if h : j < 16384 then x2 (ix3 0 ⟨j, h⟩ d) else 0

/-- The scores a step over block `k` computes. -/
theorem scores_block (k : ℕ) (hk : k < 32) (a j : Fin 512) :
    ∑ d : Fin 256, x0 (ix3 0 a d) * keyBlock x1 k (ix3 0 j d) = allScores x0 x1 a (512 * k + j.val) := by
  have h : 512 * k + j.val < 16384 := by omega
  simp only [allScores, dif_pos h]
  refine Finset.sum_congr rfl fun d _ => congrArg _ ?_
  exact dif_pos h

theorem values_block (k : ℕ) (d : Fin 128) (j : Fin 512) :
    valBlock x2 k (ix3 0 j d) = column x2 d (512 * k + j.val) := rfl

/-- Before trip `k` each row carries its quantities over the first `512 k` keys. -/
theorem state_row (a : Fin 512) (d : Fin 128) : ∀ k : ℕ, k ≤ (i 1).val →
    (state c i arg2 harg2 arg3 harg3 arg4 harg4 arg5 harg5 x0 x1 x2 k).1 (ix2 a 0) = top (seen i x0 x1 a) (512 * k)
    ∧ (state c i arg2 harg2 arg3 harg3 arg4 harg4 arg5 harg5 x0 x1 x2 k).2.1 (ix2 a 0) = den (seen i x0 x1 a) (512 * k)
    ∧ (state c i arg2 harg2 arg3 harg3 arg4 harg4 arg5 harg5 x0 x1 x2 k).2.2 (ix2 a d)
        = num (seen i x0 x1 a) (column x2 d) (512 * k)
  | 0, _ => ⟨start_max a, start_total a, start_sum a d⟩
  | k + 1, h => by
    obtain ⟨hm, hl, ha⟩ := state_row a d k (by omega)
    have hi : (i 1).val < 32 := (i 1).isLt
    have hs : ∀ j : Fin 512, k0_pay6 (F := Ideal) x0 (keyBlock x1 k) (ix2 a j) = seen i x0 x1 a (512 * k + j.val) := by
      intro j
      rw [scores_apply, scores_block x0 x1 k (by omega), seen, if_pos (by omega)]
    have e := state_succ c i arg2 harg2 arg3 harg3 arg4 harg4 arg5 harg5 x0 x1 x2 ⟨k, by rw [trips1]; omega⟩
    dsimp only at e
    rw [e, show 512 * (k + 1) = 512 * k + 512 by omega]
    exact ⟨top_step hs hm, den_step hs hm hl, num_step hs (fun j => values_block x2 k d j) hm ha⟩

/-- What a grid point leaves at row `a` and column `d`: the mean over the keys of the blocks up to the
diagonal. -/
theorem out_row (a : Fin 512) (d : Fin 128) :
    out0_A_3 (F := Ideal) c i arg2 harg2 arg3 harg3 arg4 harg4 arg5 harg5 x0 x1 x2 (ix2 a d)
      = Ideal.div (num (seen i x0 x1 a) (column x2 d) (512 * (i 1).val + 512))
          (den (seen i x0 x1 a) (512 * (i 1).val + 512)) := by
  have hi : (i 1).val < 32 := (i 1).isLt
  obtain ⟨hm, hl, ha⟩ := state_row c i arg2 harg2 arg3 harg3 arg4 harg4 arg5 harg5 x0 x1 x2 a d (i 1).val le_rfl
  rw [out_eq]
  refine last_step (fun j => ?_) (fun j => values_block x2 _ d j) hm hl ha
  rw [masked_apply, seen, scores_block x0 x1 _ hi]
  by_cases h : j.val ≤ a.val
  · rw [if_pos h, if_pos (by omega)]
  · rw [if_neg h, if_neg (by omega)]

end

end Cert.Attn

end
-- ==== Proof.Array.lean ====
/-
What the attention kernel's result array holds.

The output is one array of 16384 rows and 16 groups of 128 columns. Grid point `(h, i)` writes rows
`512 i` to `512 i + 511` of group `h`. The blocks cover the array, so the array is one function of
the queries, keys and values: at row `r` and column `128 h + d`, the mean of column `d` of head `h`'s
values over the keys up to `r`.
-/
module

public import proofs.«01_k».proof.Proof.Block

@[expose] public section

noncomputable section

namespace Cert.Attn

open Idealize.ShloMosaic Idealize.ShloMosaic.TcCoe Cert.KernelIdeal Cert.KernelIdeal.Gen Idealize.SL.Sem

/-- The queries or keys of all heads. -/
abbrev AllQK := Vec Ideal S16x16384x256 .bf16
/-- The values of all heads. -/
abbrev AllV := Vec Ideal S16x16384x128 .bf16

/-- The scores query row `r` of head `h` may see, at a key's number: those of the keys up to `r`. -/
def rowScores (Q K : AllQK) (h : Fin 16) (r : Fin 16384) (j : ℕ) : EReal :=
  if j ≤ r.val then
    (if hj : j < 16384 then ∑ d : Fin 256, Q (ix3 h r d) * K (ix3 h ⟨j, hj⟩ d) else ⊥)
  else ⊥

/-- One column of head `h`'s values, at a key's number. -/
def valueColumn (V : AllV) (h : Fin 16) (d : Fin 128) (j : ℕ) : EReal :=
  if hj : j < 16384 then V (ix3 h ⟨j, hj⟩ d) else 0

/-- The attention: the mean of a value column under a row's weights. -/
def attend (Q K : AllQK) (V : AllV) (h : Fin 16) (r : Fin 16384) (d : Fin 128) : EReal :=
  Ideal.div (num (rowScores Q K h r) (valueColumn V h d) 16384) (den (rowScores Q K h r) 16384)

theorem attend_congr (Q K : AllQK) (V : AllV) {h h' : Fin 16} {r r' : Fin 16384} {d d' : Fin 128}
    (e : h = h') (er : r = r') (ed : d = d') : attend Q K V h r d = attend Q K V h' r' d' := by
  subst e er ed; rfl

/-- The result array: the heads side by side. -/
def result (Q K : AllQK) (V : AllV) : Vec Ideal S16384x2048 .bf16 := fun y =>
  attend Q K V ⟨(y 1).val / 128, by have := (y 1).isLt; change (y 1).val < 2048 at this; omega⟩ (y 0)
    ⟨(y 1).val % 128, Nat.mod_lt _ (by decide)⟩

/-- Keys past the row weigh nothing, so the mean may stop at the end of the row's own block. -/
theorem attend_stop (Q K : AllQK) (V : AllV) (h : Fin 16) (r : Fin 16384) (d : Fin 128) (n : ℕ)
    (hr : r.val < n) (hn : n ≤ 16384) :
    Ideal.div (num (rowScores Q K h r) (valueColumn V h d) n) (den (rowScores Q K h r) n) = attend Q K V h r d := by
  have hb : ∀ j, n ≤ j → j < 16384 → rowScores Q K h r j = ⊥ := fun j hj _ => if_neg (by omega)
  rw [attend, num_of_bot _ _ hn hb, den_of_bot _ hn hb]

/-! ### The grid points and their blocks -/

theorem points (t : Fin cfg0.N) : (grid0.coords t 0).val = t.val / 32 ∧ (grid0.coords t 1).val = t.val % 32 := by
  revert t; decide +kernel

theorem index0 (t : Fin cfg0.N) : win0_0.index t 0 = t.val / 32 ∧ win0_0.index t 1 = t.val % 32 ∧ win0_0.index t 2 = 0 := by
  revert t; decide +kernel

theorem index1 (t : Fin cfg0.N) : win0_1.index t 0 = t.val / 32 ∧ win0_1.index t 1 = 0 ∧ win0_1.index t 2 = 0 := by
  revert t; decide +kernel

theorem index2 (t : Fin cfg0.N) : win0_2.index t 0 = t.val / 32 ∧ win0_2.index t 1 = 0 ∧ win0_2.index t 2 = 0 := by
  revert t; decide +kernel

theorem index3 (t : Fin cfg0.N) : win0_3.index t 0 = t.val % 32 ∧ win0_3.index t 1 = t.val / 32 := by
  revert t; decide +kernel

theorem points_count : cfg0.N = 512 := by decide +kernel

section
variable (m : (ℓ : Loc nD τ sig) → Buf (Elt Ideal) ℓ) (c : Dev nD)

/-- The queries, keys and values the program is launched on. -/
abbrev argQ : AllQK := m ((c : Thread nD τ).loc main_arg0)
abbrev argK : AllQK := m ((c : Thread nD τ).loc main_arg1)
abbrev argV : AllV := m ((c : Thread nD τ).loc main_arg2)

/-- The head of a grid point. -/
def head (t : Fin cfg0.N) : Fin 16 := ⟨t.val / 32, by
  have h : t.val < 512 := lt_of_lt_of_eq t.isLt points_count
  omega⟩

/-- Row `a` of a grid point's query block, as a row of the array. -/
def row (t : Fin cfg0.N) (a : Fin 512) : Fin 16384 := ⟨512 * (t.val % 32) + a.val, by omega⟩

theorem block_q (t : Fin cfg0.N) (a : Fin 512) (d : Fin 256) :
    iblk m c 0 t (ix3 0 a d) = argQ m c (ix3 (head t) (row t a) d) := by
  obtain ⟨e0, e1, e2⟩ := index0 t
  rw [argQ, ← V_main_arg0 m c]
  have e : ∀ x : Fin 3, ((win0_0.rect t).emb (ix3 0 a d) x).val
      = win0_0.index t x * win0_0.size x + (ix3 0 a d x).val :=
    fun x => Pipeline.Window.rect_emb_val win0_0 t (ix3 0 a d) x
  show V m c main_arg0 ((win0_0.rect t).emb (ix3 0 a d)) = _
  refine congrArg (V m c main_arg0) (funext fun (x : Fin 3) => Fin.ext ?_)
  match x with
  | ⟨0, _⟩ => exact (e 0).trans ((congrArg (fun z => z * 1 + 0) e0).trans
      (by show t.val / 32 * 1 + 0 = t.val / 32; omega))
  | ⟨1, _⟩ => exact (e 1).trans ((congrArg (fun z => z * 512 + a.val) e1).trans (by show t.val % 32 * 512 + a.val = 512 * (t.val % 32) + a.val; omega))
  | ⟨2, _⟩ => exact (e 2).trans ((congrArg (fun z => z * 256 + d.val) e2).trans
      (by show 0 * 256 + d.val = d.val; omega))

theorem block_k (t : Fin cfg0.N) (j : Fin 16384) (d : Fin 256) :
    iblk m c 1 t (ix3 0 j d) = argK m c (ix3 (head t) j d) := by
  obtain ⟨e0, e1, e2⟩ := index1 t
  rw [argK, ← V_main_arg1 m c]
  have e : ∀ x : Fin 3, ((win0_1.rect t).emb (ix3 0 j d) x).val
      = win0_1.index t x * win0_1.size x + (ix3 0 j d x).val :=
    fun x => Pipeline.Window.rect_emb_val win0_1 t (ix3 0 j d) x
  show V m c main_arg1 ((win0_1.rect t).emb (ix3 0 j d)) = _
  refine congrArg (V m c main_arg1) (funext fun (x : Fin 3) => Fin.ext ?_)
  match x with
  | ⟨0, _⟩ => exact (e 0).trans ((congrArg (fun z => z * 1 + 0) e0).trans
      (by show t.val / 32 * 1 + 0 = t.val / 32; omega))
  | ⟨1, _⟩ => exact (e 1).trans ((congrArg (fun z => z * 16384 + j.val) e1).trans (by show 0 * 16384 + j.val = j.val; omega))
  | ⟨2, _⟩ => exact (e 2).trans ((congrArg (fun z => z * 256 + d.val) e2).trans
      (by show 0 * 256 + d.val = d.val; omega))

theorem block_v (t : Fin cfg0.N) (j : Fin 16384) (d : Fin 128) :
    iblk m c 2 t (ix3 0 j d) = argV m c (ix3 (head t) j d) := by
  obtain ⟨e0, e1, e2⟩ := index2 t
  rw [argV, ← V_main_arg2 m c]
  have e : ∀ x : Fin 3, ((win0_2.rect t).emb (ix3 0 j d) x).val
      = win0_2.index t x * win0_2.size x + (ix3 0 j d x).val :=
    fun x => Pipeline.Window.rect_emb_val win0_2 t (ix3 0 j d) x
  show V m c main_arg2 ((win0_2.rect t).emb (ix3 0 j d)) = _
  refine congrArg (V m c main_arg2) (funext fun (x : Fin 3) => Fin.ext ?_)
  match x with
  | ⟨0, _⟩ => exact (e 0).trans ((congrArg (fun z => z * 1 + 0) e0).trans
      (by show t.val / 32 * 1 + 0 = t.val / 32; omega))
  | ⟨1, _⟩ => exact (e 1).trans ((congrArg (fun z => z * 16384 + j.val) e1).trans (by show 0 * 16384 + j.val = j.val; omega))
  | ⟨2, _⟩ => exact (e 2).trans ((congrArg (fun z => z * 128 + d.val) e2).trans
      (by show 0 * 128 + d.val = d.val; omega))

/-- What grid point `t` leaves at row `a` and column `d` of its block. -/
theorem point_row (t : Fin cfg0.N) (a : Fin 512) (d : Fin 128) :
    outsAt0 m c t (ix2 a d) = attend (argQ m c) (argK m c) (argV m c) (head t) (row t a) d := by
  have ht : t.val < 512 := lt_of_lt_of_eq t.isLt points_count
  unfold outsAt0
  rw [out_row]
  have hs : seen (grid0.coords t) (iblk m c 0 t) (iblk m c 1 t) a = rowScores (argQ m c) (argK m c) (head t) (row t a) := by
    funext j
    unfold seen rowScores allScores
    simp only [(points t).2, block_q, block_k, row]
    rfl
  have hv : column (iblk m c 2 t) d = valueColumn (argV m c) (head t) d := by
    funext j
    unfold column valueColumn
    simp only [block_v]
  rw [hs, hv, (points t).2]
  exact attend_stop _ _ _ _ _ _ _ (by simp only [row]; omega) (by omega)

/-- Reading an array through a grid point's output block. -/
theorem read_block (G : Vec Ideal S16384x2048 .bf16) (t : Fin cfg0.N) (a : Fin 512) (d : Fin 128) :
    (win0_3.blk t).view.read (Elt Ideal) G (ix2 a d) = G ((win0_3.rect t).emb (ix2 a d)) := rfl

/-- The entry of the result at row `512 (t % 32) + a` and column `128 (t / 32) + d`. -/
theorem result_at (Q K : AllQK) (V : AllV) (t : Fin cfg0.N) (a : Fin 512) (d : Fin 128) (y : S16384x2048.Idx)
    (h0 : (y 0).val = 512 * (t.val % 32) + a.val) (h1 : (y 1).val = 128 * (t.val / 32) + d.val) :
    result Q K V y = attend Q K V (head t) (row t a) d :=
  attend_congr Q K V (Fin.ext (by show (y 1).val / 128 = t.val / 32; omega)) (Fin.ext h0)
    (Fin.ext (by show (y 1).val % 128 = d.val; omega))

/-- What grid point `t` writes back is its block of the result. -/
theorem point_result (t : Fin cfg0.N) :
    (dats m 0 c).flushed 3 t
      = (win0_3.blk t).view.read (Elt Ideal) (result (argQ m c) (argK m c) (argV m c)) := by
  obtain ⟨e0, e1⟩ := index3 t
  rw [Value.flushed3]
  funext y
  obtain ⟨a, d, rfl⟩ : ∃ (a : Fin 512) (d : Fin 128), y = ix2 a d := ⟨y 0, y 1, eq_ix2 y⟩
  refine (point_row m c t a d).trans ?_
  refine Eq.trans ?_ (read_block (result (argQ m c) (argK m c) (argV m c)) t a d).symm
  refine (result_at _ _ _ t a d _ ?_ ?_).symm
  · refine (Pipeline.Window.rect_emb_val win0_3 t (ix2 a d) (0 : Fin 2)).trans ?_
    exact (congrArg (fun z => z * 512 + a.val) e0).trans (by omega)
  · refine (Pipeline.Window.rect_emb_val win0_3 t (ix2 a d) (1 : Fin 2)).trans ?_
    exact (congrArg (fun z => z * 128 + d.val) e1).trans (by omega)

/-- Which indices a grid point's output block holds. -/
theorem mem_block (t : Fin cfg0.N) (y : S16384x2048.Idx) :
    y ∈ ((cfg0.win 3).blk t).view.set
      ↔ ∀ x : Fin 2, win0_3.index t x * (![512, 128] : Fin 2 → ℕ) x ≤ (y x).val
          ∧ (y x).val < win0_3.index t x * (![512, 128] : Fin 2 → ℕ) x + (![512, 128] : Fin 2 → ℕ) x := by
  show y ∈ ((View.whole main_v0).slice (win0_3.rect t)).set ↔ _
  rw [View.set_slice_whole, Rect.mem_set_unit]
  exact Iff.rfl

/-- The blocks cover the array. -/
theorem covered (y : S16384x2048.Idx) :
    ∃ t : Fin cfg0.N, (cfg0.win 3).flush t = true ∧ y ∈ ((cfg0.win 3).blk t).view.set := by
  have h0 : (y 0).val < 16384 := (y 0).isLt
  have h1 : (y 1).val < 2048 := (y 1).isLt
  have ht : 32 * ((y 1).val / 128) + (y 0).val / 512 < cfg0.N := by rw [points_count]; omega
  refine ⟨⟨_, ht⟩, flush0_3 _, ?_⟩
  rw [mem_block]
  obtain ⟨e0, e1⟩ := index3 ⟨_, ht⟩
  dsimp only at e0 e1
  intro x
  match x with
  | ⟨0, _⟩ =>
    show win0_3.index _ 0 * 512 ≤ (y 0).val ∧ (y 0).val < win0_3.index _ 0 * 512 + 512
    rw [e0]; omega
  | ⟨1, _⟩ =>
    show win0_3.index _ 1 * 128 ≤ (y 1).val ∧ (y 1).val < win0_3.index _ 1 * 128 + 128
    rw [e1]; omega

/-- The array after the run. -/
theorem array_result : (dats m 0 c).arrAt 3 cfg0.N = result (argQ m c) (argK m c) (argV m c) :=
  (dats m 0 c).arrAt_eq_of_cover 3 (result (argQ m c) (argK m c) (argV m c)) (fun t _ => point_result m c t) covered

end

/-- The kernel's run: the result array holds the attention, the arguments are as they were. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = result (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (array_result m c), (h c).2⟩) (Value.run_blocks m ρ)

end Cert.Attn

end
-- ==== Proof.RefValue.lean ====
/-
What the reference computes, entry by entry.

The reference forms all scores of a row, masks the keys past the row, subtracts the row's maximum,
exponentiates, divides by the row's total and takes the weighted sum of the values.
-/
module

public import proofs.«01_k».proof.Proof.Steps
public import proofs.«01_k».proof.Proof.Gen.ReferenceIdeal.Read

@[expose] public section

noncomputable section

namespace Cert.Attn

open Idealize.ShloMosaic Cert.ReferenceIdeal Cert.ReferenceIdeal.Read

variable (Q K : Vec Ideal S16x16384x256 .bf16) (V : Vec Ideal S16x16384x128 .bf16)
variable (h : Fin 16) (r j : Fin 16384) (d : Fin 128)

/-- The masked scores. -/
theorem ref_score : val_main_v7 (F := Ideal) Q K (ix3 h r j)
    = if j.val ≤ r.val then ∑ x : Fin 256, Q (ix3 h r x) * K (ix3 h j x) else ⊥ := by
  pointwise [val_main_v7, val_main_call0_v1, val_main_call0_v2, val_main_call0_v0, val_main_cst, val_main_v6,
    val_main_v5, val_main_v4, val_main_v3, val_main_v2, val_main_v1, val_main_v0]
  have neg : id (constant (F := Ideal) S_ .f32 4286578688#32) ix0 = (⊥ : EReal) := neg_inf_bits
  rw [sge_small (by omega) (by omega), neg]
  split <;> rfl

/-- The maximum over a row, entry after entry. -/
theorem ref_fold : val_main_v8 (F := Ideal) Q K (ix2 h r)
    = Finset.univ.fold max ⊥ fun j : Fin 16384 => val_main_v7 (F := Ideal) Q K (ix3 h r j) := by
  unfold val_main_v8
  generalize val_main_v7 (F := Ideal) Q K = x
  have hr : Shape.Reduces S16x16384x16384 [2] S16x16384 := by decide
  rw [Host.reduce_eq_fold_single (FloatOps.maximumf (F := Ideal) (φ := .f32)) x _ Gen.reducesTo_S16x16384x16384_S16x16384_d2 hr Gen.h_S_]
  have e : ∀ j : Fin 16384, hr.lift (ix2 h r) j = ix3 h r j := fun j => funext fun a => Fin.ext (by
    match a with
    | ⟨0, _⟩ => rfl
    | ⟨1, _⟩ => rfl
    | ⟨2, _⟩ => rfl)
  have i0 : val_main_cst_0 (F := Ideal) (Shape.Idx.first Gen.h_S_) = (⊥ : EReal) := neg_inf_bits
  have f : (x ∘ hr.lift (ix2 h r)) = fun j : Fin 16384 => x (ix3 h r j) := funext fun j => congrArg x (e j)
  rw [i0]
  exact congrArg (fun g : Fin 16384 → EReal => Finset.univ.fold max ⊥ g) f

/-- The row's maximum. -/
theorem ref_max : val_main_v10 (F := Ideal) Q K (ix2 h r)
    = Finset.univ.fold max ⊥ fun j : Fin 16384 => val_main_v7 (F := Ideal) Q K (ix3 h r j) := by
  rw [val_main_v10_apply, val_main_v9_apply, val_main_cst_1_apply, ref_fold]
  exact (congrArg (max · _) neg_inf_bits).trans (max_eq_right bot_le)

/-- The weights. -/
theorem ref_weight : val_main_v14 (F := Ideal) Q K (ix3 h r j)
    = wt (val_main_v7 (F := Ideal) Q K (ix3 h r j)) (val_main_v10 (F := Ideal) Q K (ix2 h r)) := by
  pointwise [val_main_v14, val_main_v13, val_main_v12, val_main_v11, wt]

/-- The row's total weight. -/
theorem ref_total : val_main_v15 (F := Ideal) Q K (ix2 h r)
    = ∑ j : Fin 16384, val_main_v14 (F := Ideal) Q K (ix3 h r j) := by
  pointwise [val_main_v15, val_main_cst_2]

/-- The weights over their total. -/
theorem ref_prob : val_main_v19 (F := Ideal) Q K (ix3 h r j)
    = Ideal.div (val_main_v14 (F := Ideal) Q K (ix3 h r j)) (val_main_v15 (F := Ideal) Q K (ix2 h r)) := by
  pointwise [val_main_v19, val_main_v18, val_main_v17, val_main_v16]

/-- The weighted sum of the values. -/
theorem ref_mean : val_main_v22 (F := Ideal) Q K V (ix3 r h d)
    = ∑ j : Fin 16384, V (ix3 h j d) * val_main_v19 (F := Ideal) Q K (ix3 h r j) := by
  pointwise [val_main_v22, val_main_v21, val_main_v20]

end Cert.Attn

end
-- ==== Proof.Equation.lean ====
/-
The kernel's result and the reference's are the same array.

Both are the mean of a value column under a row's weights. The kernel divides the weighted sum once;
the reference divides every weight by the total first. The two agree because the total is a positive
real: with finite queries and keys every visible score is a real, and a row sees at least itself.
-/
module

public import proofs.«01_k».proof.Proof.Array
public import proofs.«01_k».proof.Proof.RefValue
public import proofs.«01_k».proof.Proof.Gen.Pre_finite_qk

@[expose] public section

noncomputable section

namespace Cert.Attn

open Idealize.ShloMosaic

/-- An array without infinities. -/
def Finite (x : AllQK) : Prop := ∀ i, x i ≠ (⊤ : EReal) ∧ x i ≠ (⊥ : EReal)

/-- A sum of products of reals is a real. -/
theorem dot_real {n : ℕ} (f g : Fin n → EReal) (hf : ∀ i, f i ≠ ⊤ ∧ f i ≠ ⊥) (hg : ∀ i, g i ≠ ⊤ ∧ g i ≠ ⊥) :
    ∃ r : ℝ, ∑ i, f i * g i = (r : EReal) := by
  refine ⟨∑ i, (f i).toReal * (g i).toReal, ?_⟩
  rw [coe_sum]
  refine Finset.sum_congr rfl fun i _ => ?_
  rw [EReal.coe_mul, EReal.coe_toReal (hf i).1 (hf i).2, EReal.coe_toReal (hg i).1 (hg i).2]

section
variable (Q K : AllQK) (V : AllV) (h : Fin 16) (r j : Fin 16384) (d : Fin 128)

theorem ref_score' : Cert.ReferenceIdeal.Read.val_main_v7 (F := Ideal) Q K (ix3 h r j) = rowScores Q K h r j.val := by
  rw [ref_score, rowScores, dif_pos j.isLt]

theorem ref_max' : Cert.ReferenceIdeal.Read.val_main_v10 (F := Ideal) Q K (ix2 h r) = top (rowScores Q K h r) 16384 := by
  rw [ref_max]
  simp only [ref_score']
  exact fold_max_range 16384 _

theorem ref_total' : Cert.ReferenceIdeal.Read.val_main_v15 (F := Ideal) Q K (ix2 h r) = den (rowScores Q K h r) 16384 := by
  rw [ref_total]
  simp only [ref_weight, ref_score', ref_max']
  exact (Finset.sum_range fun j => wt (rowScores Q K h r j) (top (rowScores Q K h r) 16384)).symm

/-- With finite queries and keys the total weight of a row is a positive real. -/
theorem total_pos (hQ : Finite Q) (hK : Finite K) : ∃ t : ℝ, 0 < t ∧ den (rowScores Q K h r) 16384 = (t : EReal) := by
  have hs : ∀ j : Fin 16384, ∃ t : ℝ, ∑ x : Fin 256, Q (ix3 h r x) * K (ix3 h j x) = (t : EReal) := fun j =>
    dot_real (fun x => Q (ix3 h r x)) (fun x => K (ix3 h j x)) (fun x => hQ _) (fun x => hK _)
  refine den_pos _ (n := 16384) (i := r.val) (fun j hj => ?_) r.isLt ?_
  · obtain ⟨t, ht⟩ := hs ⟨j, hj⟩
    rw [rowScores]
    split
    · rw [ht]; exact EReal.coe_ne_top t
    · exact bot_ne_top
  · obtain ⟨t, ht⟩ := hs r
    rw [rowScores, if_pos le_rfl, dif_pos r.isLt, ht]
    exact EReal.coe_ne_bot t

/-- The reference's weighted sum is the attention. -/
theorem ref_mean' (hQ : Finite Q) (hK : Finite K) :
    Cert.ReferenceIdeal.Read.val_main_v22 (F := Ideal) Q K V (ix3 r h d) = attend Q K V h r d := by
  obtain ⟨t, ht, hd⟩ := total_pos Q K h r hQ hK
  rw [ref_mean, attend, mean_eq _ _ ht hd, Finset.sum_range]
  refine Finset.sum_congr rfl fun j _ => ?_
  rw [ref_prob, ref_total', ref_weight, ref_score', ref_max', valueColumn, dif_pos j.isLt]

end

/-- The reference's result is the kernel's. -/
theorem ref_result (Q K : AllQK) (V : AllV) (hQ : Finite Q) (hK : Finite K) :
    Cert.ReferenceIdeal.Read.val_main_v23 (F := Ideal) Q K V = result Q K V := by
  funext y
  have h0 : (y 0).val < 16384 := (y 0).isLt
  have h1 : (y 1).val < 2048 := (y 1).isLt
  rw [Cert.ReferenceIdeal.Read.val_main_v23_apply]
  have e : Cert.ReferenceIdeal.Read.idx_main_v23 y
      = ix3 (n0 := 16384) (n1 := 16) (n2 := 128) ⟨(y 0).val, h0⟩ ⟨(y 1).val / 128, by omega⟩ ⟨(y 1).val % 128, by omega⟩ :=
    funext fun a => Fin.ext (by
      match a with
      | ⟨0, _⟩ => show ((y 0).val * 2048 + (y 1).val) / 2048 = (y 0).val; omega
      | ⟨1, _⟩ => show ((y 0).val * 2048 + (y 1).val) / 128 % 16 = (y 1).val / 128; omega
      | ⟨2, _⟩ => show ((y 0).val * 2048 + (y 1).val) % 128 = (y 1).val % 128; omega)
  rw [e]
  exact ref_mean' Q K V _ _ _ hQ hK

/-- The largest and the least bf16 value are the two infinities. -/
theorem bf16_infinities : Ideal.ofBits .bf16 0x7F80#16 = ⊤ ∧ Ideal.ofBits .bf16 0xFF80#16 = ⊥ := by
  constructor <;> simp [Ideal.ofBits, Ideal.ieee]

/-- A value strictly between the two infinities, as the precondition's two comparisons test it. -/
theorem between {x : EReal} (h : IntOp.andi (Ideal.cmp .olt x (Ideal.ofBits .bf16 0x7F80#16)) (Ideal.cmp .ogt x (Ideal.ofBits .bf16 0xFF80#16)) = 1#1) :
    x ≠ ⊤ ∧ x ≠ ⊥ := by
  rw [bf16_infinities.1, bf16_infinities.2] at h
  constructor
  · rintro rfl
    simp [Ideal.cmp, IntOp.andi] at h
  · rintro rfl
    simp [Ideal.cmp, IntOp.andi] at h

/-- The precondition says that queries and keys are finite. -/
theorem finite_of_pre (Q K : AllQK) (V : AllV) (h1 : (Cert.Pre_finite_qk.fn (F := Ideal) Q K V).1 = fun _ => 1#1)
    (h2 : (Cert.Pre_finite_qk.fn (F := Ideal) Q K V).2 = fun _ => 1#1) : Finite Q ∧ Finite K :=
  ⟨fun i => between (congrFun h1 i), fun i => between (congrFun h2 i)⟩

end Cert.Attn

end
-- ==== Proof.Rows.lean ====
/-
What the row-block calls share: indices of two-axis arrays, and the normalized row.
-/
module

public import Idealize.ShloMosaic.Lib.Pointwise

@[expose] public section

noncomputable section

namespace Cert.Rows

open Idealize.ShloMosaic

/-- An index is known by its two coordinates. -/
theorem eq_ix2_of_val {n k : ℕ} {y : (⟨2, ![n, k]⟩ : Shape).Idx} {a : Fin n} {d : Fin k}
    (h0 : (y 0).val = a.val) (h1 : (y 1).val = d.val) : y = ix2 a d := by
  funext x
  match x with
  | ⟨0, _⟩ => exact Fin.ext h0
  | ⟨1, _⟩ => exact Fin.ext h1

/-- The zero offset of a two-axis load. -/
theorem zero2 : (![0, 0] : Fin 2 → ℕ) = fun _ => 0 := by
  funext x
  match x with
  | ⟨0, _⟩ => rfl
  | ⟨1, _⟩ => rfl

/-- A row over the root of its mean square, times a gain. -/
def normed (x g : Fin 2048 → EReal) (k : Fin 2048) : EReal :=
  x k * Ideal.rsqrt (Ideal.div (∑ j : Fin 2048, x j * x j) (Ideal.ofBits .f32 0x45000000#32)
    + Ideal.ofBits .f32 0x358637BD#32) * g k

end Cert.Rows

end
-- ==== Proof.InprojValue.lean ====
/-
The input projections: what one grid point leaves, what the three arrays hold after the run, and what the reference
computes.

A grid point takes 512 rows, normalizes each and multiplies it by the whole matrix; the columns go to three arrays, the
third one in four stretches. Both programs compute the same expression of a row and a column of the matrix.
-/
module

public import Idealize.ShloMosaic.Lib.Pointwise
public import Idealize.ShloMosaic.Lib.Pipeline.ValueKit.Tiles
public import proofs.«01_k».proof.Proof.Rows
public import proofs.«01_k».proof.Proof.Gen.InprojIdeal.Value
public import proofs.«01_k».proof.Proof.Gen.InprojReferenceIdeal.Read

@[expose] public section

noncomputable section

namespace Cert.Inproj

open Idealize.ShloMosaic Idealize.ShloMosaic.TcCoe Cert.InprojIdeal Cert.InprojIdeal.Gen Idealize.SL.Sem Cert.Rows

/-- The normalized rows a grid point multiplies. -/
theorem normed_rows (v0 : Vec Ideal S512x2048 .f32) (v1 : Vec Ideal S1x2048 .f32) (a : Fin 512) (k : Fin 2048) :
    k0_pay3 v0 v1 (ix2 a k) = normed (fun j => v0 (ix2 a j)) (fun j => v1 (ix2 0 j)) k := by
  pointwise [k0_pay3, normed]

theorem stored4 (v0 : Vec Ideal S512x2048 .f32) (v1 : Vec Ideal S1x2048 .f32) (w : Vec Ideal S2048x1024 .bf16)
    (a : Fin 512) (d : Fin 1024) : k0_pay4 v0 v1 w (ix2 a d)
      = ∑ k : Fin 2048, normed (fun j => v0 (ix2 a j)) (fun j => v1 (ix2 0 j)) k * w (ix2 k d) := by
  pointwise [k0_pay4, normed_rows]

theorem stored6 (v0 : Vec Ideal S512x2048 .f32) (v1 : Vec Ideal S1x2048 .f32) (w : Vec Ideal S2048x1024 .bf16)
    (a : Fin 512) (d : Fin 1024) : k0_pay6 v0 v1 w (ix2 a d)
      = ∑ k : Fin 2048, normed (fun j => v0 (ix2 a j)) (fun j => v1 (ix2 0 j)) k * w (ix2 k d) := by
  pointwise [k0_pay6, normed_rows]

theorem stored7 (v0 : Vec Ideal S512x2048 .f32) (v1 : Vec Ideal S1x2048 .f32) (w : Vec Ideal S2048x1024 .bf16)
    (a : Fin 512) (d : Fin 1024) : k0_pay7 v0 v1 w (ix2 a d)
      = ∑ k : Fin 2048, normed (fun j => v0 (ix2 a j)) (fun j => v1 (ix2 0 j)) k * w (ix2 k d) := by
  pointwise [k0_pay7, normed_rows]

theorem stored5 (v0 : Vec Ideal S512x2048 .f32) (v1 : Vec Ideal S1x2048 .f32) (w : Vec Ideal S2048x1280 .bf16)
    (a : Fin 512) (d : Fin 1280) : k0_pay5 v0 v1 w (ix2 a d)
      = ∑ k : Fin 2048, normed (fun j => v0 (ix2 a j)) (fun j => v1 (ix2 0 j)) k * w (ix2 k d) := by
  pointwise [k0_pay5, normed_rows]

theorem stored1 (h : FVec Ideal S512x2048 .bf16) (w : Vec Ideal S2048x1024 .bf16) (a : Fin 512) (d : Fin 1024) :
    k0_pay1 h w (ix2 a d) = ∑ k : Fin 2048, h (ix2 a k) * w (ix2 k d) := by
  pointwise [k0_pay1]

theorem stored2 (h : FVec Ideal S512x2048 .bf16) (w : Vec Ideal S2048x1024 .bf16) (a : Fin 512) (d : Fin 1024) :
    k0_pay2 h w (ix2 a d) = ∑ k : Fin 2048, h (ix2 a k) * w (ix2 k d) := by
  pointwise [k0_pay2]

section
variable (x0 : Vec Ideal S512x2048 .f32) (x1 : Vec Ideal S1x2048 .f32) (x2 : Vec Ideal S2048x6400 .bf16)
  (a : Fin 512)

/-- A row of the block times a column of the matrix. -/
def rowDot (e : Fin 6400) : EReal :=
  ∑ k : Fin 2048, normed (fun j => x0 (ix2 a j)) (fun j => x1 (ix2 0 j)) k * x2 (ix2 k e)

theorem whole0 : View.ld x0 r0_0 = x0 := View.ld_unit_zero (S := S512x2048) zero2 _ _

theorem whole1 : View.ld x1 r0_1 = x1 := View.ld_unit_zero (S := S1x2048) zero2 _ _

theorem out_row3 (d : Fin 1024) : out0_3 x0 x1 x2 (ix2 a d) = rowDot x0 x1 x2 a ⟨d.val, by omega⟩ := by
  unfold out0_3
  refine (congrFun (View.canon_cons_unit_zero (S := S512x1024) zero2 _ _ _) (ix2 a d)).trans ?_
  rw [stored4, whole0, whole1]
  have g : ∀ k : Fin 2048, View.ld x2 r0_2 (ix2 k d) = x2 (ix2 k ⟨d.val, by omega⟩) := fun k =>
    congrArg x2 (eq_ix2_of_val (by show 0 + 1 * k.val = k.val; omega) (by show 0 + 1 * d.val = d.val; omega))
  simp only [g, rowDot]

theorem out_row4 (d : Fin 1280) : out0_4 x0 x1 x2 (ix2 a d) = rowDot x0 x1 x2 a ⟨1024 + d.val, by omega⟩ := by
  unfold out0_4
  refine (congrFun (View.canon_cons_unit_zero (S := S512x1280) zero2 _ _ _) (ix2 a d)).trans ?_
  rw [stored5, whole0, whole1]
  have g : ∀ k : Fin 2048, View.ld x2 r0_4 (ix2 k d) = x2 (ix2 k ⟨1024 + d.val, by omega⟩) := fun k =>
    congrArg x2 (eq_ix2_of_val (by show 0 + 1 * k.val = k.val; omega)
      (by show 1024 + 1 * d.val = 1024 + d.val; omega))
  simp only [g, rowDot]

/-- One of the four stretches of the third array: its entries are the row's products with the columns it covers. -/
theorem stretch (off : Fin 2 → ℕ) (b : ℕ) (ho : off = ![0, b]) (w : FVec Ideal S512x1024 .bf16) (d : Fin 4096)
    (h : ∀ e : Fin 1024, b + e.val = d.val →
      w (ix2 a e) = rowDot x0 x1 x2 a ⟨2304 + d.val, by omega⟩) :
    View.TileAt (S := S512x4096) (Val := Elt Ideal) (e := .bf16) (ix2 a d) off S512x1024.size w
      (rowDot x0 x1 x2 a ⟨2304 + d.val, by omega⟩) := by
  subst ho
  intro x hx
  have h0 : (x 0).val = a.val := by have := hx 0; change a.val = 0 + (x 0).val at this; omega
  have h1 : b + (x 1).val = d.val := by have := hx 1; change d.val = b + (x 1).val at this; omega
  rw [eq_ix2_of_val (y := x) h0 (d := x 1) rfl]
  exact h (x 1) h1

theorem columns (o : ℕ) (ho : o + 1024 ≤ 6400) (inb : ∀ x, (![0, o] : Fin 2 → ℕ) x + S2048x1024.size x ≤ S2048x6400.size x)
    (k : Fin 2048) (e : Fin 1024) (f : Fin 6400) (hf : o + e.val = f.val) :
    View.ld x2 (Rect.unit (s := S2048x6400) ![0, o] S2048x1024.size inb) (ix2 k e) = x2 (ix2 k f) :=
  congrArg x2 (eq_ix2_of_val (by show 0 + 1 * k.val = k.val; omega) (by show o + 1 * e.val = f.val; omega))

theorem out_row5 (d : Fin 4096) : out0_5 x0 x1 x2 (ix2 a d) = rowDot x0 x1 x2 a ⟨2304 + d.val, by omega⟩ := by
  unfold out0_5
  refine View.canon_eq_of_allAt _ _ _ (cover0_5 _ _ _ _ _) ?_
  have hp : ∀ k : Fin 2048, k0_pay8 x0 x1 x2 (ix2 a k) = normed (fun j => x0 (ix2 a j)) (fun j => x1 (ix2 0 j)) k := by
    intro k
    unfold k0_pay8
    rw [normed_rows, whole0, whole1]
  refine View.allAt_cons_unit _ _ _ _ _ (stretch x0 x1 x2 a _ 3072 rfl _ d fun e he => ?_) ?_
  · rw [stored2]
    exact Finset.sum_congr rfl fun k _ =>
      congrArg₂ (· * ·) (hp k) (columns x2 5376 (by omega) _ k e _ (by show 5376 + e.val = 2304 + d.val; omega))
  refine View.allAt_cons_unit _ _ _ _ _ (stretch x0 x1 x2 a _ 2048 rfl _ d fun e he => ?_) ?_
  · rw [stored1]
    exact Finset.sum_congr rfl fun k _ =>
      congrArg₂ (· * ·) (hp k) (columns x2 4352 (by omega) _ k e _ (by show 4352 + e.val = 2304 + d.val; omega))
  refine View.allAt_cons_unit _ _ _ _ _ (stretch x0 x1 x2 a _ 1024 rfl _ d fun e he => ?_) ?_
  · rw [stored7, whole0, whole1]
    exact Finset.sum_congr rfl fun k _ =>
      congrArg₂ (· * ·) rfl (columns x2 3328 (by omega) _ k e _ (by show 3328 + e.val = 2304 + d.val; omega))
  refine View.allAt_cons_unit _ _ _ _ _ (stretch x0 x1 x2 a _ 0 rfl _ d fun e he => ?_) (View.allAt_nil _ _)
  · rw [stored6, whole0, whole1]
    exact Finset.sum_congr rfl fun k _ =>
      congrArg₂ (· * ·) rfl (columns x2 2304 (by omega) _ k e _ (by show 2304 + e.val = 2304 + d.val; omega))

end

/-! ### The reference -/

section
variable (x0 : Vec Ideal S16384x2048 .f32) (x1 : Vec Ideal S1x2048 .f32) (x2 : Vec Ideal S2048x6400 .bf16)
  (r : Fin 16384)

/-- A normalized row times a column of the matrix. -/
def refDot (e : Fin 6400) : EReal :=
  ∑ k : Fin 2048, normed (fun j => x0 (ix2 r j)) (fun j => x1 (ix2 0 j)) k * x2 (ix2 k e)

open Cert.InprojReferenceIdeal.Read in
theorem ref_normed (k : Fin 2048) :
    val_main_v11 (F := Ideal) x0 x1 (ix2 r k) = normed (fun j => x0 (ix2 r j)) (fun j => x1 (ix2 0 j)) k := by
  pointwise [val_main_v0, val_main_v1, val_main_v2, val_main_v3, val_main_v4, val_main_v5, val_main_v6, val_main_v7,
    val_main_v8, val_main_v9, val_main_v10, val_main_v11, val_main_cst, val_main_cst_0, val_main_cst_1, normed]

open Cert.InprojReferenceIdeal.Read in
theorem ref_dot (e : Fin 6400) : val_main_v14 (F := Ideal) x0 x1 x2 (ix2 r e) = refDot x0 x1 x2 r e := by
  pointwise [val_main_v12, val_main_v13, val_main_v14, ref_normed, refDot]

open Cert.InprojReferenceIdeal.Read in
theorem ref_row3 (d : Fin 1024) :
    val_main_v15 (F := Ideal) x0 x1 x2 (ix2 r d) = refDot x0 x1 x2 r ⟨d.val, by omega⟩ := by
  pointwise [val_main_v15, ref_dot]

open Cert.InprojReferenceIdeal.Read in
theorem ref_row4 (d : Fin 1280) :
    val_main_v16 (F := Ideal) x0 x1 x2 (ix2 r d) = refDot x0 x1 x2 r ⟨1024 + d.val, by omega⟩ := by
  pointwise [val_main_v16, ref_dot]

open Cert.InprojReferenceIdeal.Read in
theorem ref_row5 (d : Fin 4096) :
    val_main_v17 (F := Ideal) x0 x1 x2 (ix2 r d) = refDot x0 x1 x2 r ⟨2304 + d.val, by omega⟩ := by
  pointwise [val_main_v17, ref_dot]

end

/-! ### The grid points and their blocks -/

theorem points_count : cfg0.N = 32 := by decide +kernel

theorem index0 (t : Fin cfg0.N) : win0_0.index t 0 = t.val ∧ win0_0.index t 1 = 0 := by
  revert t; decide +kernel

theorem index1 (t : Fin cfg0.N) : win0_1.index t 0 = 0 ∧ win0_1.index t 1 = 0 := by
  revert t; decide +kernel

theorem index2 (t : Fin cfg0.N) : win0_2.index t 0 = 0 ∧ win0_2.index t 1 = 0 := by
  revert t; decide +kernel

theorem index3 (t : Fin cfg0.N) : win0_3.index t 0 = t.val ∧ win0_3.index t 1 = 0 := by
  revert t; decide +kernel

theorem index4 (t : Fin cfg0.N) : win0_4.index t 0 = t.val ∧ win0_4.index t 1 = 0 := by
  revert t; decide +kernel

theorem index5 (t : Fin cfg0.N) : win0_5.index t 0 = t.val ∧ win0_5.index t 1 = 0 := by
  revert t; decide +kernel

/-- Row `a` of a grid point's blocks, as a row of the arrays. -/
def row (t : Fin cfg0.N) (a : Fin 512) : Fin 16384 := ⟨512 * t.val + a.val, by
  have h : t.val < 32 := lt_of_lt_of_eq t.isLt points_count
  omega⟩

section
variable (m : (ℓ : Loc nD τ sig) → Buf (Elt Ideal) ℓ) (c : Dev nD)

theorem block0 (t : Fin cfg0.N) (a : Fin 512) (d : Fin 2048) :
    iblk m c 0 t (ix2 a d) = m ((c : Thread nD τ).loc main_arg0) (ix2 (row t a) d) := by
  rw [← V_main_arg0 m c]
  show V m c main_arg0 ((win0_0.rect t).emb (ix2 a d)) = _
  refine congrArg (V m c main_arg0) (eq_ix2_of_val ?_ ?_)
  · exact (Pipeline.Window.rect_emb_val win0_0 t (ix2 a d) (0 : Fin 2)).trans
      ((congrArg (fun z => z * 512 + a.val) (index0 t).1).trans (by show t.val * 512 + a.val = 512 * t.val + a.val; omega))
  · exact (Pipeline.Window.rect_emb_val win0_0 t (ix2 a d) (1 : Fin 2)).trans
      ((congrArg (fun z => z * 2048 + d.val) (index0 t).2).trans (by show 0 * 2048 + d.val = d.val; omega))

theorem block1 (t : Fin cfg0.N) : iblk m c 1 t = m ((c : Thread nD τ).loc main_arg1) := by
  funext y
  obtain ⟨a, d, rfl⟩ : ∃ (a : Fin 1) (d : Fin 2048), y = ix2 a d := ⟨y 0, y 1, eq_ix2 y⟩
  rw [← V_main_arg1 m c]
  show V m c main_arg1 ((win0_1.rect t).emb (ix2 a d)) = _
  refine congrArg (V m c main_arg1) (eq_ix2_of_val ?_ ?_)
  · exact (Pipeline.Window.rect_emb_val win0_1 t (ix2 a d) (0 : Fin 2)).trans
      ((congrArg (fun z => z * 1 + a.val) (index1 t).1).trans (by show 0 * 1 + a.val = a.val; omega))
  · exact (Pipeline.Window.rect_emb_val win0_1 t (ix2 a d) (1 : Fin 2)).trans
      ((congrArg (fun z => z * 2048 + d.val) (index1 t).2).trans (by show 0 * 2048 + d.val = d.val; omega))

theorem block2 (t : Fin cfg0.N) : iblk m c 2 t = m ((c : Thread nD τ).loc main_arg2) := by
  funext y
  obtain ⟨a, d, rfl⟩ : ∃ (a : Fin 2048) (d : Fin 6400), y = ix2 a d := ⟨y 0, y 1, eq_ix2 y⟩
  rw [← V_main_arg2 m c]
  show V m c main_arg2 ((win0_2.rect t).emb (ix2 a d)) = _
  refine congrArg (V m c main_arg2) (eq_ix2_of_val ?_ ?_)
  · exact (Pipeline.Window.rect_emb_val win0_2 t (ix2 a d) (0 : Fin 2)).trans
      ((congrArg (fun z => z * 2048 + a.val) (index2 t).1).trans (by show 0 * 2048 + a.val = a.val; omega))
  · exact (Pipeline.Window.rect_emb_val win0_2 t (ix2 a d) (1 : Fin 2)).trans
      ((congrArg (fun z => z * 6400 + d.val) (index2 t).2).trans (by show 0 * 6400 + d.val = d.val; omega))

/-- A grid point's products are the reference's. -/
theorem point_dot (t : Fin cfg0.N) (a : Fin 512) (e : Fin 6400) :
    rowDot (iblk m c 0 t) (iblk m c 1 t) (iblk m c 2 t) a e
      = refDot (m ((c : Thread nD τ).loc main_arg0)) (m ((c : Thread nD τ).loc main_arg1))
          (m ((c : Thread nD τ).loc main_arg2)) (row t a) e := by
  unfold rowDot refDot
  simp only [block0]
  rw [block1, block2]

/-! ### The array with 1024 columns -/

/-- The reference's result of the arguments the program is launched on. -/
abbrev result3 : Vec Ideal S16384x1024 .bf16 :=
  Cert.InprojReferenceIdeal.Read.val_main_v15 (F := Ideal) (m ((c : Thread nD τ).loc main_arg0))
    (m ((c : Thread nD τ).loc main_arg1)) (m ((c : Thread nD τ).loc main_arg2))

/-- Reading an array through a grid point's output block. -/
theorem read_block3 (G : Vec Ideal S16384x1024 .bf16) (t : Fin cfg0.N) (a : Fin 512) (d : Fin 1024) :
    (win0_3.blk t).view.read (Elt Ideal) G (ix2 a d) = G ((win0_3.rect t).emb (ix2 a d)) := rfl

/-- What grid point `t` writes back is its block of the result. -/
theorem point_result3 (t : Fin cfg0.N) :
    (dats m 0 c).flushed 3 t = (win0_3.blk t).view.read (Elt Ideal) (result3 m c) := by
  obtain ⟨e0, e1⟩ := index3 t
  rw [Value.flushed3]
  funext y
  obtain ⟨a, d, rfl⟩ : ∃ (a : Fin 512) (d : Fin 1024), y = ix2 a d := ⟨y 0, y 1, eq_ix2 y⟩
  refine (out_row3 (iblk m c 0 t) (iblk m c 1 t) (iblk m c 2 t) a d).trans ((point_dot m c t a _).trans ?_)
  refine (ref_row3 _ _ _ (row t a) d).symm.trans ?_
  refine Eq.trans ?_ (read_block3 (result3 m c) t a d).symm
  refine congrArg (result3 m c) (eq_ix2_of_val ?_ ?_).symm
  · refine (Pipeline.Window.rect_emb_val win0_3 t (ix2 a d) (0 : Fin 2)).trans ?_
    exact (congrArg (fun z => z * 512 + a.val) e0).trans (by show t.val * 512 + a.val = 512 * t.val + a.val; omega)
  · refine (Pipeline.Window.rect_emb_val win0_3 t (ix2 a d) (1 : Fin 2)).trans ?_
    exact (congrArg (fun z => z * 1024 + d.val) e1).trans (by omega)

/-- Which indices a grid point's output block holds. -/
theorem mem_block3 (t : Fin cfg0.N) (y : S16384x1024.Idx) :
    y ∈ ((cfg0.win 3).blk t).view.set
      ↔ ∀ x : Fin 2, win0_3.index t x * (![512, 1024] : Fin 2 → ℕ) x ≤ (y x).val
          ∧ (y x).val < win0_3.index t x * (![512, 1024] : Fin 2 → ℕ) x + (![512, 1024] : Fin 2 → ℕ) x := by
  show y ∈ ((View.whole main_v0_0).slice (win0_3.rect t)).set ↔ _
  rw [View.set_slice_whole, Rect.mem_set_unit]
  exact Iff.rfl

/-- The blocks cover the array. -/
theorem covered3 (y : S16384x1024.Idx) :
    ∃ t : Fin cfg0.N, (cfg0.win 3).flush t = true ∧ y ∈ ((cfg0.win 3).blk t).view.set := by
  have h0 : (y 0).val < 16384 := (y 0).isLt
  have h1 : (y 1).val < 1024 := (y 1).isLt
  have ht : (y 0).val / 512 < cfg0.N := by rw [points_count]; omega
  refine ⟨⟨_, ht⟩, flush0_3 _, ?_⟩
  rw [mem_block3]
  obtain ⟨e0, e1⟩ := index3 ⟨_, ht⟩
  dsimp only at e0
  intro x
  match x with
  | ⟨0, _⟩ =>
    show win0_3.index _ 0 * 512 ≤ (y 0).val ∧ (y 0).val < win0_3.index _ 0 * 512 + 512
    rw [e0]; omega
  | ⟨1, _⟩ =>
    show win0_3.index _ 1 * 1024 ≤ (y 1).val ∧ (y 1).val < win0_3.index _ 1 * 1024 + 1024
    rw [e1]; omega

/-- The array after the run. -/
theorem array_result3 : (dats m 0 c).arrAt 3 cfg0.N = result3 m c :=
  (dats m 0 c).arrAt_eq_of_cover 3 (result3 m c) (fun t _ => point_result3 m c t) covered3

/-! ### The array with 1280 columns -/

/-- The reference's result of the arguments the program is launched on. -/
abbrev result4 : Vec Ideal S16384x1280 .bf16 :=
  Cert.InprojReferenceIdeal.Read.val_main_v16 (F := Ideal) (m ((c : Thread nD τ).loc main_arg0))
    (m ((c : Thread nD τ).loc main_arg1)) (m ((c : Thread nD τ).loc main_arg2))

/-- Reading an array through a grid point's output block. -/
theorem read_block4 (G : Vec Ideal S16384x1280 .bf16) (t : Fin cfg0.N) (a : Fin 512) (d : Fin 1280) :
    (win0_4.blk t).view.read (Elt Ideal) G (ix2 a d) = G ((win0_4.rect t).emb (ix2 a d)) := rfl

/-- What grid point `t` writes back is its block of the result. -/
theorem point_result4 (t : Fin cfg0.N) :
    (dats m 0 c).flushed 4 t = (win0_4.blk t).view.read (Elt Ideal) (result4 m c) := by
  obtain ⟨e0, e1⟩ := index4 t
  rw [Value.flushed4]
  funext y
  obtain ⟨a, d, rfl⟩ : ∃ (a : Fin 512) (d : Fin 1280), y = ix2 a d := ⟨y 0, y 1, eq_ix2 y⟩
  refine (out_row4 (iblk m c 0 t) (iblk m c 1 t) (iblk m c 2 t) a d).trans ((point_dot m c t a _).trans ?_)
  refine (ref_row4 _ _ _ (row t a) d).symm.trans ?_
  refine Eq.trans ?_ (read_block4 (result4 m c) t a d).symm
  refine congrArg (result4 m c) (eq_ix2_of_val ?_ ?_).symm
  · refine (Pipeline.Window.rect_emb_val win0_4 t (ix2 a d) (0 : Fin 2)).trans ?_
    exact (congrArg (fun z => z * 512 + a.val) e0).trans (by show t.val * 512 + a.val = 512 * t.val + a.val; omega)
  · refine (Pipeline.Window.rect_emb_val win0_4 t (ix2 a d) (1 : Fin 2)).trans ?_
    exact (congrArg (fun z => z * 1280 + d.val) e1).trans (by omega)

/-- Which indices a grid point's output block holds. -/
theorem mem_block4 (t : Fin cfg0.N) (y : S16384x1280.Idx) :
    y ∈ ((cfg0.win 4).blk t).view.set
      ↔ ∀ x : Fin 2, win0_4.index t x * (![512, 1280] : Fin 2 → ℕ) x ≤ (y x).val
          ∧ (y x).val < win0_4.index t x * (![512, 1280] : Fin 2 → ℕ) x + (![512, 1280] : Fin 2 → ℕ) x := by
  show y ∈ ((View.whole main_v0_1).slice (win0_4.rect t)).set ↔ _
  rw [View.set_slice_whole, Rect.mem_set_unit]
  exact Iff.rfl

/-- The blocks cover the array. -/
theorem covered4 (y : S16384x1280.Idx) :
    ∃ t : Fin cfg0.N, (cfg0.win 4).flush t = true ∧ y ∈ ((cfg0.win 4).blk t).view.set := by
  have h0 : (y 0).val < 16384 := (y 0).isLt
  have h1 : (y 1).val < 1280 := (y 1).isLt
  have ht : (y 0).val / 512 < cfg0.N := by rw [points_count]; omega
  refine ⟨⟨_, ht⟩, flush0_4 _, ?_⟩
  rw [mem_block4]
  obtain ⟨e0, e1⟩ := index4 ⟨_, ht⟩
  dsimp only at e0
  intro x
  match x with
  | ⟨0, _⟩ =>
    show win0_4.index _ 0 * 512 ≤ (y 0).val ∧ (y 0).val < win0_4.index _ 0 * 512 + 512
    rw [e0]; omega
  | ⟨1, _⟩ =>
    show win0_4.index _ 1 * 1280 ≤ (y 1).val ∧ (y 1).val < win0_4.index _ 1 * 1280 + 1280
    rw [e1]; omega

/-- The array after the run. -/
theorem array_result4 : (dats m 0 c).arrAt 4 cfg0.N = result4 m c :=
  (dats m 0 c).arrAt_eq_of_cover 4 (result4 m c) (fun t _ => point_result4 m c t) covered4

/-! ### The array with 4096 columns -/

/-- The reference's result of the arguments the program is launched on. -/
abbrev result5 : Vec Ideal S16384x4096 .bf16 :=
  Cert.InprojReferenceIdeal.Read.val_main_v17 (F := Ideal) (m ((c : Thread nD τ).loc main_arg0))
    (m ((c : Thread nD τ).loc main_arg1)) (m ((c : Thread nD τ).loc main_arg2))

/-- Reading an array through a grid point's output block. -/
theorem read_block5 (G : Vec Ideal S16384x4096 .bf16) (t : Fin cfg0.N) (a : Fin 512) (d : Fin 4096) :
    (win0_5.blk t).view.read (Elt Ideal) G (ix2 a d) = G ((win0_5.rect t).emb (ix2 a d)) := rfl

/-- What grid point `t` writes back is its block of the result. -/
theorem point_result5 (t : Fin cfg0.N) :
    (dats m 0 c).flushed 5 t = (win0_5.blk t).view.read (Elt Ideal) (result5 m c) := by
  obtain ⟨e0, e1⟩ := index5 t
  rw [Value.flushed5]
  funext y
  obtain ⟨a, d, rfl⟩ : ∃ (a : Fin 512) (d : Fin 4096), y = ix2 a d := ⟨y 0, y 1, eq_ix2 y⟩
  refine (out_row5 (iblk m c 0 t) (iblk m c 1 t) (iblk m c 2 t) a d).trans ((point_dot m c t a _).trans ?_)
  refine (ref_row5 _ _ _ (row t a) d).symm.trans ?_
  refine Eq.trans ?_ (read_block5 (result5 m c) t a d).symm
  refine congrArg (result5 m c) (eq_ix2_of_val ?_ ?_).symm
  · refine (Pipeline.Window.rect_emb_val win0_5 t (ix2 a d) (0 : Fin 2)).trans ?_
    exact (congrArg (fun z => z * 512 + a.val) e0).trans (by show t.val * 512 + a.val = 512 * t.val + a.val; omega)
  · refine (Pipeline.Window.rect_emb_val win0_5 t (ix2 a d) (1 : Fin 2)).trans ?_
    exact (congrArg (fun z => z * 4096 + d.val) e1).trans (by omega)

/-- Which indices a grid point's output block holds. -/
theorem mem_block5 (t : Fin cfg0.N) (y : S16384x4096.Idx) :
    y ∈ ((cfg0.win 5).blk t).view.set
      ↔ ∀ x : Fin 2, win0_5.index t x * (![512, 4096] : Fin 2 → ℕ) x ≤ (y x).val
          ∧ (y x).val < win0_5.index t x * (![512, 4096] : Fin 2 → ℕ) x + (![512, 4096] : Fin 2 → ℕ) x := by
  show y ∈ ((View.whole main_v0_2).slice (win0_5.rect t)).set ↔ _
  rw [View.set_slice_whole, Rect.mem_set_unit]
  exact Iff.rfl

/-- The blocks cover the array. -/
theorem covered5 (y : S16384x4096.Idx) :
    ∃ t : Fin cfg0.N, (cfg0.win 5).flush t = true ∧ y ∈ ((cfg0.win 5).blk t).view.set := by
  have h0 : (y 0).val < 16384 := (y 0).isLt
  have h1 : (y 1).val < 4096 := (y 1).isLt
  have ht : (y 0).val / 512 < cfg0.N := by rw [points_count]; omega
  refine ⟨⟨_, ht⟩, flush0_5 _, ?_⟩
  rw [mem_block5]
  obtain ⟨e0, e1⟩ := index5 ⟨_, ht⟩
  dsimp only at e0
  intro x
  match x with
  | ⟨0, _⟩ =>
    show win0_5.index _ 0 * 512 ≤ (y 0).val ∧ (y 0).val < win0_5.index _ 0 * 512 + 512
    rw [e0]; omega
  | ⟨1, _⟩ =>
    show win0_5.index _ 1 * 4096 ≤ (y 1).val ∧ (y 1).val < win0_5.index _ 1 * 4096 + 4096
    rw [e1]; omega

/-- The array after the run. -/
theorem array_result5 : (dats m 0 c).arrAt 5 cfg0.N = result5 m c :=
  (dats m 0 c).arrAt_eq_of_cover 5 (result5 m c) (fun t _ => point_result5 m c t) covered5

end

end Cert.Inproj

end
-- ==== Proof.MergeValue.lean ====
/-
The merge: what one grid point leaves, what the array holds after the run, and what the reference computes.

A grid point takes 256 rows of the two branches, of the gates and of the residual, and the whole of the three
matrices. Both programs compute the same expression of a row, so the array after the run is the reference's own.
-/
module

public import Idealize.ShloMosaic.Lib.Pointwise
public import proofs.«01_k».proof.Proof.Rows
public import proofs.«01_k».proof.Proof.Gen.MergeIdeal.Value
public import proofs.«01_k».proof.Proof.Gen.MergeReferenceIdeal.Read

@[expose] public section

noncomputable section

namespace Cert.Merge

open Idealize.ShloMosaic Idealize.ShloMosaic.TcCoe Cert.MergeIdeal Cert.MergeIdeal.Gen Idealize.SL.Sem Cert.Rows

/-- The merged row at one column: each branch's up-projection under its own gate, added. -/
def merged (ys : Fin 1024 → EReal) (ym gs gm : Fin 2048 → EReal) (wus : Vec Ideal S1024x2048 .bf16)
    (wum : Vec Ideal S2048x2048 .bf16) (k : Fin 2048) : EReal :=
  Ideal.logistic (gs k) * (∑ j : Fin 1024, ys j * wus (ix2 j k))
    + Ideal.logistic (gm k) * (∑ j : Fin 2048, ym j * wum (ix2 j k))

/-- The value a grid point stores. -/
theorem stored (v0 : Vec Ideal S256x1024 .bf16) (v1 : Vec Ideal S1024x2048 .bf16) (v3 : Vec Ideal S256x2048 .bf16)
    (v4 : Vec Ideal S2048x2048 .bf16) (v6 v10 : Vec Ideal S256x2048 .bf16) (v15 : Vec Ideal S256x2048 .f32)
    (v17 : Vec Ideal S2048x2048 .bf16) (a : Fin 256) (d : Fin 2048) :
    k0_pay1 v0 v1 v3 v4 v6 v10 v15 v17 (ix2 a d)
      = v15 (ix2 a d) + ∑ k : Fin 2048, merged (fun j => v0 (ix2 a j)) (fun j => v3 (ix2 a j)) (fun j => v6 (ix2 a j))
          (fun j => v10 (ix2 a j)) v1 v4 k * v17 (ix2 k d) := by
  pointwise [k0_pay1, merged]

/-- The block a grid point leaves. -/
theorem out_row (x0 : Vec Ideal S256x1024 .bf16) (x1 : Vec Ideal S256x2048 .bf16) (x2 : Vec Ideal S256x4096 .bf16)
    (x3 : Vec Ideal S256x2048 .f32) (x4 : Vec Ideal S1024x2048 .bf16) (x5 x6 : Vec Ideal S2048x2048 .bf16)
    (a : Fin 256) (d : Fin 2048) :
    out0_7 x0 x1 x2 x3 x4 x5 x6 (ix2 a d)
      = x3 (ix2 a d) + ∑ k : Fin 2048, merged (fun j => x0 (ix2 a j)) (fun j => x1 (ix2 a j))
          (fun j => x2 (ix2 a ⟨j.val, by omega⟩)) (fun j => x2 (ix2 a ⟨2048 + j.val, by omega⟩)) x4 x5 k
            * x6 (ix2 k d) := by
  unfold out0_7
  refine (congrFun (View.canon_cons_unit_zero (S := S256x2048) zero2 _ _ _) (ix2 a d)).trans ?_
  refine (stored _ _ _ _ _ _ _ _ a d).trans ?_
  have e0 : View.ld x0 r0_0 = x0 := View.ld_unit_zero (S := S256x1024) zero2 _ _
  have e1 : View.ld x1 r0_2 = x1 := View.ld_unit_zero (S := S256x2048) zero2 _ _
  have e3 : View.ld x3 r0_2 = x3 := View.ld_unit_zero (S := S256x2048) zero2 _ _
  have e4 : View.ld x4 r0_1 = x4 := View.ld_unit_zero (S := S1024x2048) zero2 _ _
  have e5 : View.ld x5 r0_3 = x5 := View.ld_unit_zero (S := S2048x2048) zero2 _ _
  have e6 : View.ld x6 r0_3 = x6 := View.ld_unit_zero (S := S2048x2048) zero2 _ _
  have g0 : ∀ j : Fin 2048, View.ld x2 r0_4 (ix2 a j) = x2 (ix2 a ⟨j.val, by omega⟩) := fun j =>
    congrArg x2 (eq_ix2_of_val (by show 0 + 1 * a.val = a.val; omega) (by show 0 + 1 * j.val = j.val; omega))
  have g1 : ∀ j : Fin 2048, View.ld x2 r0_5 (ix2 a j) = x2 (ix2 a ⟨2048 + j.val, by omega⟩) := fun j =>
    congrArg x2 (eq_ix2_of_val (by show 0 + 1 * a.val = a.val; omega) (by show 2048 + 1 * j.val = 2048 + j.val; omega))
  rw [e0, e1, e3, e4, e5, e6]
  simp only [g0, g1]

/-- The reference's entries. -/
theorem ref_row (x0 : Vec Ideal S16384x1024 .bf16) (x1 : Vec Ideal S16384x2048 .bf16) (x2 : Vec Ideal S16384x4096 .bf16)
    (x3 : Vec Ideal S16384x2048 .f32) (x4 : Vec Ideal S1024x2048 .bf16) (x5 x6 : Vec Ideal S2048x2048 .bf16)
    (r : Fin 16384) (d : Fin 2048) :
    Cert.MergeReferenceIdeal.Read.val_main_v26 (F := Ideal) x0 x1 x2 x3 x4 x5 x6 (ix2 r d)
      = x3 (ix2 r d) + ∑ k : Fin 2048, merged (fun j => x0 (ix2 r j)) (fun j => x1 (ix2 r j))
          (fun j => x2 (ix2 r ⟨j.val, by omega⟩)) (fun j => x2 (ix2 r ⟨2048 + j.val, by omega⟩)) x4 x5 k
            * x6 (ix2 k d) := by
  open Cert.MergeReferenceIdeal.Read in
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_cst, val_main_cst_0, val_main_cst_1, val_main_cst_2, merged,
    Ideal.logistic]

/-! ### The grid points and their blocks -/

theorem points_count : cfg0.N = 64 := by decide +kernel

theorem index0 (t : Fin cfg0.N) : win0_0.index t 0 = t.val ∧ win0_0.index t 1 = 0 := by
  revert t; decide +kernel

theorem index1 (t : Fin cfg0.N) : win0_1.index t 0 = t.val ∧ win0_1.index t 1 = 0 := by
  revert t; decide +kernel

theorem index2 (t : Fin cfg0.N) : win0_2.index t 0 = t.val ∧ win0_2.index t 1 = 0 := by
  revert t; decide +kernel

theorem index3 (t : Fin cfg0.N) : win0_3.index t 0 = t.val ∧ win0_3.index t 1 = 0 := by
  revert t; decide +kernel

theorem index4 (t : Fin cfg0.N) : win0_4.index t 0 = 0 ∧ win0_4.index t 1 = 0 := by
  revert t; decide +kernel

theorem index5 (t : Fin cfg0.N) : win0_5.index t 0 = 0 ∧ win0_5.index t 1 = 0 := by
  revert t; decide +kernel

theorem index6 (t : Fin cfg0.N) : win0_6.index t 0 = 0 ∧ win0_6.index t 1 = 0 := by
  revert t; decide +kernel

theorem index7 (t : Fin cfg0.N) : win0_7.index t 0 = t.val ∧ win0_7.index t 1 = 0 := by
  revert t; decide +kernel

/-- Row `a` of a grid point's blocks, as a row of the arrays. -/
def row (t : Fin cfg0.N) (a : Fin 256) : Fin 16384 := ⟨256 * t.val + a.val, by
  have h : t.val < 64 := lt_of_lt_of_eq t.isLt points_count
  omega⟩

section
variable (m : (ℓ : Loc nD τ sig) → Buf (Elt Ideal) ℓ) (c : Dev nD)

theorem block0 (t : Fin cfg0.N) (a : Fin 256) (d : Fin 1024) :
    iblk m c 0 t (ix2 a d) = m ((c : Thread nD τ).loc main_arg0) (ix2 (row t a) d) := by
  rw [← V_main_arg0 m c]
  show V m c main_arg0 ((win0_0.rect t).emb (ix2 a d)) = _
  refine congrArg (V m c main_arg0) (eq_ix2_of_val ?_ ?_)
  · exact (Pipeline.Window.rect_emb_val win0_0 t (ix2 a d) (0 : Fin 2)).trans
      ((congrArg (fun z => z * 256 + a.val) (index0 t).1).trans (by show t.val * 256 + a.val = 256 * t.val + a.val; omega))
  · exact (Pipeline.Window.rect_emb_val win0_0 t (ix2 a d) (1 : Fin 2)).trans
      ((congrArg (fun z => z * 1024 + d.val) (index0 t).2).trans (by show 0 * 1024 + d.val = d.val; omega))

theorem block1 (t : Fin cfg0.N) (a : Fin 256) (d : Fin 2048) :
    iblk m c 1 t (ix2 a d) = m ((c : Thread nD τ).loc main_arg1) (ix2 (row t a) d) := by
  rw [← V_main_arg1 m c]
  show V m c main_arg1 ((win0_1.rect t).emb (ix2 a d)) = _
  refine congrArg (V m c main_arg1) (eq_ix2_of_val ?_ ?_)
  · exact (Pipeline.Window.rect_emb_val win0_1 t (ix2 a d) (0 : Fin 2)).trans
      ((congrArg (fun z => z * 256 + a.val) (index1 t).1).trans (by show t.val * 256 + a.val = 256 * t.val + a.val; omega))
  · exact (Pipeline.Window.rect_emb_val win0_1 t (ix2 a d) (1 : Fin 2)).trans
      ((congrArg (fun z => z * 2048 + d.val) (index1 t).2).trans (by show 0 * 2048 + d.val = d.val; omega))

theorem block2 (t : Fin cfg0.N) (a : Fin 256) (d : Fin 4096) :
    iblk m c 2 t (ix2 a d) = m ((c : Thread nD τ).loc main_arg2) (ix2 (row t a) d) := by
  rw [← V_main_arg2 m c]
  show V m c main_arg2 ((win0_2.rect t).emb (ix2 a d)) = _
  refine congrArg (V m c main_arg2) (eq_ix2_of_val ?_ ?_)
  · exact (Pipeline.Window.rect_emb_val win0_2 t (ix2 a d) (0 : Fin 2)).trans
      ((congrArg (fun z => z * 256 + a.val) (index2 t).1).trans (by show t.val * 256 + a.val = 256 * t.val + a.val; omega))
  · exact (Pipeline.Window.rect_emb_val win0_2 t (ix2 a d) (1 : Fin 2)).trans
      ((congrArg (fun z => z * 4096 + d.val) (index2 t).2).trans (by show 0 * 4096 + d.val = d.val; omega))

theorem block3 (t : Fin cfg0.N) (a : Fin 256) (d : Fin 2048) :
    iblk m c 3 t (ix2 a d) = m ((c : Thread nD τ).loc main_arg3) (ix2 (row t a) d) := by
  rw [← V_main_arg3 m c]
  show V m c main_arg3 ((win0_3.rect t).emb (ix2 a d)) = _
  refine congrArg (V m c main_arg3) (eq_ix2_of_val ?_ ?_)
  · exact (Pipeline.Window.rect_emb_val win0_3 t (ix2 a d) (0 : Fin 2)).trans
      ((congrArg (fun z => z * 256 + a.val) (index3 t).1).trans (by show t.val * 256 + a.val = 256 * t.val + a.val; omega))
  · exact (Pipeline.Window.rect_emb_val win0_3 t (ix2 a d) (1 : Fin 2)).trans
      ((congrArg (fun z => z * 2048 + d.val) (index3 t).2).trans (by show 0 * 2048 + d.val = d.val; omega))

theorem block4 (t : Fin cfg0.N) : iblk m c 4 t = m ((c : Thread nD τ).loc main_arg4) := by
  funext y
  obtain ⟨a, d, rfl⟩ : ∃ (a : Fin 1024) (d : Fin 2048), y = ix2 a d := ⟨y 0, y 1, eq_ix2 y⟩
  rw [← V_main_arg4 m c]
  show V m c main_arg4 ((win0_4.rect t).emb (ix2 a d)) = _
  refine congrArg (V m c main_arg4) (eq_ix2_of_val ?_ ?_)
  · exact (Pipeline.Window.rect_emb_val win0_4 t (ix2 a d) (0 : Fin 2)).trans
      ((congrArg (fun z => z * 1024 + a.val) (index4 t).1).trans (by show 0 * 1024 + a.val = a.val; omega))
  · exact (Pipeline.Window.rect_emb_val win0_4 t (ix2 a d) (1 : Fin 2)).trans
      ((congrArg (fun z => z * 2048 + d.val) (index4 t).2).trans (by show 0 * 2048 + d.val = d.val; omega))

theorem block5 (t : Fin cfg0.N) : iblk m c 5 t = m ((c : Thread nD τ).loc main_arg5) := by
  funext y
  obtain ⟨a, d, rfl⟩ : ∃ (a : Fin 2048) (d : Fin 2048), y = ix2 a d := ⟨y 0, y 1, eq_ix2 y⟩
  rw [← V_main_arg5 m c]
  show V m c main_arg5 ((win0_5.rect t).emb (ix2 a d)) = _
  refine congrArg (V m c main_arg5) (eq_ix2_of_val ?_ ?_)
  · exact (Pipeline.Window.rect_emb_val win0_5 t (ix2 a d) (0 : Fin 2)).trans
      ((congrArg (fun z => z * 2048 + a.val) (index5 t).1).trans (by show 0 * 2048 + a.val = a.val; omega))
  · exact (Pipeline.Window.rect_emb_val win0_5 t (ix2 a d) (1 : Fin 2)).trans
      ((congrArg (fun z => z * 2048 + d.val) (index5 t).2).trans (by show 0 * 2048 + d.val = d.val; omega))

theorem block6 (t : Fin cfg0.N) : iblk m c 6 t = m ((c : Thread nD τ).loc main_arg6) := by
  funext y
  obtain ⟨a, d, rfl⟩ : ∃ (a : Fin 2048) (d : Fin 2048), y = ix2 a d := ⟨y 0, y 1, eq_ix2 y⟩
  rw [← V_main_arg6 m c]
  show V m c main_arg6 ((win0_6.rect t).emb (ix2 a d)) = _
  refine congrArg (V m c main_arg6) (eq_ix2_of_val ?_ ?_)
  · exact (Pipeline.Window.rect_emb_val win0_6 t (ix2 a d) (0 : Fin 2)).trans
      ((congrArg (fun z => z * 2048 + a.val) (index6 t).1).trans (by show 0 * 2048 + a.val = a.val; omega))
  · exact (Pipeline.Window.rect_emb_val win0_6 t (ix2 a d) (1 : Fin 2)).trans
      ((congrArg (fun z => z * 2048 + d.val) (index6 t).2).trans (by show 0 * 2048 + d.val = d.val; omega))

/-- The reference's result of the arguments the program is launched on. -/
abbrev result : Vec Ideal S16384x2048 .f32 :=
  Cert.MergeReferenceIdeal.Read.val_main_v26 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- What grid point `t` leaves at row `a` and column `d` of its block. -/
theorem point_row (t : Fin cfg0.N) (a : Fin 256) (d : Fin 2048) :
    out0_7 (iblk m c 0 t) (iblk m c 1 t) (iblk m c 2 t) (iblk m c 3 t) (iblk m c 4 t) (iblk m c 5 t) (iblk m c 6 t) (ix2 a d)
      = result m c (ix2 (row t a) d) := by
  refine (out_row _ _ _ _ _ _ _ a d).trans ((ref_row _ _ _ _ _ _ _ (row t a) d).trans ?_).symm
  simp only [block0, block1, block2, block3]
  rw [block4, block5, block6]

/-- Reading an array through a grid point's output block. -/
theorem read_block (G : Vec Ideal S16384x2048 .f32) (t : Fin cfg0.N) (a : Fin 256) (d : Fin 2048) :
    (win0_7.blk t).view.read (Elt Ideal) G (ix2 a d) = G ((win0_7.rect t).emb (ix2 a d)) := rfl

/-- What grid point `t` writes back is its block of the result. -/
theorem point_result (t : Fin cfg0.N) :
    (dats m 0 c).flushed 7 t = (win0_7.blk t).view.read (Elt Ideal) (result m c) := by
  obtain ⟨e0, e1⟩ := index7 t
  rw [Value.flushed7]
  funext y
  obtain ⟨a, d, rfl⟩ : ∃ (a : Fin 256) (d : Fin 2048), y = ix2 a d := ⟨y 0, y 1, eq_ix2 y⟩
  refine (point_row m c t a d).trans ?_
  refine Eq.trans ?_ (read_block (result m c) t a d).symm
  refine congrArg (result m c) (eq_ix2_of_val ?_ ?_).symm
  · refine (Pipeline.Window.rect_emb_val win0_7 t (ix2 a d) (0 : Fin 2)).trans ?_
    exact (congrArg (fun z => z * 256 + a.val) e0).trans (by show t.val * 256 + a.val = 256 * t.val + a.val; omega)
  · refine (Pipeline.Window.rect_emb_val win0_7 t (ix2 a d) (1 : Fin 2)).trans ?_
    exact (congrArg (fun z => z * 2048 + d.val) e1).trans (by omega)

/-- Which indices a grid point's output block holds. -/
theorem mem_block (t : Fin cfg0.N) (y : S16384x2048.Idx) :
    y ∈ ((cfg0.win 7).blk t).view.set
      ↔ ∀ x : Fin 2, win0_7.index t x * (![256, 2048] : Fin 2 → ℕ) x ≤ (y x).val
          ∧ (y x).val < win0_7.index t x * (![256, 2048] : Fin 2 → ℕ) x + (![256, 2048] : Fin 2 → ℕ) x := by
  show y ∈ ((View.whole main_v0).slice (win0_7.rect t)).set ↔ _
  rw [View.set_slice_whole, Rect.mem_set_unit]
  exact Iff.rfl

/-- The blocks cover the array. -/
theorem covered (y : S16384x2048.Idx) :
    ∃ t : Fin cfg0.N, (cfg0.win 7).flush t = true ∧ y ∈ ((cfg0.win 7).blk t).view.set := by
  have h0 : (y 0).val < 16384 := (y 0).isLt
  have h1 : (y 1).val < 2048 := (y 1).isLt
  have ht : (y 0).val / 256 < cfg0.N := by rw [points_count]; omega
  refine ⟨⟨_, ht⟩, flush0_7 _, ?_⟩
  rw [mem_block]
  obtain ⟨e0, e1⟩ := index7 ⟨_, ht⟩
  dsimp only at e0
  intro x
  match x with
  | ⟨0, _⟩ =>
    show win0_7.index _ 0 * 256 ≤ (y 0).val ∧ (y 0).val < win0_7.index _ 0 * 256 + 256
    rw [e0]; omega
  | ⟨1, _⟩ =>
    show win0_7.index _ 1 * 2048 ≤ (y 1).val ∧ (y 1).val < win0_7.index _ 1 * 2048 + 2048
    rw [e1]; omega

/-- The array after the run. -/
theorem array_result : (dats m 0 c).arrAt 7 cfg0.N = result m c :=
  (dats m 0 c).arrAt_eq_of_cover 7 (result m c) (fun t _ => point_result m c t) covered

end

end Cert.Merge

end
-- ==== Proof.Heads.lean ====
/-
One row's cross attention, as an expression of the row: its queries, one head's mean of the values, and the heads
side by side.
-/
module

public import Idealize.ShloMosaic.Lib.Pointwise
public import proofs.«01_k».proof.Proof.Rows

@[expose] public section

noncomputable section

namespace Cert.Xattn

open Idealize.ShloMosaic Cert.Rows

/-- The bits a maximum starts from are minus infinity. -/
theorem minus_inf : Ideal.ofBits .f32 0xFF800000#32 = ⊥ := by simp [Ideal.ofBits, Ideal.ieee]

/-- The normalized row times a column of the projection. -/
def query (x g : Fin 2048 → EReal) (w : Vec Ideal ⟨2, ![2048, 512]⟩ .bf16) (e : Fin 512) : EReal :=
  ∑ k : Fin 2048, normed x g k * w (ix2 k e)

/-- The mean of a value column under the soft maximum of one query's scores. -/
def mean (q : Fin 128 → EReal) (K : Fin 256 → Fin 128 → EReal) (V : Fin 256 → EReal) : EReal :=
  ∑ j : Fin 256, Ideal.div
      (Ideal.exp ((∑ x : Fin 128, q x * K j x) - Finset.univ.fold max ⊥ fun i : Fin 256 => ∑ x : Fin 128, q x * K i x))
      (∑ l : Fin 256, Ideal.exp
        ((∑ x : Fin 128, q x * K l x) - Finset.univ.fold max ⊥ fun i : Fin 256 => ∑ x : Fin 128, q x * K i x)) * V j

theorem mean_congr {q q' : Fin 128 → EReal} {K K' : Fin 256 → Fin 128 → EReal} {V V' : Fin 256 → EReal}
    (hq : ∀ x, q x = q' x) (hK : ∀ j x, K j x = K' j x) (hV : ∀ j, V j = V' j) : mean q K V = mean q' K' V' := by
  obtain rfl := funext hq
  obtain rfl : K = K' := funext fun j => funext (hK j)
  obtain rfl := funext hV
  rfl

/-- The heads side by side: column `e` belongs to head `e / 128`. -/
def heads (q : Fin 512 → EReal) (K V : Vec Ideal ⟨2, ![256, 512]⟩ .bf16) (e : Fin 512) : EReal :=
  mean (fun x => q ⟨128 * (e.val / 128) + x.val, by omega⟩)
    (fun j x => K (ix2 j ⟨128 * (e.val / 128) + x.val, by omega⟩)) (fun j => V (ix2 j e))

theorem heads_at (q : Fin 512 → EReal) (K V : Vec Ideal ⟨2, ![256, 512]⟩ .bf16) (e : Fin 512) (b : ℕ) (d : Fin 128)
    (hb : b < 4) (h : 128 * b + d.val = e.val) :
    heads q K V e = mean (fun x => q ⟨128 * b + x.val, by omega⟩) (fun j x => K (ix2 j ⟨128 * b + x.val, by omega⟩))
      (fun j => V (ix2 j ⟨128 * b + d.val, by omega⟩)) := by
  have hd : e.val / 128 = b := by omega
  exact mean_congr (fun x => congrArg q (Fin.ext (by show 128 * (e.val / 128) + x.val = 128 * b + x.val; omega)))
    (fun j x => congrArg (fun z => K (ix2 j z)) (Fin.ext (by show 128 * (e.val / 128) + x.val = 128 * b + x.val; omega)))
    (fun j => congrArg (fun z => V (ix2 j z)) (Fin.ext h.symm))

end Cert.Xattn

end
-- ==== Proof.XattnRef.lean ====
/-
What the cross attention's reference computes, entry by entry.
-/
module

public import Idealize.ShloMosaic.Lib.Pointwise
public import proofs.«01_k».proof.Proof.Heads
public import proofs.«01_k».proof.Proof.Gen.XattnReferenceIdeal.Read

@[expose] public section

noncomputable section

namespace Cert.Xattn

open Idealize.ShloMosaic Cert.XattnReferenceIdeal Cert.XattnReferenceIdeal.Read Cert.Rows

variable (x0 : Vec Ideal S16384x2048 .f32) (x1 : Vec Ideal S1x2048 .f32) (x2 : Vec Ideal S2048x512 .bf16)
  (x3 x4 : Vec Ideal S256x512 .bf16) (x5 : Vec Ideal S512x2048 .bf16) (r : Fin 16384) (h : Fin 4)

/-- The queries. -/
theorem ref_query (e : Fin 512) : val_main_v16 (F := Ideal) x0 x1 x2 (ix2 r e)
    = query (fun j => x0 (ix2 r j)) (fun j => x1 (ix2 0 j)) x2 e := by
  pointwise [val_main_v0, val_main_v4, val_main_v5, val_main_v6, val_main_v7, val_main_v8, val_main_v9, val_main_v10,
    val_main_v11, val_main_v12, val_main_v13, val_main_v14, val_main_v15, val_main_v16, val_main_cst, val_main_cst_0,
    val_main_cst_1, query, normed]

/-- The scores. -/
theorem ref_score (j : Fin 256) : val_main_v20 (F := Ideal) x0 x1 x2 x3 (ix3 h r j)
    = ∑ x : Fin 128, query (fun j => x0 (ix2 r j)) (fun j => x1 (ix2 0 j)) x2 ⟨128 * h.val + x.val, by omega⟩
        * x3 (ix2 j ⟨128 * h.val + x.val, by omega⟩) := by
  pointwise [val_main_v17, val_main_v18, val_main_v1, val_main_v20, ref_query]
  simp only [Nat.mul_comm _ 128]

/-- The maximum over a row, entry after entry. -/
theorem ref_fold : val_main_v21 (F := Ideal) x0 x1 x2 x3 (ix2 h r)
    = Finset.univ.fold max ⊥ fun j : Fin 256 => val_main_v20 (F := Ideal) x0 x1 x2 x3 (ix3 h r j) := by
  unfold val_main_v21
  generalize val_main_v20 (F := Ideal) x0 x1 x2 x3 = x
  have hr : Shape.Reduces S4x16384x256 [2] S4x16384 := by decide
  rw [Host.reduce_eq_fold_single (FloatOps.maximumf (F := Ideal) (φ := .f32)) x _ Gen.reducesTo_S4x16384x256_S4x16384_d2 hr Gen.h_S_]
  have e : ∀ j : Fin 256, hr.lift (ix2 h r) j = ix3 h r j := fun j => funext fun a => Fin.ext (by
    match a with
    | ⟨0, _⟩ => rfl
    | ⟨1, _⟩ => rfl
    | ⟨2, _⟩ => rfl)
  have i0 : val_main_cst_2 (F := Ideal) (Shape.Idx.first Gen.h_S_) = (⊥ : EReal) := minus_inf
  have f : (x ∘ hr.lift (ix2 h r)) = fun j : Fin 256 => x (ix3 h r j) := funext fun j => congrArg x (e j)
  rw [i0]
  exact congrArg (fun g : Fin 256 → EReal => Finset.univ.fold max ⊥ g) f

/-- The row's maximum. -/
theorem ref_max : val_main_v23 (F := Ideal) x0 x1 x2 x3 (ix2 h r)
    = Finset.univ.fold max ⊥ fun j : Fin 256 => val_main_v20 (F := Ideal) x0 x1 x2 x3 (ix3 h r j) := by
  rw [val_main_v23_apply, val_main_v22_apply, val_main_cst_3_apply, ref_fold]
  exact (congrArg (max · _) minus_inf).trans (max_eq_right bot_le)

/-- The weights. -/
theorem ref_weight (j : Fin 256) : val_main_v27 (F := Ideal) x0 x1 x2 x3 (ix3 h r j)
    = Ideal.exp (val_main_v20 (F := Ideal) x0 x1 x2 x3 (ix3 h r j) - val_main_v23 (F := Ideal) x0 x1 x2 x3 (ix2 h r)) := by
  pointwise [val_main_v27, val_main_v26, val_main_v25, val_main_v24]

/-- The row's total weight. -/
theorem ref_total : val_main_v28 (F := Ideal) x0 x1 x2 x3 (ix2 h r)
    = ∑ j : Fin 256, val_main_v27 (F := Ideal) x0 x1 x2 x3 (ix3 h r j) := by
  pointwise [val_main_v28, val_main_cst_4]

/-- The weights over their total. -/
theorem ref_prob (j : Fin 256) : val_main_v31 (F := Ideal) x0 x1 x2 x3 (ix3 h r j)
    = Ideal.div (val_main_v27 (F := Ideal) x0 x1 x2 x3 (ix3 h r j)) (val_main_v28 (F := Ideal) x0 x1 x2 x3 (ix2 h r)) := by
  pointwise [val_main_v31, val_main_v30, val_main_v29]

/-- A head's weighted sum of the values. -/
theorem ref_sum (d : Fin 128) : val_main_v32 (F := Ideal) x0 x1 x2 x3 x4 (ix3 h d r)
    = ∑ j : Fin 256, x4 (ix2 j ⟨128 * h.val + d.val, by omega⟩) * val_main_v31 (F := Ideal) x0 x1 x2 x3 (ix3 h r j) := by
  pointwise [val_main_v32, val_main_v19, val_main_v2]
  simp only [Nat.mul_comm _ 128]

/-- A head's mean of the values. -/
theorem ref_mean (d : Fin 128) : val_main_v32 (F := Ideal) x0 x1 x2 x3 x4 (ix3 h d r)
    = mean (fun x => query (fun j => x0 (ix2 r j)) (fun j => x1 (ix2 0 j)) x2 ⟨128 * h.val + x.val, by omega⟩)
        (fun j x => x3 (ix2 j ⟨128 * h.val + x.val, by omega⟩)) (fun j => x4 (ix2 j ⟨128 * h.val + d.val, by omega⟩)) := by
  rw [ref_sum]
  refine Finset.sum_congr rfl fun j _ => ?_
  rw [ref_prob, ref_total, mul_comm]
  simp only [ref_weight, ref_max, ref_score]

/-- The heads side by side. -/
theorem ref_heads (e : Fin 512) : val_main_v34 (F := Ideal) x0 x1 x2 x3 x4 (ix2 r e)
    = heads (query (fun j => x0 (ix2 r j)) (fun j => x1 (ix2 0 j)) x2) x3 x4 e := by
  have he : e.val / 128 < 4 := by omega
  refine Eq.trans ?_ ((ref_mean x0 x1 x2 x3 x4 r ⟨e.val / 128, he⟩ ⟨e.val % 128, Nat.mod_lt _ (by decide)⟩).trans
    (heads_at _ x3 x4 e (e.val / 128) ⟨e.val % 128, Nat.mod_lt _ (by decide)⟩ he (by show 128 * (e.val / 128) + e.val % 128 = e.val; omega)).symm)
  generalize hy : val_main_v32 (F := Ideal) x0 x1 x2 x3 x4 = y
  pointwise [val_main_v34, val_main_v33, hy]

/-- The reference's entries. -/
theorem ref_row (d : Fin 2048) : val_main_v36 (F := Ideal) x0 x1 x2 x3 x4 x5 (ix2 r d)
    = x0 (ix2 r d) + ∑ e : Fin 512, heads (query (fun j => x0 (ix2 r j)) (fun j => x1 (ix2 0 j)) x2) x3 x4 e * x5 (ix2 e d) := by
  pointwise [val_main_v36, val_main_v35, val_main_v3, ref_heads]

end Cert.Xattn

end
-- ==== Proof.XattnValue.lean ====
/-
The cross attention: what one grid point leaves, and what the array holds after the run.

A grid point takes 512 rows, normalizes and projects each to the queries of four heads, lets every head attend over
the 256 keys and values, and adds the heads' projection to the rows. The heads' results wait, side by side, in a
buffer that is read back whole.
-/
module

public import Idealize.ShloMosaic.Lib.Pointwise
public import Idealize.ShloMosaic.Lib.Pipeline.ValueKit.Tiles
public import proofs.«01_k».proof.Proof.Rows
public import proofs.«01_k».proof.Proof.Heads
public import proofs.«01_k».proof.Proof.XattnRef
public import proofs.«01_k».proof.Proof.Gen.XattnIdeal.Value

@[expose] public section

noncomputable section

namespace Cert.Xattn

open Idealize.ShloMosaic Idealize.ShloMosaic.TcCoe Idealize.ShloMosaic.Tactic Cert.XattnIdeal Cert.XattnIdeal.Gen
open Idealize.SL.Sem Cert.Rows

/-- The projected rows of a grid point. -/
theorem query_rows (v0 : Vec Ideal S512x2048 .f32) (v1 : Vec Ideal S1x2048 .f32) (w : Vec Ideal S2048x512 .bf16)
    (a e : Fin 512) : k0_pay3 v0 v1 w (ix2 a e) = query (fun j => v0 (ix2 a j)) (fun j => v1 (ix2 0 j)) w e := by
  pointwise [k0_pay3, query, normed]

theorem slice1 (v0 : Vec Ideal S512x2048 .f32) (v1 : Vec Ideal S1x2048 .f32) (w : Vec Ideal S2048x512 .bf16)
    (a : Fin 512) (x : Fin 128) : k0_pay5 v0 v1 w (ix2 a x) = k0_pay3 v0 v1 w (ix2 a ⟨128 + x.val, by omega⟩) := by
  pointwise [k0_pay5]

theorem slice3 (q : FVec Ideal S512x512 .bf16) (a : Fin 512) (x : Fin 128) :
    k0_pay8 q (ix2 a x) = q (ix2 a ⟨384 + x.val, by omega⟩) := by
  pointwise [k0_pay8]

theorem stored0 (v0 : Vec Ideal S512x2048 .f32) (v1 : Vec Ideal S1x2048 .f32) (w : Vec Ideal S2048x512 .bf16)
    (K V : Vec Ideal S256x128 .bf16) (a : Fin 512) (d : Fin 128) :
    k0_pay4 v0 v1 w K V (ix2 a d) = mean (fun x => k0_pay3 v0 v1 w (ix2 a ⟨x.val, by omega⟩))
      (fun j x => K (ix2 j x)) (fun j => V (ix2 j d)) := by
  unfold mean
  rw [← minus_inf]
  pointwise [k0_pay4]

theorem stored1 (q : FVec Ideal S512x128 .bf16) (K V : Vec Ideal S256x128 .bf16) (a : Fin 512) (d : Fin 128) :
    k0_pay6 q K V (ix2 a d) = mean (fun x => q (ix2 a x)) (fun j x => K (ix2 j x)) (fun j => V (ix2 j d)) := by
  unfold mean
  rw [← minus_inf]
  pointwise [k0_pay6]

theorem stored2 (q : FVec Ideal S512x512 .bf16) (K V : Vec Ideal S256x128 .bf16) (a : Fin 512) (d : Fin 128) :
    k0_pay7 q K V (ix2 a d) = mean (fun x => q (ix2 a ⟨256 + x.val, by omega⟩)) (fun j x => K (ix2 j x))
      (fun j => V (ix2 j d)) := by
  unfold mean
  rw [← minus_inf]
  pointwise [k0_pay7]

theorem stored3 (q : FVec Ideal S512x128 .bf16) (K V : Vec Ideal S256x128 .bf16) (a : Fin 512) (d : Fin 128) :
    k0_pay1 q K V (ix2 a d) = mean (fun x => q (ix2 a x)) (fun j x => K (ix2 j x)) (fun j => V (ix2 j d)) := by
  unfold mean
  rw [← minus_inf]
  pointwise [k0_pay1]

theorem stored (v0 : Vec Ideal S512x2048 .f32) (o : Vec Ideal S512x512 .bf16) (w : Vec Ideal S512x2048 .bf16)
    (a : Fin 512) (d : Fin 2048) :
    k0_pay2 v0 o w (ix2 a d) = v0 (ix2 a d) + ∑ e : Fin 512, o (ix2 a e) * w (ix2 e d) := by
  pointwise [k0_pay2]

section
variable (x0 : Vec Ideal S512x2048 .f32) (x1 : Vec Ideal S1x2048 .f32) (x2 : Vec Ideal S2048x512 .bf16)
  (x3 x4 : Vec Ideal S256x512 .bf16) (x5 : Vec Ideal S512x2048 .bf16)

/-- A load of one head's columns of the keys or values. -/
theorem columns (X : Vec Ideal S256x512 .bf16) (o : ℕ)
    (inb : ∀ x, (![0, o] : Fin 2 → ℕ) x + S256x128.size x ≤ S256x512.size x)
    (j : Fin 256) (x : Fin 128) (f : Fin 512) (hf : o + x.val = f.val) :
    View.ld X (Rect.unit (s := S256x512) ![0, o] S256x128.size inb) (ix2 j x) = X (ix2 j f) :=
  congrArg X (eq_ix2_of_val (by show 0 + 1 * j.val = j.val; omega) (by show o + 1 * x.val = f.val; omega))

/-- One head's stretch of the buffer: if its entries are the head's means, it has the heads' values where it lies. -/
theorem stretch (off : Fin 2 → ℕ) (b : ℕ) (hb : b < 4) (ho : off = ![0, 128 * b]) (w : FVec Ideal S512x128 .bf16)
    (q : Fin 512 → EReal) (a e : Fin 512)
    (h : ∀ d : Fin 128, w (ix2 a d) = mean (fun x => q ⟨128 * b + x.val, by omega⟩)
      (fun j x => x3 (ix2 j ⟨128 * b + x.val, by omega⟩)) (fun j => x4 (ix2 j ⟨128 * b + d.val, by omega⟩))) :
    View.TileAt (S := S512x512) (Val := Elt Ideal) (e := .bf16) (ix2 a e) off S512x128.size w
      (heads q x3 x4 e) := by
  subst ho
  intro y hy
  have h0 : (y 0).val = a.val := by have := hy 0; change a.val = 0 + (y 0).val at this; omega
  have h1 : 128 * b + (y 1).val = e.val := by have := hy 1; change e.val = 128 * b + (y 1).val at this; omega
  have h2 : (y 1).val < 128 := (y 1).isLt
  rw [eq_ix2_of_val (y := y) h0 (d := y 1) rfl]
  exact (h (y 1)).trans (heads_at q x3 x4 e b (y 1) hb h1).symm

/-- The buffer's four stores, read back. -/
theorem buffer (a e : Fin 512) (L : List (View.Piece (Elt Ideal) S512x512 .bf16))
    (hL : L = [⟨Rect.unit ![0, 384] ![512, 128] inb_S512x512_S512x128_0_384,
          k0_pay1 (k0_pay8 (k0_pay3 x0 x1 x2)) (View.ld x3 (Rect.unit ![0, 384] ![256, 128] inb_S256x512_S256x128_0_384))
            (View.ld x4 (Rect.unit ![0, 384] ![256, 128] inb_S256x512_S256x128_0_384))⟩,
        ⟨Rect.unit ![0, 256] ![512, 128] inb_S512x512_S512x128_0_256,
          k0_pay7 (k0_pay3 x0 x1 x2) (View.ld x3 (Rect.unit ![0, 256] ![256, 128] inb_S256x512_S256x128_0_256))
            (View.ld x4 (Rect.unit ![0, 256] ![256, 128] inb_S256x512_S256x128_0_256))⟩,
        ⟨Rect.unit ![0, 128] ![512, 128] inb_S512x512_S512x128_0_128,
          k0_pay6 (k0_pay5 x0 x1 x2) (View.ld x3 (Rect.unit ![0, 128] ![256, 128] inb_S256x512_S256x128_0_128))
            (View.ld x4 (Rect.unit ![0, 128] ![256, 128] inb_S256x512_S256x128_0_128))⟩,
        ⟨Rect.unit ![0, 0] ![512, 128] inb_S512x512_S512x128_0_0,
          k0_pay4 x0 x1 x2 (View.ld x3 (Rect.unit ![0, 0] ![256, 128] inb_S256x512_S256x128_0_0))
            (View.ld x4 (Rect.unit ![0, 0] ![256, 128] inb_S256x512_S256x128_0_0))⟩])
    (hc : ∃ p ∈ L, ix2 a e ∈ p.1.set) :
    View.canon L (ix2 a e) = heads (query (fun j => x0 (ix2 a j)) (fun j => x1 (ix2 0 j)) x2) x3 x4 e := by
  refine View.canon_eq_of_allAt L _ _ hc ?_
  subst hL
  refine View.allAt_cons_unit _ _ _ _ _ (stretch x3 x4 _ 3 (by omega) rfl _ _ a e fun d => ?_) ?_
  · rw [stored3]
    exact mean_congr (fun x => (slice3 _ a x).trans (query_rows x0 x1 x2 a _))
      (fun j x => columns x3 384 _ j x _ (by show 384 + x.val = 128 * 3 + x.val; omega))
      (fun j => columns x4 384 _ j d _ (by show 384 + d.val = 128 * 3 + d.val; omega))
  refine View.allAt_cons_unit _ _ _ _ _ (stretch x3 x4 _ 2 (by omega) rfl _ _ a e fun d => ?_) ?_
  · rw [stored2]
    exact mean_congr (fun x => query_rows x0 x1 x2 a _)
      (fun j x => columns x3 256 _ j x _ (by show 256 + x.val = 128 * 2 + x.val; omega))
      (fun j => columns x4 256 _ j d _ (by show 256 + d.val = 128 * 2 + d.val; omega))
  refine View.allAt_cons_unit _ _ _ _ _ (stretch x3 x4 _ 1 (by omega) rfl _ _ a e fun d => ?_) ?_
  · rw [stored1]
    exact mean_congr (fun x => (slice1 x0 x1 x2 a x).trans (query_rows x0 x1 x2 a _))
      (fun j x => columns x3 128 _ j x _ (by show 128 + x.val = 128 * 1 + x.val; omega))
      (fun j => columns x4 128 _ j d _ (by show 128 + d.val = 128 * 1 + d.val; omega))
  refine View.allAt_cons_unit _ _ _ _ _ (stretch x3 x4 _ 0 (by omega) rfl _ _ a e fun d => ?_) (View.allAt_nil _ _)
  · rw [stored0]
    exact mean_congr (fun x => (query_rows x0 x1 x2 a _).trans
        (congrArg (query _ _ x2) (Fin.ext (by show x.val = 128 * 0 + x.val; omega))))
      (fun j x => columns x3 0 _ j x _ (by show 0 + x.val = 128 * 0 + x.val; omega))
      (fun j => columns x4 0 _ j d _ (by show 0 + d.val = 128 * 0 + d.val; omega))

/-- The block a grid point leaves. -/
theorem out_row (c : Dev nD) (i : grid0.Coords)
  (arg1 : Memref sig .tc .vmem S512x2048 .f32) (harg1 : arg1.IsWhole)
  (arg2 : Memref sig .tc .vmem S1x2048 .f32) (harg2 : arg2.IsWhole)
  (arg3 : Memref sig .tc .vmem S2048x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S512x2048 .bf16) (harg6 : arg6.IsWhole)
  (arg7 : Memref sig .tc .vmem S512x2048 .f32) (harg7 : arg7.IsWhole)
  (arg8 : Memref sig .tc .vmem S512x512 .bf16) (harg8 : arg8.IsWhole) (a : Fin 512) (d : Fin 2048) :
    out0_A_6 (F := Ideal) c i arg1 harg1 arg2 harg2 arg3 harg3 arg4 harg4 arg5 harg5 arg6 harg6 arg7 harg7 arg8 harg8 x0 x1 x2 x3 x4 x5 (ix2 a d)
      = x0 (ix2 a d) + ∑ e : Fin 512,
          heads (query (fun j => x0 (ix2 a j)) (fun j => x1 (ix2 0 j)) x2) x3 x4 e * x5 (ix2 e d) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread,
    harg5.read_unread, harg6.read_unread]
  have e0 : View.ld x0 (Rect.unit (s := S512x2048) ![0, 0] ![512, 2048] inb_S512x2048_S512x2048_0_0) = x0 :=
    View.ld_unit_zero (S := S512x2048) zero2 _ _
  have e1 : View.ld x1 (Rect.unit (s := S1x2048) ![0, 0] ![1, 2048] inb_S1x2048_S1x2048_0_0) = x1 :=
    View.ld_unit_zero (S := S1x2048) zero2 _ _
  have e2 : View.ld x2 (Rect.unit (s := S2048x512) ![0, 0] ![2048, 512] inb_S2048x512_S2048x512_0_0) = x2 :=
    View.ld_unit_zero (S := S2048x512) zero2 _ _
  have e5 : View.ld x5 (Rect.unit (s := S512x2048) ![0, 0] ![512, 2048] inb_S512x2048_S512x2048_0_0) = x5 :=
    View.ld_unit_zero (S := S512x2048) zero2 _ _
  rw [e0, e1, e2, e5]
  refine (congrFun (View.canon_cons_unit_zero (S := S512x2048) zero2 _ _ _) (ix2 a d)).trans ?_
  refine (stored _ _ _ a d).trans ?_
  refine congrArg (x0 (ix2 a d) + ·) (Finset.sum_congr rfl fun e _ => ?_)
  refine congrArg (· * x5 (ix2 e d)) ?_
  refine (congrFun (View.readCov_eq_canon_ld (Val := Elt Ideal) (s := S512x512) (e := .bf16) arg8.view _
    (Rect.unit (s := S512x512) ![0, 0] ![512, 512] inb_S512x512_S512x512_0_0) ?_) (ix2 a e)).trans ?_
  · exact fun y => View.cover_of_tiled (s := S512x512) _ S512x128.size (by rfl) y
  refine (congrFun (View.ld_unit_zero (S := S512x512) zero2 _ _) (ix2 a e)).trans ?_
  exact buffer x0 x1 x2 x3 x4 a e _ rfl (View.cover_of_tiled (s := S512x512) _ S512x128.size (by rfl) _)

end

/-! ### The grid points and their blocks -/

theorem points_count : cfg0.N = 32 := by decide +kernel

theorem index0 (t : Fin cfg0.N) : win0_0.index t 0 = t.val ∧ win0_0.index t 1 = 0 := by
  revert t; decide +kernel

theorem index1 (t : Fin cfg0.N) : win0_1.index t 0 = 0 ∧ win0_1.index t 1 = 0 := by
  revert t; decide +kernel

theorem index2 (t : Fin cfg0.N) : win0_2.index t 0 = 0 ∧ win0_2.index t 1 = 0 := by
  revert t; decide +kernel

theorem index3 (t : Fin cfg0.N) : win0_3.index t 0 = 0 ∧ win0_3.index t 1 = 0 := by
  revert t; decide +kernel

theorem index4 (t : Fin cfg0.N) : win0_4.index t 0 = 0 ∧ win0_4.index t 1 = 0 := by
  revert t; decide +kernel

theorem index5 (t : Fin cfg0.N) : win0_5.index t 0 = 0 ∧ win0_5.index t 1 = 0 := by
  revert t; decide +kernel

theorem index6 (t : Fin cfg0.N) : win0_6.index t 0 = t.val ∧ win0_6.index t 1 = 0 := by
  revert t; decide +kernel

/-- Row `a` of a grid point's blocks, as a row of the arrays. -/
def row (t : Fin cfg0.N) (a : Fin 512) : Fin 16384 := ⟨512 * t.val + a.val, by
  have h : t.val < 32 := lt_of_lt_of_eq t.isLt points_count
  omega⟩

section
variable (m : (ℓ : Loc nD τ sig) → Buf (Elt Ideal) ℓ) (c : Dev nD)

theorem block0 (t : Fin cfg0.N) (a : Fin 512) (d : Fin 2048) :
    iblk m c 0 t (ix2 a d) = m ((c : Thread nD τ).loc main_arg0) (ix2 (row t a) d) := by
  rw [← V_main_arg0 m c]
  show V m c main_arg0 ((win0_0.rect t).emb (ix2 a d)) = _
  refine congrArg (V m c main_arg0) (eq_ix2_of_val ?_ ?_)
  · exact (Pipeline.Window.rect_emb_val win0_0 t (ix2 a d) (0 : Fin 2)).trans
      ((congrArg (fun z => z * 512 + a.val) (index0 t).1).trans (by show t.val * 512 + a.val = 512 * t.val + a.val; omega))
  · exact (Pipeline.Window.rect_emb_val win0_0 t (ix2 a d) (1 : Fin 2)).trans
      ((congrArg (fun z => z * 2048 + d.val) (index0 t).2).trans (by show 0 * 2048 + d.val = d.val; omega))

theorem block1 (t : Fin cfg0.N) : iblk m c 1 t = m ((c : Thread nD τ).loc main_arg1) := by
  funext y
  obtain ⟨a, d, rfl⟩ : ∃ (a : Fin 1) (d : Fin 2048), y = ix2 a d := ⟨y 0, y 1, eq_ix2 y⟩
  rw [← V_main_arg1 m c]
  show V m c main_arg1 ((win0_1.rect t).emb (ix2 a d)) = _
  refine congrArg (V m c main_arg1) (eq_ix2_of_val ?_ ?_)
  · exact (Pipeline.Window.rect_emb_val win0_1 t (ix2 a d) (0 : Fin 2)).trans
      ((congrArg (fun z => z * 1 + a.val) (index1 t).1).trans (by show 0 * 1 + a.val = a.val; omega))
  · exact (Pipeline.Window.rect_emb_val win0_1 t (ix2 a d) (1 : Fin 2)).trans
      ((congrArg (fun z => z * 2048 + d.val) (index1 t).2).trans (by show 0 * 2048 + d.val = d.val; omega))

theorem block2 (t : Fin cfg0.N) : iblk m c 2 t = m ((c : Thread nD τ).loc main_arg2) := by
  funext y
  obtain ⟨a, d, rfl⟩ : ∃ (a : Fin 2048) (d : Fin 512), y = ix2 a d := ⟨y 0, y 1, eq_ix2 y⟩
  rw [← V_main_arg2 m c]
  show V m c main_arg2 ((win0_2.rect t).emb (ix2 a d)) = _
  refine congrArg (V m c main_arg2) (eq_ix2_of_val ?_ ?_)
  · exact (Pipeline.Window.rect_emb_val win0_2 t (ix2 a d) (0 : Fin 2)).trans
      ((congrArg (fun z => z * 2048 + a.val) (index2 t).1).trans (by show 0 * 2048 + a.val = a.val; omega))
  · exact (Pipeline.Window.rect_emb_val win0_2 t (ix2 a d) (1 : Fin 2)).trans
      ((congrArg (fun z => z * 512 + d.val) (index2 t).2).trans (by show 0 * 512 + d.val = d.val; omega))

theorem block3 (t : Fin cfg0.N) : iblk m c 3 t = m ((c : Thread nD τ).loc main_arg3) := by
  funext y
  obtain ⟨a, d, rfl⟩ : ∃ (a : Fin 256) (d : Fin 512), y = ix2 a d := ⟨y 0, y 1, eq_ix2 y⟩
  rw [← V_main_arg3 m c]
  show V m c main_arg3 ((win0_3.rect t).emb (ix2 a d)) = _
  refine congrArg (V m c main_arg3) (eq_ix2_of_val ?_ ?_)
  · exact (Pipeline.Window.rect_emb_val win0_3 t (ix2 a d) (0 : Fin 2)).trans
      ((congrArg (fun z => z * 256 + a.val) (index3 t).1).trans (by show 0 * 256 + a.val = a.val; omega))
  · exact (Pipeline.Window.rect_emb_val win0_3 t (ix2 a d) (1 : Fin 2)).trans
      ((congrArg (fun z => z * 512 + d.val) (index3 t).2).trans (by show 0 * 512 + d.val = d.val; omega))

theorem block4 (t : Fin cfg0.N) : iblk m c 4 t = m ((c : Thread nD τ).loc main_arg4) := by
  funext y
  obtain ⟨a, d, rfl⟩ : ∃ (a : Fin 256) (d : Fin 512), y = ix2 a d := ⟨y 0, y 1, eq_ix2 y⟩
  rw [← V_main_arg4 m c]
  show V m c main_arg4 ((win0_4.rect t).emb (ix2 a d)) = _
  refine congrArg (V m c main_arg4) (eq_ix2_of_val ?_ ?_)
  · exact (Pipeline.Window.rect_emb_val win0_4 t (ix2 a d) (0 : Fin 2)).trans
      ((congrArg (fun z => z * 256 + a.val) (index4 t).1).trans (by show 0 * 256 + a.val = a.val; omega))
  · exact (Pipeline.Window.rect_emb_val win0_4 t (ix2 a d) (1 : Fin 2)).trans
      ((congrArg (fun z => z * 512 + d.val) (index4 t).2).trans (by show 0 * 512 + d.val = d.val; omega))

theorem block5 (t : Fin cfg0.N) : iblk m c 5 t = m ((c : Thread nD τ).loc main_arg5) := by
  funext y
  obtain ⟨a, d, rfl⟩ : ∃ (a : Fin 512) (d : Fin 2048), y = ix2 a d := ⟨y 0, y 1, eq_ix2 y⟩
  rw [← V_main_arg5 m c]
  show V m c main_arg5 ((win0_5.rect t).emb (ix2 a d)) = _
  refine congrArg (V m c main_arg5) (eq_ix2_of_val ?_ ?_)
  · exact (Pipeline.Window.rect_emb_val win0_5 t (ix2 a d) (0 : Fin 2)).trans
      ((congrArg (fun z => z * 512 + a.val) (index5 t).1).trans (by show 0 * 512 + a.val = a.val; omega))
  · exact (Pipeline.Window.rect_emb_val win0_5 t (ix2 a d) (1 : Fin 2)).trans
      ((congrArg (fun z => z * 2048 + d.val) (index5 t).2).trans (by show 0 * 2048 + d.val = d.val; omega))

/-- The reference's result of the arguments the program is launched on. -/
abbrev result : Vec Ideal S16384x2048 .f32 :=
  Cert.XattnReferenceIdeal.Read.val_main_v36 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5))

/-- What grid point `t` leaves at row `a` and column `d` of its block. -/
theorem point_row (t : Fin cfg0.N) (a : Fin 512) (d : Fin 2048) :
    outsAt0 m c t (ix2 a d) = result m c (ix2 (row t a) d) := by
  unfold outsAt0
  refine (out_row _ _ _ _ _ _ _ _ _ _ _ _ _ _ _ _ _ _ _ _ _ _ _ _ a d).trans
    ((ref_row _ _ _ _ _ _ (row t a) d).trans ?_).symm
  simp only [block0]
  rw [block1, block2, block3, block4, block5]

/-- Reading an array through a grid point's output block. -/
theorem read_block (G : Vec Ideal S16384x2048 .f32) (t : Fin cfg0.N) (a : Fin 512) (d : Fin 2048) :
    (win0_6.blk t).view.read (Elt Ideal) G (ix2 a d) = G ((win0_6.rect t).emb (ix2 a d)) := rfl

/-- What grid point `t` writes back is its block of the result. -/
theorem point_result (t : Fin cfg0.N) :
    (dats m 0 c).flushed 6 t = (win0_6.blk t).view.read (Elt Ideal) (result m c) := by
  obtain ⟨e0, e1⟩ := index6 t
  rw [Value.flushed6]
  funext y
  obtain ⟨a, d, rfl⟩ : ∃ (a : Fin 512) (d : Fin 2048), y = ix2 a d := ⟨y 0, y 1, eq_ix2 y⟩
  refine (point_row m c t a d).trans ?_
  refine Eq.trans ?_ (read_block (result m c) t a d).symm
  refine congrArg (result m c) (eq_ix2_of_val ?_ ?_).symm
  · refine (Pipeline.Window.rect_emb_val win0_6 t (ix2 a d) (0 : Fin 2)).trans ?_
    exact (congrArg (fun z => z * 512 + a.val) e0).trans (by show t.val * 512 + a.val = 512 * t.val + a.val; omega)
  · refine (Pipeline.Window.rect_emb_val win0_6 t (ix2 a d) (1 : Fin 2)).trans ?_
    exact (congrArg (fun z => z * 2048 + d.val) e1).trans (by omega)

/-- Which indices a grid point's output block holds. -/
theorem mem_block (t : Fin cfg0.N) (y : S16384x2048.Idx) :
    y ∈ ((cfg0.win 6).blk t).view.set
      ↔ ∀ x : Fin 2, win0_6.index t x * (![512, 2048] : Fin 2 → ℕ) x ≤ (y x).val
          ∧ (y x).val < win0_6.index t x * (![512, 2048] : Fin 2 → ℕ) x + (![512, 2048] : Fin 2 → ℕ) x := by
  show y ∈ ((View.whole main_v0).slice (win0_6.rect t)).set ↔ _
  rw [View.set_slice_whole, Rect.mem_set_unit]
  exact Iff.rfl

/-- The blocks cover the array. -/
theorem covered (y : S16384x2048.Idx) :
    ∃ t : Fin cfg0.N, (cfg0.win 6).flush t = true ∧ y ∈ ((cfg0.win 6).blk t).view.set := by
  have h0 : (y 0).val < 16384 := (y 0).isLt
  have h1 : (y 1).val < 2048 := (y 1).isLt
  have ht : (y 0).val / 512 < cfg0.N := by rw [points_count]; omega
  refine ⟨⟨_, ht⟩, flush0_6 _, ?_⟩
  rw [mem_block]
  obtain ⟨e0, e1⟩ := index6 ⟨_, ht⟩
  dsimp only at e0
  intro x
  match x with
  | ⟨0, _⟩ =>
    show win0_6.index _ 0 * 512 ≤ (y 0).val ∧ (y 0).val < win0_6.index _ 0 * 512 + 512
    rw [e0]; omega
  | ⟨1, _⟩ =>
    show win0_6.index _ 1 * 2048 ≤ (y 1).val ∧ (y 1).val < win0_6.index _ 1 * 2048 + 2048
    rw [e1]; omega

/-- The array after the run. -/
theorem array_result : (dats m 0 c).arrAt 6 cfg0.N = result m c :=
  (dats m 0 c).arrAt_eq_of_cover 6 (result m c) (fun t _ => point_result m c t) covered

end

end Cert.Xattn

end
-- ==== Proof.Latent.lean ====
/-
The latent projections: the expressions of one row of the arguments that both programs compute, and what the reference
leaves, entry by entry.
-/
module

public import Idealize.ShloMosaic.Lib.Pointwise
public import proofs.«01_k».proof.Proof.Rows
public import proofs.«01_k».proof.Proof.Gen.MlaprepReferenceIdeal.Read

@[expose] public section

noncomputable section

namespace Cert.Mlaprep

open Idealize.ShloMosaic Cert.MlaprepReferenceIdeal Cert.MlaprepReferenceIdeal.Read Cert.Rows

/-- Half of a latent row over the root of its mean square, times a gain. -/
def unit (x g : Fin 512 → EReal) (k : Fin 512) : EReal :=
  x k * Ideal.rsqrt (Ideal.div (∑ j : Fin 512, x j * x j) (Ideal.ofBits .f32 0x44000000#32)
    + Ideal.ofBits .f32 0x358637BD#32) * g k

/-- A normalized row times a column of a matrix. -/
def proj {n : ℕ} (x g : Fin 512 → EReal) (w : (⟨2, ![512, n]⟩ : Shape).Idx → EReal) (e : Fin n) : EReal :=
  ∑ k : Fin 512, unit x g k * w (ix2 k e)

/-- The angle of a position at a frequency. -/
def angle (p : BitVec 32) (f : EReal) : EReal := ((p.toInt : ℝ) : EReal) * f

/-- A pair of coordinates rotated by an angle. -/
def rotated (u v t : EReal) : EReal := u * Ideal.cos t + v * Ideal.sin t

/-- The columns of a latent row that give the queries. -/
def forQ (x : Fin 1280 → EReal) (k : Fin 512) : EReal := x ⟨k.val, by omega⟩

/-- The columns of a latent row that give the keys and the values. -/
def forK (x : Fin 1280 → EReal) (k : Fin 512) : EReal := x ⟨512 + k.val, by omega⟩

/-- The rotated part of the keys. -/
def keyTurn (x : Fin 1280 → EReal) (p : BitVec 32) (f : Fin 128 → EReal) (d : Fin 128) : EReal :=
  rotated (x ⟨1024 + d.val, by omega⟩) (x ⟨1152 + d.val, by omega⟩) (angle p (f d))

variable (x0 : Vec Ideal S16384x1280 .bf16) (x1 : Vec Ideal S16384x1 .i32) (x2 : Vec Ideal S1x128 .f32)
  (x3 x4 : Vec Ideal S1x512 .f32) (x5 : Vec Ideal S512x4096 .bf16) (x6 x7 x8 : Vec Ideal S512x2048 .bf16)
  (r : Fin 16384) (h : Fin 16) (d : Fin 128)

theorem ref_unitQ (k : Fin 512) : val_main_v20 (F := Ideal) x0 x3 (ix2 r k)
    = unit (forQ fun j => x0 (ix2 r j)) (fun j => x3 (ix2 0 j)) k := by
  pointwise [val_main_v0, val_main_v5, val_main_v9, val_main_v10, val_main_v11, val_main_v12, val_main_v13,
    val_main_v14, val_main_v15, val_main_v16, val_main_v17, val_main_v18, val_main_v19, val_main_v20, val_main_cst,
    val_main_cst_0, val_main_cst_1, unit, forQ]

theorem ref_unitK (k : Fin 512) : val_main_v32 (F := Ideal) x0 x4 (ix2 r k)
    = unit (forK fun j => x0 (ix2 r j)) (fun j => x4 (ix2 0 j)) k := by
  pointwise [val_main_v0, val_main_v6, val_main_v21, val_main_v22, val_main_v23, val_main_v24, val_main_v25,
    val_main_v26, val_main_v27, val_main_v28, val_main_v29, val_main_v30, val_main_v31, val_main_v32, val_main_cst_2,
    val_main_cst_3, val_main_cst_4, unit, forK]

theorem ref_cos : val_main_v37 (F := Ideal) x1 x2 (ix2 r d) = Ideal.cos (angle (x1 (ix2 r 0)) (x2 (ix2 0 d))) := by
  pointwise [val_main_v33, val_main_v34, val_main_v35, val_main_v36, val_main_v37, angle]
  rfl

theorem ref_sin : val_main_v38 (F := Ideal) x1 x2 (ix2 r d) = Ideal.sin (angle (x1 (ix2 r 0)) (x2 (ix2 0 d))) := by
  pointwise [val_main_v33, val_main_v34, val_main_v35, val_main_v36, val_main_v38, angle]
  rfl

theorem ref_query (e : Fin 4096) : val_main_v39 (F := Ideal) x0 x3 x5 (ix2 r e)
    = proj (forQ fun j => x0 (ix2 r j)) (fun j => x3 (ix2 0 j)) x5 e := by
  pointwise [val_main_v1, val_main_v39, ref_unitQ, proj]

theorem ref_queryTurned (e : Fin 2048) : val_main_v41 (F := Ideal) x0 x3 x6 (ix2 r e)
    = proj (forQ fun j => x0 (ix2 r j)) (fun j => x3 (ix2 0 j)) x6 e := by
  pointwise [val_main_v2, val_main_v41, ref_unitQ, proj]

theorem ref_key (e : Fin 2048) : val_main_v53 (F := Ideal) x0 x4 x7 (ix2 r e)
    = proj (forK fun j => x0 (ix2 r j)) (fun j => x4 (ix2 0 j)) x7 e := by
  pointwise [val_main_v3, val_main_v53, ref_unitK, proj]

theorem ref_value (e : Fin 2048) : val_main_v61 (F := Ideal) x0 x4 x8 (ix2 r e)
    = proj (forK fun j => x0 (ix2 r j)) (fun j => x4 (ix2 0 j)) x8 e := by
  pointwise [val_main_v4, val_main_v61, ref_unitK, proj]

/-- The first half of a head's query. -/
theorem ref_q_low : val_main_v64 (F := Ideal) x0 x1 x2 x3 x5 x6 (ix3 h r ⟨d.val, by omega⟩)
    = proj (forQ fun j => x0 (ix2 r j)) (fun j => x3 (ix2 0 j)) x5 ⟨256 * h.val + d.val, by omega⟩ := by
  have hd : d.val < 128 := d.isLt
  pointwise [val_main_v64, val_main_v63, val_main_v52, val_main_v51, val_main_v40, ref_query]
  simp only [hd, dif_pos, if_pos, Nat.mul_comm _ 256]

/-- The second half of a head's query. -/
theorem ref_q_high : val_main_v64 (F := Ideal) x0 x1 x2 x3 x5 x6 (ix3 h r ⟨128 + d.val, by omega⟩)
    = rotated (proj (forQ fun j => x0 (ix2 r j)) (fun j => x3 (ix2 0 j)) x5 ⟨256 * h.val + (128 + d.val), by omega⟩)
        (proj (forQ fun j => x0 (ix2 r j)) (fun j => x3 (ix2 0 j)) x6 ⟨128 * h.val + d.val, by omega⟩)
        (angle (x1 (ix2 r 0)) (x2 (ix2 0 d))) := by
  have hd : ¬ 128 + d.val < 128 := by omega
  pointwise [val_main_v64, val_main_v63, val_main_v52, val_main_v50, val_main_v49, val_main_v48, val_main_v47,
    val_main_v46, val_main_v45, val_main_v44, val_main_v43, val_main_v42, val_main_v40, ref_query, ref_queryTurned,
    ref_cos, ref_sin, rotated]
  simp only [Nat.mul_comm _ 256, Nat.mul_comm _ 128]

/-- The first half of a head's key. -/
theorem ref_k_low : val_main_v66 (F := Ideal) x0 x1 x2 x4 x7 (ix3 h r ⟨d.val, by omega⟩)
    = proj (forK fun j => x0 (ix2 r j)) (fun j => x4 (ix2 0 j)) x7 ⟨128 * h.val + d.val, by omega⟩ := by
  have hd : d.val < 128 := d.isLt
  pointwise [val_main_v66, val_main_v65, val_main_v60, val_main_v54, ref_key]
  simp only [hd, dif_pos, if_pos, Nat.mul_comm _ 128]

/-- The second half of a head's key is the same for every head. -/
theorem ref_k_high : val_main_v66 (F := Ideal) x0 x1 x2 x4 x7 (ix3 h r ⟨128 + d.val, by omega⟩)
    = keyTurn (fun j => x0 (ix2 r j)) (x1 (ix2 r 0)) (fun j => x2 (ix2 0 j)) d := by
  have hd : ¬ 128 + d.val < 128 := by omega
  pointwise [val_main_v66, val_main_v65, val_main_v60, val_main_v59, val_main_v58, val_main_v57, val_main_v56,
    val_main_v55, val_main_v8, val_main_v7, val_main_v0, ref_cos, ref_sin, keyTurn, rotated]

/-- A head's value. -/
theorem ref_v : val_main_v68 (F := Ideal) x0 x4 x8 (ix3 h r d)
    = proj (forK fun j => x0 (ix2 r j)) (fun j => x4 (ix2 0 j)) x8 ⟨128 * h.val + d.val, by omega⟩ := by
  pointwise [val_main_v68, val_main_v67, val_main_v62, ref_value]
  simp only [Nat.mul_comm _ 128]

end Cert.Mlaprep

end
-- ==== Proof.MlaprepValue.lean ====
/-
The latent projections: what one grid point leaves.

A grid point takes 256 rows, normalizes the two halves of each latent row and multiplies them by whole matrices; a head's
stretch of columns goes to the head's rows of the result, the second half of a query rotated by the row's angles, and
the second half of every key one rotated part of the latent row.
-/
module

public import Idealize.ShloMosaic.Lib.Pointwise
public import Idealize.ShloMosaic.Lib.Pipeline.ValueKit.Tiles
public import proofs.«01_k».proof.Proof.Latent
public import proofs.«01_k».proof.Proof.Gen.MlaprepIdeal.Value

@[expose] public section

noncomputable section

namespace Cert.Mlaprep

open Idealize.ShloMosaic Idealize.ShloMosaic.TcCoe Cert.MlaprepIdeal Cert.MlaprepIdeal.Gen Idealize.SL.Sem Cert.Rows

/-- Two indices with the same coordinates read the same entry. -/
theorem read2 {n k : ℕ} {α : Type} (Q : (⟨2, ![n, k]⟩ : Shape).Idx → α) {y z : (⟨2, ![n, k]⟩ : Shape).Idx}
    (h0 : (y 0).val = (z 0).val) (h1 : (y 1).val = (z 1).val) : Q y = Q z :=
  congrArg Q (funext fun x => match x with
    | ⟨0, _⟩ => Fin.ext h0
    | ⟨1, _⟩ => Fin.ext h1)

/-! ### The pieces a grid point stores -/

/-- A stretch of columns stored as one head's rows. -/
theorem cut {n : ℕ} (Q : FVec Ideal ⟨2, ![256, n]⟩ .f32) (o : ℕ) (z : S1x256x128.Idx)
    (i : (⟨2, ![256, n]⟩ : Shape).Idx) (i0 : (i 0).val = (z 1).val) (i1 : (i 1).val = o + (z 2).val)
    (hs : Shape.Slices ⟨2, ![256, n]⟩ ![0, o] S256x128) (hb : FTy.bf16.bits < FTy.f32.bits)
    (hc : Shape.ShapeCasts S256x128 S1x256x128) :
    shapeCast S1x256x128 (truncf .bf16 (extractStridedSlice S256x128 ![0, o] Q hs) hb) hc z = Q i := by
  obtain ⟨u, a, d, rfl⟩ : ∃ (u : Fin 1) (a : Fin 256) (d : Fin 128), z = ix3 u a d := ⟨z 0, z 1, z 2, eq_ix3 z⟩
  pointwise
  exact read2 Q ((Nat.zero_add _).trans i0.symm) i1.symm

/-- The sum of two stretches of columns, each times an array of factors, stored as one head's rows. -/
theorem cut_sum {n k : ℕ} (P : FVec Ideal ⟨2, ![256, n]⟩ .f32) (Q : FVec Ideal ⟨2, ![256, k]⟩ .f32)
    (C S : FVec Ideal S256x128 .f32) (o q : ℕ) (z : S1x256x128.Idx)
    (i : (⟨2, ![256, n]⟩ : Shape).Idx) (j : (⟨2, ![256, k]⟩ : Shape).Idx) (l : S256x128.Idx)
    (i0 : (i 0).val = (z 1).val) (i1 : (i 1).val = o + (z 2).val)
    (j0 : (j 0).val = (z 1).val) (j1 : (j 1).val = q + (z 2).val)
    (l0 : (l 0).val = (z 1).val) (l1 : (l 1).val = (z 2).val)
    (hp : Shape.Slices ⟨2, ![256, n]⟩ ![0, o] S256x128) (hq : Shape.Slices ⟨2, ![256, k]⟩ ![0, q] S256x128)
    (hb : FTy.bf16.bits < FTy.f32.bits) (hc : Shape.ShapeCasts S256x128 S1x256x128) :
    shapeCast S1x256x128 (truncf .bf16 (addf (mulf (extractStridedSlice S256x128 ![0, o] P hp) C)
      (mulf (extractStridedSlice S256x128 ![0, q] Q hq) S)) hb) hc z = P i * C l + Q j * S l := by
  obtain ⟨u, a, d, rfl⟩ : ∃ (u : Fin 1) (a : Fin 256) (d : Fin 128), z = ix3 u a d := ⟨z 0, z 1, z 2, eq_ix3 z⟩
  pointwise
  exact congrArg₂ (· + ·) (congrArg₂ (· * ·) (read2 P ((Nat.zero_add _).trans i0.symm) i1.symm) (read2 C l0.symm l1.symm))
    (congrArg₂ (· * ·) (read2 Q ((Nat.zero_add _).trans j0.symm) j1.symm) (read2 S l0.symm l1.symm))

/-- An array stored as one head's rows. -/
theorem put (Q : FVec Ideal S256x128 .bf16) (z : S1x256x128.Idx) (i : S256x128.Idx)
    (i0 : (i 0).val = (z 1).val) (i1 : (i 1).val = (z 2).val) (hc : Shape.ShapeCasts S256x128 S1x256x128) :
    shapeCast S1x256x128 Q hc z = Q i := by
  obtain ⟨u, a, d, rfl⟩ : ∃ (u : Fin 1) (a : Fin 256) (d : Fin 128), z = ix3 u a d := ⟨z 0, z 1, z 2, eq_ix3 z⟩
  pointwise
  exact read2 Q i0.symm i1.symm

/-! ### The shared arrays, entry by entry -/

theorem cos_entry (p : Vec Ideal S256x1 .i32) (f : Vec Ideal S1x128 .f32) (a : Fin 256) (d : Fin 128) :
    k0_pay4 p f (ix2 a d) = Ideal.cos (angle (p (ix2 a 0)) (f (ix2 0 d))) := by
  pointwise [k0_pay4, k0_pay3, angle]
  rfl

theorem sin_entry (p : Vec Ideal S256x1 .i32) (f : Vec Ideal S1x128 .f32) (a : Fin 256) (d : Fin 128) :
    k0_pay5 p f (ix2 a d) = Ideal.sin (angle (p (ix2 a 0)) (f (ix2 0 d))) := by
  pointwise [k0_pay5, k0_pay3, angle]
  rfl

theorem unitQ_entry (x : Vec Ideal S256x1280 .bf16) (g : Vec Ideal S1x512 .f32) (a : Fin 256) (k : Fin 512) :
    k0_pay6 x g (ix2 a k) = unit (forQ fun j => x (ix2 a j)) (fun j => g (ix2 0 j)) k := by
  pointwise [k0_pay6, k0_pay2, unit, forQ]

theorem unitK_entry (x : Vec Ideal S256x1280 .bf16) (g : Vec Ideal S1x512 .f32) (a : Fin 256) (k : Fin 512) :
    k0_pay48 (k0_pay2 x) g (ix2 a k) = unit (forK fun j => x (ix2 a j)) (fun j => g (ix2 0 j)) k := by
  pointwise [k0_pay48, k0_pay2, unit, forK]

theorem query_entry (x : Vec Ideal S256x1280 .bf16) (g : Vec Ideal S1x512 .f32) (w : Vec Ideal S512x4096 .bf16)
    (a : Fin 256) (e : Fin 4096) :
    k0_pay7 x g w (ix2 a e) = proj (forQ fun j => x (ix2 a j)) (fun j => g (ix2 0 j)) w e := by
  pointwise [k0_pay7, unitQ_entry, proj]

theorem turned_entry (x : Vec Ideal S256x1280 .bf16) (g : Vec Ideal S1x512 .f32) (w : Vec Ideal S512x2048 .bf16)
    (a : Fin 256) (e : Fin 2048) :
    k0_pay8 x g w (ix2 a e) = proj (forQ fun j => x (ix2 a j)) (fun j => g (ix2 0 j)) w e := by
  pointwise [k0_pay8, unitQ_entry, proj]

theorem key_entry (x : Vec Ideal S256x1280 .bf16) (g : Vec Ideal S1x512 .f32) (w : Vec Ideal S512x2048 .bf16)
    (a : Fin 256) (e : Fin 2048) : k0_pay49 (k0_pay48 (k0_pay2 x) g) w (ix2 a e)
      = proj (forK fun j => x (ix2 a j)) (fun j => g (ix2 0 j)) w e := by
  pointwise [k0_pay49, unitK_entry, proj]

theorem value_entry (x : Vec Ideal S256x1280 .bf16) (g : Vec Ideal S1x512 .f32) (w : Vec Ideal S512x2048 .bf16)
    (a : Fin 256) (e : Fin 2048) : k0_pay50 (k0_pay48 (k0_pay2 x) g) w (ix2 a e)
      = proj (forK fun j => x (ix2 a j)) (fun j => g (ix2 0 j)) w e := by
  pointwise [k0_pay50, unitK_entry, proj]

theorem keyTurn_entry (x : Vec Ideal S256x1280 .bf16) (p : Vec Ideal S256x1 .i32) (f : Vec Ideal S1x128 .f32)
    (a : Fin 256) (d : Fin 128) : k0_pay51 (k0_pay2 x) (k0_pay4 p f) (k0_pay5 p f) (ix2 a d)
      = keyTurn (fun j => x (ix2 a j)) (p (ix2 a 0)) (fun j => f (ix2 0 j)) d := by
  pointwise [k0_pay51, k0_pay2, cos_entry, sin_entry, keyTurn, rotated]

/-! ### What a grid point leaves -/

section
variable (x0 : Vec Ideal S256x1280 .bf16) (x1 : Vec Ideal S256x1 .i32) (x2 : Vec Ideal S1x128 .f32)
  (x3 x4 : Vec Ideal S1x512 .f32) (x5 : Vec Ideal S512x4096 .bf16) (x6 x7 x8 : Vec Ideal S512x2048 .bf16)

/-- The first half of a head's query: a stretch of columns of the product. -/
theorem piece_q_low (y : S16x256x256.Idx) (i : S256x4096.Idx) (i0 : (i 0).val = (y 1).val)
    (i1 : (i 1).val = 256 * (y 0).val + (y 2).val) (hy : (y 2).val < 128) :
    out0_9 x0 x1 x2 x3 x4 x5 x6 x7 x8 y = k0_pay7 x0 x3 x5 i := by
  canon_tiles z hz using cover0_9 ..
  all_goals first
    | (exfalso; omega)
    | (open_payloads; refine cut _ _ z i ?_ ?_ _ _ _ <;> omega)

/-- The second half of a head's query. -/
theorem piece_q_high (y : S16x256x256.Idx) (i : S256x4096.Idx) (j : S256x2048.Idx) (l : S256x128.Idx)
    (i0 : (i 0).val = (y 1).val) (i1 : (i 1).val = 256 * (y 0).val + (y 2).val)
    (j0 : (j 0).val = (y 1).val) (j1 : (j 1).val + 128 = 128 * (y 0).val + (y 2).val)
    (l0 : (l 0).val = (y 1).val) (l1 : (l 1).val + 128 = (y 2).val) :
    out0_9 x0 x1 x2 x3 x4 x5 x6 x7 x8 y
      = k0_pay7 x0 x3 x5 i * k0_pay4 x1 x2 l + k0_pay8 x0 x3 x6 j * k0_pay5 x1 x2 l := by
  canon_tiles z hz using cover0_9 ..
  all_goals first
    | (exfalso; omega)
    | (open_payloads; refine cut_sum _ _ _ _ _ _ z i j l ?_ ?_ ?_ ?_ ?_ ?_ _ _ _ _ <;> omega)

/-- The first half of a head's key. -/
theorem piece_k_low (y : S16x256x256.Idx) (i : S256x2048.Idx) (i0 : (i 0).val = (y 1).val)
    (i1 : (i 1).val = 128 * (y 0).val + (y 2).val) (hy : (y 2).val < 128) :
    out0_10 x0 x1 x2 x3 x4 x5 x6 x7 x8 y = k0_pay49 (k0_pay48 (k0_pay2 x0) x4) x7 i := by
  canon_tiles z hz using cover0_10 ..
  all_goals first
    | (exfalso; omega)
    | (open_payloads; refine cut _ _ z i ?_ ?_ _ _ _ <;> omega)

/-- The second half of a head's key. -/
theorem piece_k_high (y : S16x256x256.Idx) (i : S256x128.Idx) (i0 : (i 0).val = (y 1).val)
    (i1 : (i 1).val + 128 = (y 2).val) :
    out0_10 x0 x1 x2 x3 x4 x5 x6 x7 x8 y = k0_pay51 (k0_pay2 x0) (k0_pay4 x1 x2) (k0_pay5 x1 x2) i := by
  canon_tiles z hz using cover0_10 ..
  all_goals first
    | (exfalso; omega)
    | (open_payloads; refine put _ z i ?_ ?_ _ <;> omega)

/-- A head's value. -/
theorem piece_v (y : S16x256x128.Idx) (i : S256x2048.Idx) (i0 : (i 0).val = (y 1).val)
    (i1 : (i 1).val = 128 * (y 0).val + (y 2).val) :
    out0_11 x0 x1 x2 x3 x4 x5 x6 x7 x8 y = k0_pay50 (k0_pay48 (k0_pay2 x0) x4) x8 i := by
  canon_tiles z hz using cover0_11 ..
  all_goals (open_payloads; refine cut _ _ z i ?_ ?_ _ _ _ <;> omega)

variable (h : Fin 16) (a : Fin 256) (d : Fin 128)

theorem out_q_low : out0_9 x0 x1 x2 x3 x4 x5 x6 x7 x8 (ix3 h a ⟨d.val, by omega⟩)
    = proj (forQ fun j => x0 (ix2 a j)) (fun j => x3 (ix2 0 j)) x5 ⟨256 * h.val + d.val, by omega⟩ :=
  (piece_q_low x0 x1 x2 x3 x4 x5 x6 x7 x8 _ (ix2 a ⟨256 * h.val + d.val, by omega⟩) rfl rfl d.isLt).trans
    (query_entry x0 x3 x5 a _)

theorem out_q_high : out0_9 x0 x1 x2 x3 x4 x5 x6 x7 x8 (ix3 h a ⟨128 + d.val, by omega⟩)
    = rotated (proj (forQ fun j => x0 (ix2 a j)) (fun j => x3 (ix2 0 j)) x5 ⟨256 * h.val + (128 + d.val), by omega⟩)
        (proj (forQ fun j => x0 (ix2 a j)) (fun j => x3 (ix2 0 j)) x6 ⟨128 * h.val + d.val, by omega⟩)
        (angle (x1 (ix2 a 0)) (x2 (ix2 0 d))) := by
  refine (piece_q_high x0 x1 x2 x3 x4 x5 x6 x7 x8 _ (ix2 a ⟨256 * h.val + (128 + d.val), by omega⟩)
    (ix2 a ⟨128 * h.val + d.val, by omega⟩) (ix2 a d) rfl rfl rfl ?_ rfl ?_).trans ?_
  · show 128 * h.val + d.val + 128 = 128 * h.val + (128 + d.val); omega
  · show d.val + 128 = 128 + d.val; omega
  · rw [query_entry, turned_entry, cos_entry, sin_entry, rotated]

theorem out_k_low : out0_10 x0 x1 x2 x3 x4 x5 x6 x7 x8 (ix3 h a ⟨d.val, by omega⟩)
    = proj (forK fun j => x0 (ix2 a j)) (fun j => x4 (ix2 0 j)) x7 ⟨128 * h.val + d.val, by omega⟩ :=
  (piece_k_low x0 x1 x2 x3 x4 x5 x6 x7 x8 _ (ix2 a ⟨128 * h.val + d.val, by omega⟩) rfl rfl d.isLt).trans
    (key_entry x0 x4 x7 a _)

theorem out_k_high : out0_10 x0 x1 x2 x3 x4 x5 x6 x7 x8 (ix3 h a ⟨128 + d.val, by omega⟩)
    = keyTurn (fun j => x0 (ix2 a j)) (x1 (ix2 a 0)) (fun j => x2 (ix2 0 j)) d :=
  (piece_k_high x0 x1 x2 x3 x4 x5 x6 x7 x8 _ (ix2 a d) rfl
    (by show d.val + 128 = 128 + d.val; omega)).trans (keyTurn_entry x0 x1 x2 a d)

theorem out_v : out0_11 x0 x1 x2 x3 x4 x5 x6 x7 x8 (ix3 h a d)
    = proj (forK fun j => x0 (ix2 a j)) (fun j => x4 (ix2 0 j)) x8 ⟨128 * h.val + d.val, by omega⟩ :=
  (piece_v x0 x1 x2 x3 x4 x5 x6 x7 x8 _ (ix2 a ⟨128 * h.val + d.val, by omega⟩) rfl rfl).trans
    (value_entry x0 x4 x8 a _)

end

end Cert.Mlaprep

end
-- ==== Proof.MlaprepArray.lean ====
/-
The latent projections: what the three arrays hold after the run.

Grid point `t` takes rows `256 t` to `256 t + 255` of the latent array and of the positions, and all of every other
argument; it writes those rows of every head.
-/
module

public import proofs.«01_k».proof.Proof.MlaprepValue

@[expose] public section

noncomputable section

namespace Cert.Mlaprep

open Idealize.ShloMosaic Idealize.ShloMosaic.TcCoe Cert.MlaprepIdeal Cert.MlaprepIdeal.Gen Idealize.SL.Sem Cert.Rows

/-- A column of 256 lies in the first or in the second half. -/
theorem halves (e : Fin 256) : (∃ d : Fin 128, e = ⟨d.val, by omega⟩) ∨ ∃ d : Fin 128, e = ⟨128 + d.val, by omega⟩ := by
  by_cases h : e.val < 128
  · exact .inl ⟨⟨e.val, h⟩, rfl⟩
  · exact .inr ⟨⟨e.val - 128, by omega⟩, Fin.ext (by show e.val = 128 + (e.val - 128); omega)⟩

/-! ### Where the blocks lie -/

theorem points_count : cfg0.N = 64 := by decide +kernel

/-- The two arguments of which a grid point takes its rows. -/
theorem row_index (t : Fin cfg0.N) : (win0_0.index t 0 = t.val ∧ win0_0.index t 1 = 0)
    ∧ win0_1.index t 0 = t.val ∧ win0_1.index t 1 = 0 := by
  revert t; decide +kernel

/-- The arguments of which it takes everything. -/
theorem whole_index (t : Fin cfg0.N) : (∀ x : Fin 2, win0_2.index t x = 0) ∧ (∀ x : Fin 2, win0_3.index t x = 0)
    ∧ (∀ x : Fin 2, win0_4.index t x = 0) ∧ (∀ x : Fin 2, win0_5.index t x = 0) ∧ (∀ x : Fin 2, win0_6.index t x = 0)
    ∧ (∀ x : Fin 2, win0_7.index t x = 0) ∧ ∀ x : Fin 2, win0_8.index t x = 0 := by
  revert t; decide +kernel

/-- The results. -/
theorem out_index (t : Fin cfg0.N) : (∀ x : Fin 3, win0_9.index t x = (![0, t.val, 0] : Fin 3 → ℕ) x)
    ∧ (∀ x : Fin 3, win0_10.index t x = (![0, t.val, 0] : Fin 3 → ℕ) x)
    ∧ ∀ x : Fin 3, win0_11.index t x = (![0, t.val, 0] : Fin 3 → ℕ) x := by
  revert t; decide +kernel

/-- Row `a` of a grid point's blocks, as a row of the arrays. -/
def row (t : Fin cfg0.N) (a : Fin 256) : Fin 16384 := ⟨256 * t.val + a.val, by
  have h : t.val < 64 := lt_of_lt_of_eq t.isLt points_count
  omega⟩

theorem at_row {i : ℕ} (t : Fin cfg0.N) (a : Fin 256) (h : i = t.val) : i * 256 + a.val = (row t a).val := by
  subst h
  show t.val * 256 + a.val = 256 * t.val + a.val
  omega

theorem at_zero {i : ℕ} (n y : ℕ) (h : i = 0) : i * n + y = y := by
  subst h
  omega

/-- A block at index zero starts where its array starts. -/
theorem same_place (W : Pipeline.Window sig grid0) (t : Fin grid0.N) (h : ∀ x, W.index t x = 0) (y) (x)
    (hk : W.kind = .blocked := by decide) :
    ((W.rect t).emb y x).val = (y x).val :=
  (Pipeline.Window.rect_emb_val W t y x (hk := hk)).trans (at_zero _ _ (h x))

/-- The array index of an entry of a result's block, from the block's index. -/
theorem placed {w : ℕ} (t : Fin cfg0.N) (i : Fin 3 → ℕ) (hi : ∀ x, i x = (![0, t.val, 0] : Fin 3 → ℕ) x)
    (h : Fin 16) (a : Fin 256) (d : Fin w) (y : (⟨3, ![16, 16384, w]⟩ : Shape).Idx)
    (hy : ∀ x : Fin 3, (y x).val = i x * (![16, 256, w] : Fin 3 → ℕ) x + (ix3 h a d x).val) :
    y = ix3 h (row t a) d := by
  funext x
  match x with
  | ⟨0, _⟩ => exact Fin.ext ((hy 0).trans (at_zero 16 h.val (hi 0)))
  | ⟨1, _⟩ => exact Fin.ext ((hy 1).trans (at_row t a (hi 1)))
  | ⟨2, _⟩ => exact Fin.ext ((hy 2).trans (at_zero w d.val (hi 2)))

/-- Every index of a result lies in some grid point's block. -/
theorem in_block {w : ℕ} (y : (⟨3, ![16, 16384, w]⟩ : Shape).Idx) :
    ∃ t : Fin cfg0.N, ∀ i : Fin 3 → ℕ, (∀ x, i x = (![0, t.val, 0] : Fin 3 → ℕ) x) → ∀ x : Fin 3,
      i x * (![16, 256, w] : Fin 3 → ℕ) x ≤ (y x).val
        ∧ (y x).val < i x * (![16, 256, w] : Fin 3 → ℕ) x + (![16, 256, w] : Fin 3 → ℕ) x := by
  have h0 : (y 0).val < 16 := (y 0).isLt
  have h1 : (y 1).val < 16384 := (y 1).isLt
  have h2 : (y 2).val < w := (y 2).isLt
  refine ⟨⟨(y 1).val / 256, by rw [points_count]; omega⟩, fun i hi x => ?_⟩
  match x with
  | ⟨0, _⟩ =>
    show i 0 * 16 ≤ (y 0).val ∧ (y 0).val < i 0 * 16 + 16
    rw [show i 0 = 0 from hi 0]; omega
  | ⟨1, _⟩ =>
    show i 1 * 256 ≤ (y 1).val ∧ (y 1).val < i 1 * 256 + 256
    rw [show i 1 = (y 1).val / 256 from hi 1]; omega
  | ⟨2, _⟩ =>
    show i 2 * w ≤ (y 2).val ∧ (y 2).val < i 2 * w + w
    rw [show i 2 = 0 from hi 2]; omega

section
variable (m : (ℓ : Loc nD τ sig) → Buf (Elt Ideal) ℓ) (c : Dev nD)

/-! ### What a grid point reads -/

theorem block0 (t : Fin cfg0.N) (a : Fin 256) (d : Fin 1280) :
    iblk m c 0 t (ix2 a d) = m ((c : Thread nD τ).loc main_arg0) (ix2 (row t a) d) := by
  rw [← V_main_arg0 m c]
  show V m c main_arg0 ((win0_0.rect t).emb (ix2 a d)) = _
  exact congrArg (V m c main_arg0) (eq_ix2_of_val
    ((Pipeline.Window.rect_emb_val win0_0 t (ix2 a d) (0 : Fin 2)).trans (at_row t a (row_index t).1.1))
    ((Pipeline.Window.rect_emb_val win0_0 t (ix2 a d) (1 : Fin 2)).trans (at_zero _ _ (row_index t).1.2)))

theorem block1 (t : Fin cfg0.N) (a : Fin 256) :
    iblk m c 1 t (ix2 a 0) = m ((c : Thread nD τ).loc main_arg1) (ix2 (row t a) 0) := by
  rw [← V_main_arg1 m c]
  show V m c main_arg1 ((win0_1.rect t).emb (ix2 a 0)) = _
  exact congrArg (V m c main_arg1) (eq_ix2_of_val
    ((Pipeline.Window.rect_emb_val win0_1 t (ix2 a 0) (0 : Fin 2)).trans (at_row t a (row_index t).2.1))
    ((Pipeline.Window.rect_emb_val win0_1 t (ix2 a 0) (1 : Fin 2)).trans (at_zero _ _ (row_index t).2.2)))

/-- The arguments read whole. -/
theorem wholes (t : Fin cfg0.N) : iblk m c 2 t = m ((c : Thread nD τ).loc main_arg2)
    ∧ iblk m c 3 t = m ((c : Thread nD τ).loc main_arg3) ∧ iblk m c 4 t = m ((c : Thread nD τ).loc main_arg4)
    ∧ iblk m c 5 t = m ((c : Thread nD τ).loc main_arg5) ∧ iblk m c 6 t = m ((c : Thread nD τ).loc main_arg6)
    ∧ iblk m c 7 t = m ((c : Thread nD τ).loc main_arg7) ∧ iblk m c 8 t = m ((c : Thread nD τ).loc main_arg8) := by
  obtain ⟨h2, h3, h4, h5, h6, h7, h8⟩ := whole_index t
  rw [← V_main_arg2 m c, ← V_main_arg3 m c, ← V_main_arg4 m c, ← V_main_arg5 m c, ← V_main_arg6 m c,
    ← V_main_arg7 m c, ← V_main_arg8 m c]
  exact ⟨funext fun y => congrArg (V m c main_arg2) (funext fun x => Fin.ext (same_place win0_2 t h2 y x)),
    funext fun y => congrArg (V m c main_arg3) (funext fun x => Fin.ext (same_place win0_3 t h3 y x)),
    funext fun y => congrArg (V m c main_arg4) (funext fun x => Fin.ext (same_place win0_4 t h4 y x)),
    funext fun y => congrArg (V m c main_arg5) (funext fun x => Fin.ext (same_place win0_5 t h5 y x)),
    funext fun y => congrArg (V m c main_arg6) (funext fun x => Fin.ext (same_place win0_6 t h6 y x)),
    funext fun y => congrArg (V m c main_arg7) (funext fun x => Fin.ext (same_place win0_7 t h7 y x)),
    funext fun y => congrArg (V m c main_arg8) (funext fun x => Fin.ext (same_place win0_8 t h8 y x))⟩

/-! ### The queries -/

/-- The reference's queries of the arguments the program is launched on. -/
abbrev resultQ : Vec Ideal S16x16384x256 .bf16 :=
  Cert.MlaprepReferenceIdeal.Read.val_main_v64 (F := Ideal) (m ((c : Thread nD τ).loc main_arg0))
    (m ((c : Thread nD τ).loc main_arg1)) (m ((c : Thread nD τ).loc main_arg2)) (m ((c : Thread nD τ).loc main_arg3))
    (m ((c : Thread nD τ).loc main_arg5)) (m ((c : Thread nD τ).loc main_arg6))

/-- What a grid point writes back is its block of them. -/
theorem pointQ (t : Fin cfg0.N) :
    (dats m 0 c).flushed 9 t = (win0_9.blk t).view.read (Elt Ideal) (resultQ m c) := by
  obtain ⟨h2, h3, h4, h5, h6, h7, h8⟩ := wholes m c t
  rw [Value.flushed9, h2, h3, h4, h5, h6, h7, h8]
  funext y
  obtain ⟨h, a, e, rfl⟩ : ∃ (h : Fin 16) (a : Fin 256) (e : Fin 256), y = ix3 h a e := ⟨y 0, y 1, y 2, eq_ix3 y⟩
  refine Eq.trans ?_ (congrArg (resultQ m c) (placed t _ (out_index t).1 h a e ((win0_9.rect t).emb (ix3 h a e))
    fun x => Pipeline.Window.rect_emb_val win0_9 t (ix3 h a e) x)).symm
  obtain ⟨d, rfl⟩ | ⟨d, rfl⟩ := halves e
  · refine (out_q_low _ _ _ _ _ _ _ _ _ h a d).trans ((ref_q_low _ _ _ _ _ _ (row t a) h d).trans ?_).symm
    simp only [block0]
  · refine (out_q_high _ _ _ _ _ _ _ _ _ h a d).trans ((ref_q_high _ _ _ _ _ _ (row t a) h d).trans ?_).symm
    simp only [block0, block1]

/-- The array after the run. -/
theorem arrayQ : (dats m 0 c).arrAt 9 cfg0.N = resultQ m c :=
  (dats m 0 c).arrAt_eq_of_cover 9 (resultQ m c) (fun t _ => pointQ m c t) fun y => by
    obtain ⟨t, ht⟩ := in_block y
    refine ⟨t, flush0_9 _, ?_⟩
    show y ∈ ((View.whole main_v0_0).slice (win0_9.rect t)).set
    rw [View.set_slice_whole, Rect.mem_set_unit]
    exact ht _ (out_index t).1

/-! ### The keys -/

/-- The reference's keys. -/
abbrev resultK : Vec Ideal S16x16384x256 .bf16 :=
  Cert.MlaprepReferenceIdeal.Read.val_main_v66 (F := Ideal) (m ((c : Thread nD τ).loc main_arg0))
    (m ((c : Thread nD τ).loc main_arg1)) (m ((c : Thread nD τ).loc main_arg2)) (m ((c : Thread nD τ).loc main_arg4))
    (m ((c : Thread nD τ).loc main_arg7))

/-- What a grid point writes back is its block of them. -/
theorem pointK (t : Fin cfg0.N) :
    (dats m 0 c).flushed 10 t = (win0_10.blk t).view.read (Elt Ideal) (resultK m c) := by
  obtain ⟨h2, h3, h4, h5, h6, h7, h8⟩ := wholes m c t
  rw [Value.flushed10, h2, h3, h4, h5, h6, h7, h8]
  funext y
  obtain ⟨h, a, e, rfl⟩ : ∃ (h : Fin 16) (a : Fin 256) (e : Fin 256), y = ix3 h a e := ⟨y 0, y 1, y 2, eq_ix3 y⟩
  refine Eq.trans ?_ (congrArg (resultK m c) (placed t _ (out_index t).2.1 h a e ((win0_10.rect t).emb (ix3 h a e))
    fun x => Pipeline.Window.rect_emb_val win0_10 t (ix3 h a e) x)).symm
  obtain ⟨d, rfl⟩ | ⟨d, rfl⟩ := halves e
  · refine (out_k_low _ _ _ _ _ _ _ _ _ h a d).trans ((ref_k_low _ _ _ _ _ (row t a) h d).trans ?_).symm
    simp only [block0]
  · refine (out_k_high _ _ _ _ _ _ _ _ _ h a d).trans ((ref_k_high _ _ _ _ _ (row t a) h d).trans ?_).symm
    simp only [block0, block1]

/-- The array after the run. -/
theorem arrayK : (dats m 0 c).arrAt 10 cfg0.N = resultK m c :=
  (dats m 0 c).arrAt_eq_of_cover 10 (resultK m c) (fun t _ => pointK m c t) fun y => by
    obtain ⟨t, ht⟩ := in_block y
    refine ⟨t, flush0_10 _, ?_⟩
    show y ∈ ((View.whole main_v0_1).slice (win0_10.rect t)).set
    rw [View.set_slice_whole, Rect.mem_set_unit]
    exact ht _ (out_index t).2.1

/-! ### The values -/

/-- The reference's values. -/
abbrev resultV : Vec Ideal S16x16384x128 .bf16 :=
  Cert.MlaprepReferenceIdeal.Read.val_main_v68 (F := Ideal) (m ((c : Thread nD τ).loc main_arg0))
    (m ((c : Thread nD τ).loc main_arg4)) (m ((c : Thread nD τ).loc main_arg8))

/-- What a grid point writes back is its block of them. -/
theorem pointV (t : Fin cfg0.N) :
    (dats m 0 c).flushed 11 t = (win0_11.blk t).view.read (Elt Ideal) (resultV m c) := by
  obtain ⟨h2, h3, h4, h5, h6, h7, h8⟩ := wholes m c t
  rw [Value.flushed11, h2, h3, h4, h5, h6, h7, h8]
  funext y
  obtain ⟨h, a, d, rfl⟩ : ∃ (h : Fin 16) (a : Fin 256) (d : Fin 128), y = ix3 h a d := ⟨y 0, y 1, y 2, eq_ix3 y⟩
  refine Eq.trans ?_ (congrArg (resultV m c) (placed t _ (out_index t).2.2 h a d ((win0_11.rect t).emb (ix3 h a d))
    fun x => Pipeline.Window.rect_emb_val win0_11 t (ix3 h a d) x)).symm
  refine (out_v _ _ _ _ _ _ _ _ _ h a d).trans ((ref_v _ _ _ (row t a) h d).trans ?_).symm
  simp only [block0]

/-- The array after the run. -/
theorem arrayV : (dats m 0 c).arrAt 11 cfg0.N = resultV m c :=
  (dats m 0 c).arrAt_eq_of_cover 11 (resultV m c) (fun t _ => pointV m c t) fun y => by
    obtain ⟨t, ht⟩ := in_block y
    refine ⟨t, flush0_11 _, ?_⟩
    show y ∈ ((View.whole main_v0_2).slice (win0_11.rect t)).set
    rw [View.set_slice_whole, Rect.mem_set_unit]
    exact ht _ (out_index t).2.2

end

end Cert.Mlaprep

end
-- ==== Proof.MemkvValue.lean ====
/-
The memory's keys and values: what the two arrays hold after the run, and what the reference computes.

The one grid point holds every array whole: it normalizes the memory rows and multiplies them by the two weights. Both
programs compute the same expression of a row and a column of the weights.
-/
module

public import Idealize.ShloMosaic.Lib.Pointwise
public import proofs.«01_k».proof.Proof.Rows
public import proofs.«01_k».proof.Proof.Gen.MemkvIdeal.Value
public import proofs.«01_k».proof.Proof.Gen.MemkvReferenceIdeal.Read

@[expose] public section

noncomputable section

namespace Cert.Memkv

open Idealize.ShloMosaic Idealize.ShloMosaic.TcCoe Cert.MemkvIdeal Cert.MemkvIdeal.Gen Idealize.SL.Sem Cert.Rows

variable (x : Vec Ideal S256x2048 .f32) (g : Vec Ideal S1x2048 .f32) (w : Vec Ideal S2048x512 .bf16) (a : Fin 256)

/-- The normalized memory rows, as the kernel has them. -/
theorem normed_rows (k : Fin 2048) :
    k0_pay1 x g (ix2 a k) = normed (fun j => x (ix2 a j)) (fun j => g (ix2 0 j)) k := by
  pointwise [k0_pay1, normed]

open Cert.MemkvReferenceIdeal.Read in
/-- The normalized memory rows, as the reference has them. -/
theorem ref_normed (k : Fin 2048) :
    val_main_v11 (F := Ideal) x g (ix2 a k) = normed (fun j => x (ix2 a j)) (fun j => g (ix2 0 j)) k := by
  pointwise [val_main_v0, val_main_v1, val_main_v2, val_main_v3, val_main_v4, val_main_v5, val_main_v6, val_main_v7,
    val_main_v8, val_main_v9, val_main_v10, val_main_v11, val_main_cst, val_main_cst_0, val_main_cst_1, normed]

/-- A normalized memory row times a column of a weight. -/
def memDot (d : Fin 512) : EReal :=
  ∑ k : Fin 2048, normed (fun j => x (ix2 a j)) (fun j => g (ix2 0 j)) k * w (ix2 k d)

theorem keys_entry (d : Fin 512) : k0_pay2 x g w (ix2 a d) = memDot x g w a d := by
  pointwise [k0_pay2, normed_rows, memDot]

theorem values_entry (d : Fin 512) : k0_pay3 x g w (ix2 a d) = memDot x g w a d := by
  pointwise [k0_pay3, normed_rows, memDot]

open Cert.MemkvReferenceIdeal.Read in
theorem ref_keys_entry (d : Fin 512) : val_main_v14 (F := Ideal) x g w (ix2 a d) = memDot x g w a d := by
  pointwise [val_main_v12, val_main_v13, val_main_v14, ref_normed, memDot]

open Cert.MemkvReferenceIdeal.Read in
theorem ref_values_entry (d : Fin 512) : val_main_v17 (F := Ideal) x g w (ix2 a d) = memDot x g w a d := by
  pointwise [val_main_v15, val_main_v16, val_main_v17, ref_normed, memDot]

/-- Two arrays with the same products for entries are one. -/
theorem same_array {y z : Vec Ideal S256x512 .bf16} (hy : ∀ a d, y (ix2 a d) = memDot x g w a d)
    (hz : ∀ a d, z (ix2 a d) = memDot x g w a d) : y = z := by
  funext i
  obtain ⟨a, d, rfl⟩ : ∃ (a : Fin 256) (d : Fin 512), i = ix2 a d := ⟨i 0, i 1, eq_ix2 i⟩
  exact (hy a d).trans (hz a d).symm

theorem keys_array : k0_pay2 x g w = Cert.MemkvReferenceIdeal.Read.val_main_v14 (F := Ideal) x g w :=
  same_array x g w (keys_entry x g w) (ref_keys_entry x g w)

theorem values_array : k0_pay3 x g w = Cert.MemkvReferenceIdeal.Read.val_main_v17 (F := Ideal) x g w :=
  same_array x g w (values_entry x g w) (ref_values_entry x g w)

section
variable (m : (ℓ : Loc nD τ sig) → Buf (Elt Ideal) ℓ) (c : Dev nD)

/-- The reference's first result, of the arguments the program is launched on. -/
abbrev resultK : Vec Ideal S256x512 .bf16 :=
  Cert.MemkvReferenceIdeal.Read.val_main_v14 (F := Ideal) (m ((c : Thread nD τ).loc main_arg0))
    (m ((c : Thread nD τ).loc main_arg1)) (m ((c : Thread nD τ).loc main_arg2))

/-- The reference's second result, of the arguments the program is launched on. -/
abbrev resultV : Vec Ideal S256x512 .bf16 :=
  Cert.MemkvReferenceIdeal.Read.val_main_v17 (F := Ideal) (m ((c : Thread nD τ).loc main_arg0))
    (m ((c : Thread nD τ).loc main_arg1)) (m ((c : Thread nD τ).loc main_arg3))

end

end Cert.Memkv

end
-- ==== Proof.ExpertsRun.lean ====
module

public import proofs.«01_k».proof.Defs
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-!
# The experts kernel's body

The kernel visits each of its 96 blocks at eight points. At a point of a valid block it forms one chunk of the hidden
layer and adds its share to the accumulator; the first point also unpacks the block's rows, and the last also stores the
accumulator, a sixteenth of each row at a time. At the last point of an invalid block it stores zeros, and at the other
points of such a block nothing. The five cases are run here for any element type.
-/

@[expose] public section

set_option maxRecDepth 16384
set_option Elab.async false

noncomputable section

namespace Cert.ExpertsFrame

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables the kernel reads, and its two scratch buffers. -/
abbrev tbM0_0 : Memref sig .tc .smem S96 .i32 := Memref.whole main_arg0
abbrev tbM0_1 : Memref sig .tc .smem S96 .i32 := Memref.whole main_arg1
abbrev tbM0_2 : Memref sig .tc .smem S96 .i32 := Memref.whole main_arg2
abbrev scM0_0 : Memref sig .tc .vmem S1024x2048 .bf16 := Memref.whole cc0_scratch0
abbrev scM0_1 : Memref sig .tc .vmem S1024x2048 .f32 := Memref.whole cc0_scratch1

/-- One staging buffer of the result. -/
abbrev VO0_7 : View sig .tc .vmem S16384x128 .f32 :=
  (Memref.whole cc0_stg7_0 : Memref sig .tc .vmem S16384x128 .f32).view

/-! ## The decisions -/

theorem isZero_iff {n : ℕ} (hn : n < 8) :
    Scalar.cmpi .ne (Scalar.extui (Scalar.cmpi .eq (BitVec.ofNat 32 n) 0#32)) 0#32 = 1#1 ↔ n = 0 := by
  interval_cases n <;> decide

theorem isPos_iff {n : ℕ} (hn : n < 8) :
    Scalar.cmpi .ne (Scalar.extui (Scalar.cmpi .sgt (BitVec.ofNat 32 n) 0#32)) 0#32 = 1#1 ↔ n ≠ 0 := by
  interval_cases n <;> decide

theorem isLast_iff (i : grid0.Coords) : k0_cond11 i = 1#1 ↔ (i 1).val = 7 := by
  have h := (i 1).isLt
  have h8 : (i 1).val < 8 := h
  unfold k0_cond11
  generalize (i 1).val = n at h8
  interval_cases n <;> decide

theorem isValid_iff (w : BitVec 32) : k0_cond1 w = 1#1 ↔ w = 1#32 := by
  show BitVec.ofBool (BitVec.setWidth 32 (BitVec.ofBool (w == 1#32)) != 0#32) = 1#1 ↔ _
  rw [← beq_iff_eq (a := w)]
  generalize (w == 1#32) = b
  cases b <;> decide

theorem isEmpty_iff (i : grid0.Coords) (w : BitVec 32) : k0_cond12 i w = 1#1 ↔ w = 0#32 ∧ (i 1).val = 7 := by
  have h8 : (i 1).val < 8 := (i 1).isLt
  show BitVec.ofBool (BitVec.setWidth 32 (IntOp.andi (BitVec.ofBool (w == 0#32))
    (BitVec.ofBool (BitVec.ofNat 32 (i 1).val == 7#32))) != 0#32) = 1#1 ↔ _
  rw [← beq_iff_eq (a := w)]
  generalize (w == 0#32) = b
  generalize (i 1).val = n at h8
  cases b <;> interval_cases n <;> decide

/-- The word of the third table that a point reads. -/
abbrev word (i : grid0.Coords) {c : Dev nD} (T2 : Buf (Elt F) ((c : Thread nD τ).loc main_arg2)) : BitVec 32 :=
  View.readAt (Elt F) (tbM0_2).view (Rect.unit (s := S96) (k0_off1 i) S1.size (k0_off1_inb i)).toLoadRect T2
    (Shape.Idx.first (numel1_S1.symm ▸ Nat.one_pos))

/-! ## The runs -/

section

variable (c : Dev nD) (i : grid0.Coords)
  (arg5 : Memref sig .tc .vmem S8192x128 .i32) (harg5 : arg5.IsWhole)
  (arg6 : Memref sig .tc .vmem S1x2048x256 .f32) (harg6 : arg6.IsWhole)
  (arg7 : Memref sig .tc .vmem S1x2048x256 .f32) (harg7 : arg7.IsWhole)
  (arg8 : Memref sig .tc .vmem S1x1x256 .f32) (harg8 : arg8.IsWhole)
  (arg9 : Memref sig .tc .vmem S1x1x256 .f32) (harg9 : arg9.IsWhole)
  (arg10 : Memref sig .tc .vmem S1x256x2048 .f32) (harg10 : arg10.IsWhole)
  (arg11 : Memref sig .tc .vmem S1x1x2048 .f32) (harg11 : arg11.IsWhole)
  (arg12 : Memref sig .tc .vmem S16384x128 .f32) (harg12 : arg12.IsWhole)
  (T0 : Buf (Elt F) ((c : Thread nD τ).loc main_arg0)) (T1 : Buf (Elt F) ((c : Thread nD τ).loc main_arg1))
  (T2 : Buf (Elt F) ((c : Thread nD τ).loc main_arg2))
  (x0 : S8192x128.Idx → Elt F .i32) (x1 x2 : S1x2048x256.Idx → Elt F .f32) (x3 x4 : S1x1x256.Idx → Elt F .f32)
  (x5 : S1x256x2048.Idx → Elt F .f32) (x6 : S1x1x2048.Idx → Elt F .f32)

/-- What a run only reads: the seven staged blocks and the three tables. -/
def held : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (arg8.view.loc (c : Thread nD τ) ↦[arg8.view.set]{fullShare} arg8.view.rep x3)
    ∗ (arg9.view.loc (c : Thread nD τ) ↦[arg9.view.set]{fullShare} arg9.view.rep x4)
    ∗ (arg10.view.loc (c : Thread nD τ) ↦[arg10.view.set]{fullShare} arg10.view.rep x5)
    ∗ (arg11.view.loc (c : Thread nD τ) ↦[arg11.view.set]{fullShare} arg11.view.rep x6)
    ∗ (tbM0_0.view.loc (c : Thread nD τ) ↦{fullShare.right} T0)
    ∗ (tbM0_1.view.loc (c : Thread nD τ) ↦{fullShare.right} T1)
    ∗ (tbM0_2.view.loc (c : Thread nD τ) ↦{fullShare.right} T2))

/-- The body at a point, up to a continuation. -/
abbrev runs (K : PUnit → sProp 𝕄) : sProp 𝕄 :=
  wp frame (wpE (defs₀ (F := F)) Variants.none c none) Set.univ
    (cc0_experts i tbM0_0 (Memref.isWhole_whole _) tbM0_1 (Memref.isWhole_whole _) tbM0_2 (Memref.isWhole_whole _)
      arg5 harg5 arg6 harg6 arg7 harg7 arg8 harg8 arg9 harg9 arg10 harg10 arg11 harg11 arg12 harg12
      scM0_0 (Memref.isWhole_whole _) scM0_1 (Memref.isWhole_whole _)) K

set_option backward.proofsInPublic true in
set_option maxHeartbeats 8000000 in
/-- The first point of a valid block: the rows are unpacked and the accumulator is begun. -/
def runFirst (xa0 : Buf (Elt F) ((c : Thread nD τ).loc cc0_scratch0)) (xa1 : Buf (Elt F) ((c : Thread nD τ).loc cc0_scratch1)) (hv : word i T2 = 1#32) (h0 : (i 1).val = 0) :
    Σ' (out0 : Buf (Elt F) ((c : Thread nD τ).loc cc0_scratch0)), { out1 : Buf (Elt F) ((c : Thread nD τ).loc cc0_scratch1) //
      ∀ (y7 : S16384x128.Idx → Elt F .f32) (K : PUnit → sProp 𝕄),
      iprop(held c arg5 arg6 arg7 arg8 arg9 arg10 arg11 T0 T1 T2 x0 x1 x2 x3 x4 x5 x6
        ∗ owns (c : Thread nD τ) arg12 fullShare y7
        ∗ (scM0_0.view.loc (c : Thread nD τ) ↦{fullShare} xa0)
        ∗ (scM0_1.view.loc (c : Thread nD τ) ↦{fullShare} xa1)
        ∗ (iprop(held c arg5 arg6 arg7 arg8 arg9 arg10 arg11 T0 T1 T2 x0 x1 x2 x3 x4 x5 x6
            ∗ owns (c : Thread nD τ) arg12 fullShare y7
            ∗ (scM0_0.view.loc (c : Thread nD τ) ↦{fullShare} out0)
            ∗ (scM0_1.view.loc (c : Thread nD τ) ↦{fullShare} out1)) -∗ K ⟨⟩))
      ⊢ runs c i arg5 harg5 arg6 harg6 arg7 harg7 arg8 harg8 arg9 harg9 arg10 harg10 arg11 harg11 arg12 harg12 K } :=
  ⟨_, _, fun y7 K => by
    have h8 : (i 1).val < 8 := (i 1).isLt
    have h1 : k0_cond1 (word i T2) = 1#1 := (isValid_iff _).2 hv
    have h12 : ¬(k0_cond12 i (word i T2) = 1#1) := fun h => by
      have := ((isEmpty_iff i _).1 h).1.symm.trans hv; revert this; decide
    have hz := (isZero_iff h8).2 h0
    have hp := fun h => (isPos_iff h8).1 h h0
    have hl : ¬(k0_cond11 i = 1#1) := fun h => by have := (isLast_iff i).1 h; omega
    unfold owns held runs
    rw [cc0_experts_eq_skeleton]; unfold cc0_experts_skel
    iintro ⟨⟨H0, H1, H2, H3, H4, H5, H6, HT0, HT1, HT2⟩, ⟨%f7, %hf7, HO7⟩, HS0, HS1, Hk⟩
    obtain rfl := harg12.eq_unread hf7
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = Scalar.cmpi = _; exact hz) | (guard_target = ¬(Scalar.cmpi = _); exact hp) | (guard_target = ¬(k0_cond11 _ = _); exact hl) | (guard_target = ¬(k0_cond12 _ _ = _); exact h12))
    sl_step
    iapply Hk
    isplitl [H0 H1 H2 H3 H4 H5 H6 HT0 HT1 HT2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    isplitl [HO7]
    · iexists _; isplitr; · ipureintro; exact harg12.read_unread _
      iexact HO7
    isplitl [HS0]; · iexact HS0
    iexact HS1⟩

set_option backward.proofsInPublic true in
set_option maxHeartbeats 8000000 in
/-- A point between the first and the last of a valid block: the accumulator grows. -/
def runMid (hv : word i T2 = 1#32) (h0 : (i 1).val ≠ 0) (h7 : (i 1).val ≠ 7) (xa0 : Buf (Elt F) ((c : Thread nD τ).loc cc0_scratch0)) (xa1 : Buf (Elt F) ((c : Thread nD τ).loc cc0_scratch1)) :
    Σ' (out0 : Buf (Elt F) ((c : Thread nD τ).loc cc0_scratch0)), { out1 : Buf (Elt F) ((c : Thread nD τ).loc cc0_scratch1) //
      ∀ (y7 : S16384x128.Idx → Elt F .f32) (K : PUnit → sProp 𝕄),
      iprop(held c arg5 arg6 arg7 arg8 arg9 arg10 arg11 T0 T1 T2 x0 x1 x2 x3 x4 x5 x6
        ∗ owns (c : Thread nD τ) arg12 fullShare y7
        ∗ (scM0_0.view.loc (c : Thread nD τ) ↦{fullShare} xa0)
        ∗ (scM0_1.view.loc (c : Thread nD τ) ↦{fullShare} xa1)
        ∗ (iprop(held c arg5 arg6 arg7 arg8 arg9 arg10 arg11 T0 T1 T2 x0 x1 x2 x3 x4 x5 x6
            ∗ owns (c : Thread nD τ) arg12 fullShare y7
            ∗ (scM0_0.view.loc (c : Thread nD τ) ↦{fullShare} out0)
            ∗ (scM0_1.view.loc (c : Thread nD τ) ↦{fullShare} out1)) -∗ K ⟨⟩))
      ⊢ runs c i arg5 harg5 arg6 harg6 arg7 harg7 arg8 harg8 arg9 harg9 arg10 harg10 arg11 harg11 arg12 harg12 K } :=
  ⟨_, _, fun y7 K => by
    have h8 : (i 1).val < 8 := (i 1).isLt
    have h1 : k0_cond1 (word i T2) = 1#1 := (isValid_iff _).2 hv
    have h12 : ¬(k0_cond12 i (word i T2) = 1#1) := fun h => by
      have := ((isEmpty_iff i _).1 h).1.symm.trans hv; revert this; decide
    have hz := fun h => h0 ((isZero_iff h8).1 h)
    have hp := (isPos_iff h8).2 h0
    have hl : ¬(k0_cond11 i = 1#1) := fun h => h7 ((isLast_iff i).1 h)
    unfold owns held runs
    rw [cc0_experts_eq_skeleton]; unfold cc0_experts_skel
    iintro ⟨⟨H0, H1, H2, H3, H4, H5, H6, HT0, HT1, HT2⟩, ⟨%f7, %hf7, HO7⟩, HS0, HS1, Hk⟩
    obtain rfl := harg12.eq_unread hf7
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = ¬(Scalar.cmpi = _); exact hz) | (guard_target = Scalar.cmpi = _; exact hp) | (guard_target = ¬(k0_cond11 _ = _); exact hl) | (guard_target = ¬(k0_cond12 _ _ = _); exact h12))
    sl_step
    iapply Hk
    isplitl [H0 H1 H2 H3 H4 H5 H6 HT0 HT1 HT2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    isplitl [HO7]
    · iexists _; isplitr; · ipureintro; exact harg12.read_unread _
      iexact HO7
    isplitl [HS0]; · iexact HS0
    iexact HS1⟩

set_option backward.proofsInPublic true in
set_option maxHeartbeats 8000000 in
/-- The last point of a valid block: the accumulator grows once more and is stored. -/
def runLast (hv : word i T2 = 1#32) (h7 : (i 1).val = 7) (xa0 : Buf (Elt F) ((c : Thread nD τ).loc cc0_scratch0)) (xa1 : Buf (Elt F) ((c : Thread nD τ).loc cc0_scratch1)) :
    Σ' (out7 : List (View.Piece (Elt F) S16384x128 .f32)) (out0 : Buf (Elt F) ((c : Thread nD τ).loc cc0_scratch0)), { out1 : Buf (Elt F) ((c : Thread nD τ).loc cc0_scratch1) //
      ∀ (K : PUnit → sProp 𝕄),
      iprop(held c arg5 arg6 arg7 arg8 arg9 arg10 arg11 T0 T1 T2 x0 x1 x2 x3 x4 x5 x6
        ∗ (∃ d, owns (c : Thread nD τ) arg12 fullShare d)
        ∗ (scM0_0.view.loc (c : Thread nD τ) ↦{fullShare} xa0)
        ∗ (scM0_1.view.loc (c : Thread nD τ) ↦{fullShare} xa1)
        ∗ (iprop(held c arg5 arg6 arg7 arg8 arg9 arg10 arg11 T0 T1 T2 x0 x1 x2 x3 x4 x5 x6
            ∗ (∃ f, arg12.view.loc (c : Thread nD τ) ↦[arg12.view.set]{fullShare} arg12.view.writes (Elt F) f out7)
            ∗ (scM0_0.view.loc (c : Thread nD τ) ↦{fullShare} out0)
            ∗ (scM0_1.view.loc (c : Thread nD τ) ↦{fullShare} out1)) -∗ K ⟨⟩))
      ⊢ runs c i arg5 harg5 arg6 harg6 arg7 harg7 arg8 harg8 arg9 harg9 arg10 harg10 arg11 harg11 arg12 harg12 K } :=
  ⟨_, _, _, fun K => by
    have h8 : (i 1).val < 8 := (i 1).isLt
    have h1 : k0_cond1 (word i T2) = 1#1 := (isValid_iff _).2 hv
    have h12 : ¬(k0_cond12 i (word i T2) = 1#1) := fun h => by
      have := ((isEmpty_iff i _).1 h).1.symm.trans hv; revert this; decide
    have h0 : (i 1).val ≠ 0 := by omega
    have hz := fun h => h0 ((isZero_iff h8).1 h)
    have hp := (isPos_iff h8).2 h0
    have hl : k0_cond11 i = 1#1 := (isLast_iff i).2 h7
    unfold owns held runs
    rw [cc0_experts_eq_skeleton]; unfold cc0_experts_skel
    iintro ⟨⟨H0, H1, H2, H3, H4, H5, H6, HT0, HT1, HT2⟩, ⟨%d7, %f7, -, HO7⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = ¬(Scalar.cmpi = _); exact hz) | (guard_target = Scalar.cmpi = _; exact hp) | (guard_target = k0_cond11 _ = _; exact hl) | (guard_target = ¬(k0_cond12 _ _ = _); exact h12))
    sl_step
    iapply Hk
    isplitl [H0 H1 H2 H3 H4 H5 H6 HT0 HT1 HT2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    isplitl [HO7]
    · iexists _
      iexact HO7
    isplitl [HS0]; · iexact HS0
    iexact HS1⟩

set_option backward.proofsInPublic true in
set_option maxHeartbeats 8000000 in
/-- A point of an invalid block before the last: nothing is done. -/
def runSkip (hv : ¬word i T2 = 1#32) (h7 : (i 1).val ≠ 7) (xa0 : Buf (Elt F) ((c : Thread nD τ).loc cc0_scratch0)) (xa1 : Buf (Elt F) ((c : Thread nD τ).loc cc0_scratch1)) :
    Σ' (out0 : Buf (Elt F) ((c : Thread nD τ).loc cc0_scratch0)), { out1 : Buf (Elt F) ((c : Thread nD τ).loc cc0_scratch1) //
      ∀ (y7 : S16384x128.Idx → Elt F .f32) (K : PUnit → sProp 𝕄),
      iprop(held c arg5 arg6 arg7 arg8 arg9 arg10 arg11 T0 T1 T2 x0 x1 x2 x3 x4 x5 x6
        ∗ owns (c : Thread nD τ) arg12 fullShare y7
        ∗ (scM0_0.view.loc (c : Thread nD τ) ↦{fullShare} xa0)
        ∗ (scM0_1.view.loc (c : Thread nD τ) ↦{fullShare} xa1)
        ∗ (iprop(held c arg5 arg6 arg7 arg8 arg9 arg10 arg11 T0 T1 T2 x0 x1 x2 x3 x4 x5 x6
            ∗ owns (c : Thread nD τ) arg12 fullShare y7
            ∗ (scM0_0.view.loc (c : Thread nD τ) ↦{fullShare} out0)
            ∗ (scM0_1.view.loc (c : Thread nD τ) ↦{fullShare} out1)) -∗ K ⟨⟩))
      ⊢ runs c i arg5 harg5 arg6 harg6 arg7 harg7 arg8 harg8 arg9 harg9 arg10 harg10 arg11 harg11 arg12 harg12 K } :=
  ⟨_, _, fun y7 K => by
    have h1 : ¬(k0_cond1 (word i T2) = 1#1) := fun h => hv ((isValid_iff _).1 h)
    have h12 : ¬(k0_cond12 i (word i T2) = 1#1) := fun h => h7 ((isEmpty_iff i _).1 h).2
    unfold owns held runs
    rw [cc0_experts_eq_skeleton]; unfold cc0_experts_skel
    iintro ⟨⟨H0, H1, H2, H3, H4, H5, H6, HT0, HT1, HT2⟩, ⟨%f7, %hf7, HO7⟩, HS0, HS1, Hk⟩
    obtain rfl := harg12.eq_unread hf7
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact h1) | (guard_target = ¬(k0_cond12 _ _ = _); exact h12))
    sl_step
    iapply Hk
    isplitl [H0 H1 H2 H3 H4 H5 H6 HT0 HT1 HT2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    isplitl [HO7]
    · iexists _; isplitr; · ipureintro; exact harg12.read_unread _
      iexact HO7
    isplitl [HS0]; · iexact HS0
    iexact HS1⟩

set_option backward.proofsInPublic true in
set_option maxHeartbeats 8000000 in
/-- The last point of an invalid block: zeros are stored. -/
def runEmpty (hv0 : word i T2 = 0#32) (h7 : (i 1).val = 7) (xa0 : Buf (Elt F) ((c : Thread nD τ).loc cc0_scratch0)) (xa1 : Buf (Elt F) ((c : Thread nD τ).loc cc0_scratch1)) :
    Σ' (out7 : List (View.Piece (Elt F) S16384x128 .f32)) (out0 : Buf (Elt F) ((c : Thread nD τ).loc cc0_scratch0)), { out1 : Buf (Elt F) ((c : Thread nD τ).loc cc0_scratch1) //
      ∀ (K : PUnit → sProp 𝕄),
      iprop(held c arg5 arg6 arg7 arg8 arg9 arg10 arg11 T0 T1 T2 x0 x1 x2 x3 x4 x5 x6
        ∗ (∃ d, owns (c : Thread nD τ) arg12 fullShare d)
        ∗ (scM0_0.view.loc (c : Thread nD τ) ↦{fullShare} xa0)
        ∗ (scM0_1.view.loc (c : Thread nD τ) ↦{fullShare} xa1)
        ∗ (iprop(held c arg5 arg6 arg7 arg8 arg9 arg10 arg11 T0 T1 T2 x0 x1 x2 x3 x4 x5 x6
            ∗ (∃ f, arg12.view.loc (c : Thread nD τ) ↦[arg12.view.set]{fullShare} arg12.view.writes (Elt F) f out7)
            ∗ (scM0_0.view.loc (c : Thread nD τ) ↦{fullShare} out0)
            ∗ (scM0_1.view.loc (c : Thread nD τ) ↦{fullShare} out1)) -∗ K ⟨⟩))
      ⊢ runs c i arg5 harg5 arg6 harg6 arg7 harg7 arg8 harg8 arg9 harg9 arg10 harg10 arg11 harg11 arg12 harg12 K } :=
  ⟨_, _, _, fun K => by
    have hv : ¬word i T2 = 1#32 := fun h => by have := hv0.symm.trans h; revert this; decide
    have h1 : ¬(k0_cond1 (word i T2) = 1#1) := fun h => hv ((isValid_iff _).1 h)
    have h12 : k0_cond12 i (word i T2) = 1#1 := (isEmpty_iff i _).2 ⟨hv0, h7⟩
    unfold owns held runs
    rw [cc0_experts_eq_skeleton]; unfold cc0_experts_skel
    iintro ⟨⟨H0, H1, H2, H3, H4, H5, H6, HT0, HT1, HT2⟩, ⟨%d7, %f7, -, HO7⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact h1) | (guard_target = k0_cond12 _ _ = _; exact h12))
    sl_step
    iapply Hk
    isplitl [H0 H1 H2 H3 H4 H5 H6 HT0 HT1 HT2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    isplitl [HO7]
    · iexists _
      iexact HO7
    isplitl [HS0]; · iexact HS0
    iexact HS1⟩

end

end Cert.ExpertsFrame

end
-- ==== Proof.ExpertsFrame.lean ====
module

public import proofs.«01_k».proof.Defs
public import proofs.«01_k».proof.Proof.ExpertsRun
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-!
# The experts kernel at any tables in range

The tables name an expert, a row block and whether the block is valid, for each of 96 blocks. With the words in range every
staged block lies inside its array.
-/

@[expose] public section

set_option maxRecDepth 16384
set_option Elab.async false

noncomputable section

namespace Cert.ExpertsFrame

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Three tables with their words in range. The element type is that of the memory they are found in. -/
structure Tabs (F : FTy → Type) where
  e : S96.Idx → BitVec 32
  r : S96.Idx → BitVec 32
  v : S96.Idx → BitVec 32
  he : ∀ x, (e x).toNat < 32
  hr : ∀ x, (r x).toNat < 96
  hv : ∀ x, v x = 0#32 ∨ v x = 1#32

variable (ch : Tabs F)

/-- The tables' contents. -/
def pfN : pre0.Contents (Elt F) :=
  fun | ⟨0, _⟩ => ch.e | ⟨1, _⟩ => ch.r | ⟨2, _⟩ => ch.v | ⟨_ + 3, h⟩ => absurd h (by simp)

/-- Block `b`'s place in a table. -/
def at96 (b : Fin 96) : S96.Idx := fun a => ⟨b.val, by have h : a = 0 := Subsingleton.elim _ _; subst h; exact b.isLt⟩

theorem ofNat_toNat {n : ℕ} (h : n < 2 ^ 32) : (BitVec.ofNat 32 n).toNat = n := by
  rw [BitVec.toNat_ofNat]; exact Nat.mod_eq_of_lt h

theorem off1_val (i : grid0.Coords) : k0_off1 i 0 = (i 0).val := by
  have h : (i 0).val < 96 := (i 0).isLt
  show (Scalar.indexCast (BitVec.ofNat 32 (i 0).val) : Index).toNat = _
  exact ofNat_toNat (by omega)

theorem place (i : grid0.Coords) (x : S1.Idx) :
    (Rect.unit (s := S96) (k0_off1 i) S1.size (k0_off1_inb i)).emb x = at96 (i 0) := by
  funext a
  refine Fin.ext ?_
  have ha : a = 0 := Subsingleton.elim _ _
  subst ha
  have hx : (x 0).val = 0 := Nat.lt_one_iff.mp (x 0).isLt
  show k0_off1 i 0 + 1 * (x 0).val = _
  rw [off1_val, hx]; rfl

/-- What an index map reads of a table. -/
theorem readAt_e (i : grid0.Coords) (h) : (pfN ch).at 0 (Rect.unit (s := S96)
    ![(Scalar.indexCast (BitVec.ofNat 32 (i 0).val) : Index).toNat] S1.size h) numel1_S1 = ch.e (at96 (i 0)) :=
  congrArg ch.e (place i _)

theorem readAt_r (i : grid0.Coords) (h) : (pfN ch).at 1 (Rect.unit (s := S96)
    ![(Scalar.indexCast (BitVec.ofNat 32 (i 0).val) : Index).toNat] S1.size h) numel1_S1 = ch.r (at96 (i 0)) :=
  congrArg ch.r (place i _)

/-- What decides whether a point stores reads. -/
theorem atD_v (i : grid0.Coords) : (pfN ch).atD 2 (k0_off1 i) = ch.v (at96 (i 0)) := by
  have h : ∀ a : Fin 1, k0_off1 i a + 1 ≤ S96.size a := fun a => by
    have ha : a = 0 := Subsingleton.elim _ _
    subst ha
    exact k0_off1_inb i 0
  refine (dif_pos h).trans (congrArg ch.v (funext fun (a : Fin 1) => Fin.ext ?_))
  have ha : a = 0 := Subsingleton.elim _ _
  subst ha
  exact off1_val i

theorem tr0 (i : grid0.Coords) : cc0_transform_0 k0_off1_inb numel1_S1 (pfN ch) i = ![(ch.r (at96 (i 0))).toNat, 0] := by
  exact congrArg₂ (fun (x : BitVec 32) (y : ℕ) => (![x.toNat, 0] : Fin 2 → ℕ)) (readAt_r ch i _) (Eq.refl 0)

theorem tr1 (i : grid0.Coords) :
    cc0_transform_1 k0_off1_inb numel1_S1 (pfN ch) i = ![(ch.e (at96 (i 0))).toNat, 0, (i 1).val] := by
  have h : (i 1).val < 8 := (i 1).isLt
  have e1 := ofNat_toNat (n := (i 1).val) (by omega)
  exact congrArg₂ (fun (x : BitVec 32) (y : ℕ) => (![x.toNat, 0, y] : Fin 3 → ℕ)) (readAt_e ch i _) e1

theorem tr2 (i : grid0.Coords) :
    cc0_transform_2 k0_off1_inb numel1_S1 (pfN ch) i = ![(ch.e (at96 (i 0))).toNat, 0, (i 1).val + 8] := by
  have h : (i 1).val < 8 := (i 1).isLt
  have e1 : (Scalar.addi (BitVec.ofNat 32 (i 1).val) 8#32).toNat = (i 1).val + 8 := by
    generalize (i 1).val = n at h; interval_cases n <;> rfl
  exact congrArg₂ (fun (x : BitVec 32) (y : ℕ) => (![x.toNat, 0, y] : Fin 3 → ℕ)) (readAt_e ch i _) e1

theorem tr3 (i : grid0.Coords) :
    cc0_transform_3 k0_off1_inb numel1_S1 (pfN ch) i = ![(ch.e (at96 (i 0))).toNat, 0, (i 1).val] := tr1 ch i

theorem tr4 (i : grid0.Coords) :
    cc0_transform_4 k0_off1_inb numel1_S1 (pfN ch) i = ![(ch.e (at96 (i 0))).toNat, 0, (i 1).val + 8] := tr2 ch i

theorem tr5 (i : grid0.Coords) :
    cc0_transform_5 k0_off1_inb numel1_S1 (pfN ch) i = ![(ch.e (at96 (i 0))).toNat, (i 1).val, 0] := by
  have h : (i 1).val < 8 := (i 1).isLt
  have e1 := ofNat_toNat (n := (i 1).val) (by omega)
  exact congrArg₂ (fun (x : BitVec 32) (y : ℕ) => (![x.toNat, y, 0] : Fin 3 → ℕ)) (readAt_e ch i _) e1

theorem tr6 (i : grid0.Coords) :
    cc0_transform_6 k0_off1_inb numel1_S1 (pfN ch) i = ![(ch.e (at96 (i 0))).toNat, 0, 0] := by
  exact congrArg₂ (fun (x : BitVec 32) (y : ℕ) => (![x.toNat, 0, 0] : Fin 3 → ℕ)) (readAt_e ch i _) (Eq.refl 0)

theorem tr7 (i : grid0.Coords) : cc0_transform_7 i = ![(i 0).val, 0] := by
  have h : (i 0).val < 96 := (i 0).isLt
  unfold cc0_transform_7
  dsimp only
  rw [ofNat_toNat (by omega)]
  rfl

/-- A block inside its array, axis by axis. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- With the words in range every staged block lies inside its array. -/
theorem ok_pfN : ok0 (F := F) (pfN ch) := by
  have H : ∀ i : grid0.Coords, (i 0).val < 96 ∧ (i 1).val < 8 := fun i => ⟨(i 0).isLt, (i 1).isLt⟩
  refine ⟨fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩, fun i => ⟨?_, .inl rfl⟩⟩ <;>
  [rw [tr0]; rw [tr1]; rw [tr2]; rw [tr3]; rw [tr4]; rw [tr5]; rw [tr6]] <;>
  · have h0 := H i
    have he := ch.he (at96 (i 0))
    have hr := ch.hr (at96 (i 0))
    repeat' refine okcons ?_ ?_
    all_goals first | omega | exact fun a => a.elim0

/-- The pipeline at the tables. -/
def adm : (pcfg0 (F := F)).Adm := ⟨pfN ch, ok_pfN ch⟩
abbrev cfgA : Pipeline.Cfg sig Λ₀ := cfg0 (F := F) (adm ch)
abbrev pcs : Fin 1 → Pipeline.Cfg sig Λ₀ := Pipeline.pin (pcfgs (F := F)) fun _ => adm ch

/-- Point `t`'s coordinates: the block and the chunk. -/
abbrev crd (t : Fin (cfgA ch).N) : (cfgA ch).grid.Coords := (cfgA ch).grid.coords t

theorem points (t : Fin grid0.N) : (grid0.coords t 0).val = t.val / 8 ∧ (grid0.coords t 1).val = t.val % 8 := by
  revert t; decide +kernel

/-- The word that says whether point `t`'s block is valid. -/
theorem word_eq (i : grid0.Coords) (c : Dev nD) : word (F := F) i (c := c) ch.v = ch.v (at96 (i 0)) :=
  congrArg ch.v (place i _)

theorem idle7 (t : Fin (cfgA ch).N) : (cfgA ch).idle (7 : Fin 8) (crd ch t) = !decide ((crd ch t 1).val = 7) := by
  have hd := atD_v ch (crd ch t)
  have hl := isLast_iff (crd ch t)
  have hv := isValid_iff (ch.v (at96 (crd ch t 0)))
  have he := isEmpty_iff (crd ch t) (ch.v (at96 (crd ch t 0)))
  show (!(k0_cond1 ((pfN ch).atD 2 (k0_off1 (crd ch t))) == 1#1 && k0_cond11 (crd ch t) == 1#1)
    && !(k0_cond12 (crd ch t) ((pfN ch).atD 2 (k0_off1 (crd ch t))) == 1#1)) = _
  rw [hd]
  by_cases h : (crd ch t 1).val = 7
  · rcases ch.hv (at96 (crd ch t 0)) with h0 | h1
    · have e := he.2 ⟨h0, h⟩
      rw [beq_iff_eq.2 e, decide_eq_true h]; simp
    · rw [beq_iff_eq.2 (hv.2 h1), beq_iff_eq.2 (hl.2 h), decide_eq_true h]; simp
  · have a : (k0_cond11 (crd ch t) == 1#1) = false := beq_eq_false_iff_ne.2 fun e => h (hl.1 e)
    have b : (k0_cond12 (crd ch t) (ch.v (at96 (crd ch t 0))) == 1#1) = false := beq_eq_false_iff_ne.2 fun e => h (he.1 e).2
    rw [a, b, decide_eq_false h]; simp

theorem flush7 (t : Fin (cfgA ch).N) : ((cfgA ch).win (7 : Fin 8)).flush t = decide ((crd ch t 1).val = 7) := by
  have key : ∀ t : Fin grid0.N, Pipeline.Window.flushOf grid0 true (fun i => cc0_transform_7 i) t
      = decide ((grid0.coords t 1).val = 7) := by decide +kernel
  exact (Pipeline.Window.flush_eq_flushOf _ t).trans (key t)

theorem fresh7 : ∀ n, n ≤ (cfgA ch).N → (cfgA ch).fresh (7 : Fin 8) n = true :=
  (cfgA ch).fresh_tab (7 : Fin 8) (fun _ => true) rfl fun t => by
    rw [flush7, idle7]; cases decide ((crd ch t 1).val = 7) <;> rfl

end Cert.ExpertsFrame

end
-- ==== Proof.ExpertsPoint.lean ====
module

public import proofs.«01_k».proof.Defs
public import proofs.«01_k».proof.Proof.ExpertsFrame
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-!
# The experts kernel from launch to end

What the scratch buffers hold is followed only between the first and the last point of a valid block: its first point
determines both whatever they held before. At every last point of a block the result's rows are stored whole.
-/

@[expose] public section

set_option maxRecDepth 16384
set_option Elab.async false

noncomputable section

namespace Cert.ExpertsFrame

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The scratch buffers' contents. -/
abbrev Scr (F : FTy → Type) (c : Dev nD) : Type :=
  Buf (Elt F) ((c : Thread nD τ).loc cc0_scratch0) × Buf (Elt F) ((c : Thread nD τ).loc cc0_scratch1)

/-! ## The first point determines both scratch buffers; a last point stores every row -/

/-- Stores over the whole accumulator leave nothing of what it held. -/
theorem over1 (L : List (View.Piece (Elt F) S1024x2048 .f32)) (h : ∀ y : S1024x2048.Idx, ∃ p ∈ L, y ∈ p.1.set)
    (f g : scM0_1.view.ty.Contents (Elt F)) : scM0_1.view.writes (Elt F) f L = scM0_1.view.writes (Elt F) g L :=
  scM0_1.view.contents_ext (fun y => congrFun (View.read_writes_of_cover _ _ _ _ _ h) y) (fun j hj => absurd rfl (hj j))

section

variable (c : Dev nD) (i : grid0.Coords)
  (arg5 : Memref sig .tc .vmem S8192x128 .i32) (harg5 : arg5.IsWhole)
  (arg6 : Memref sig .tc .vmem S1x2048x256 .f32) (harg6 : arg6.IsWhole)
  (arg7 : Memref sig .tc .vmem S1x2048x256 .f32) (harg7 : arg7.IsWhole)
  (arg8 : Memref sig .tc .vmem S1x1x256 .f32) (harg8 : arg8.IsWhole)
  (arg9 : Memref sig .tc .vmem S1x1x256 .f32) (harg9 : arg9.IsWhole)
  (arg10 : Memref sig .tc .vmem S1x256x2048 .f32) (harg10 : arg10.IsWhole)
  (arg11 : Memref sig .tc .vmem S1x1x2048 .f32) (harg11 : arg11.IsWhole)
  (arg12 : Memref sig .tc .vmem S16384x128 .f32) (harg12 : arg12.IsWhole)
  (T0 : Buf (Elt F) ((c : Thread nD τ).loc main_arg0)) (T1 : Buf (Elt F) ((c : Thread nD τ).loc main_arg1))
  (T2 : Buf (Elt F) ((c : Thread nD τ).loc main_arg2))
  (x0 : S8192x128.Idx → Elt F .i32) (x1 x2 : S1x2048x256.Idx → Elt F .f32) (x3 x4 : S1x1x256.Idx → Elt F .f32)
  (x5 : S1x256x2048.Idx → Elt F .f32) (x6 : S1x1x2048.Idx → Elt F .f32)

theorem runFirst_scr0 (p q : Scr F c) (hv : word i T2 = 1#32) (h0 : (i 1).val = 0) :
    (runFirst c i arg5 harg5 arg6 harg6 arg7 harg7 arg8 harg8 arg9 harg9 arg10 harg10 arg11 harg11 arg12 harg12 T0 T1 T2 x0 x1 x2 x3 x4 x5 x6 p.1 p.2 hv h0).1 = (runFirst c i arg5 harg5 arg6 harg6 arg7 harg7 arg8 harg8 arg9 harg9 arg10 harg10 arg11 harg11 arg12 harg12 T0 T1 T2 x0 x1 x2 x3 x4 x5 x6 q.1 q.2 hv h0).1 :=
  rfl

theorem first_not (h0 : (i 1).val = 0) : ¬runFirst.sl.v56 i = 1#1 := fun h => (isPos_iff (i 1).isLt).1 h h0

/-- The four chunks of the accumulator's columns as the first point stores them. -/
def firstAcc : List (View.Piece (Elt F) S1024x2048 .f32) :=
  runFirst.sl.HS1_1_3 arg5 arg6 arg7 arg8 arg9 arg10 arg11 x0 x1 x2 x3 x4 x5 x6
    ++ (runFirst.sl.HS1_1_2 arg5 arg6 arg7 arg8 arg9 arg10 arg11 x0 x1 x2 x3 x4 x5 x6
    ++ (runFirst.sl.HS1_1_1 arg5 arg6 arg7 arg8 arg9 arg10 arg11 x0 x1 x2 x3 x4 x5 x6
    ++ runFirst.sl.HS1_1 arg5 arg6 arg7 arg8 arg9 arg10 arg11 x0 x1 x2 x3 x4 x5 x6))

theorem firstAcc_cover (y : S1024x2048.Idx) :
    ∃ p ∈ firstAcc arg5 arg6 arg7 arg8 arg9 arg10 arg11 x0 x1 x2 x3 x4 x5 x6, y ∈ p.1.set :=
  View.cover_of_tiledL (firstAcc arg5 arg6 arg7 arg8 arg9 arg10 arg11 x0 x1 x2 x3 x4 x5 x6) S1024x512.size (by sl_kernel_rfl) y

theorem runFirst_acc (p : Scr F c) (hv : word i T2 = 1#32) (h0 : (i 1).val = 0) :
    (runFirst c i arg5 harg5 arg6 harg6 arg7 harg7 arg8 harg8 arg9 harg9 arg10 harg10 arg11 harg11 arg12 harg12 T0 T1 T2 x0 x1 x2 x3 x4 x5 x6 p.1 p.2 hv h0).2.1
      = scM0_1.view.writes (Elt F) p.2 (firstAcc arg5 arg6 arg7 arg8 arg9 arg10 arg11 x0 x1 x2 x3 x4 x5 x6) := by
  unfold firstAcc
  rw [View.writes_append, View.writes_append, View.writes_append]
  exact dif_neg (first_not i h0)

theorem runFirst_scr1 (p q : Scr F c) (hv : word i T2 = 1#32) (h0 : (i 1).val = 0) :
    (runFirst c i arg5 harg5 arg6 harg6 arg7 harg7 arg8 harg8 arg9 harg9 arg10 harg10 arg11 harg11 arg12 harg12 T0 T1 T2 x0 x1 x2 x3 x4 x5 x6 p.1 p.2 hv h0).2.1 = (runFirst c i arg5 harg5 arg6 harg6 arg7 harg7 arg8 harg8 arg9 harg9 arg10 harg10 arg11 harg11 arg12 harg12 T0 T1 T2 x0 x1 x2 x3 x4 x5 x6 q.1 q.2 hv h0).2.1 := by
  rw [runFirst_acc, runFirst_acc]
  exact over1 _ (firstAcc_cover arg5 arg6 arg7 arg8 arg9 arg10 arg11 x0 x1 x2 x3 x4 x5 x6) _ _

end

variable (ch : Tabs F)
variable (m : (ℓ : Loc nD τ sig) → Buf (Elt F) ℓ) (ρ : Dev nD → PrngReg)

/-! ## A point's staging buffers and blocks -/

abbrev ms_0 (t : Fin (cfgA ch).N) : Memref sig .tc .vmem S8192x128 .i32 := spec0_0.stage ((cfgA ch).slots t (0 : Fin 8))
abbrev hs_0 (t : Fin (cfgA ch).N) : (ms_0 ch t).IsWhole := hstage0_0 (((cfgA ch).slots t (0 : Fin 8)).cast nbuf0_0)
abbrev ms_1 (t : Fin (cfgA ch).N) : Memref sig .tc .vmem S1x2048x256 .f32 := spec0_1.stage ((cfgA ch).slots t (1 : Fin 8))
abbrev hs_1 (t : Fin (cfgA ch).N) : (ms_1 ch t).IsWhole := hstage0_1 (((cfgA ch).slots t (1 : Fin 8)).cast nbuf0_1)
abbrev ms_2 (t : Fin (cfgA ch).N) : Memref sig .tc .vmem S1x2048x256 .f32 := spec0_2.stage ((cfgA ch).slots t (2 : Fin 8))
abbrev hs_2 (t : Fin (cfgA ch).N) : (ms_2 ch t).IsWhole := hstage0_2 (((cfgA ch).slots t (2 : Fin 8)).cast nbuf0_2)
abbrev ms_3 (t : Fin (cfgA ch).N) : Memref sig .tc .vmem S1x1x256 .f32 := spec0_3.stage ((cfgA ch).slots t (3 : Fin 8))
abbrev hs_3 (t : Fin (cfgA ch).N) : (ms_3 ch t).IsWhole := hstage0_3 (((cfgA ch).slots t (3 : Fin 8)).cast nbuf0_3)
abbrev ms_4 (t : Fin (cfgA ch).N) : Memref sig .tc .vmem S1x1x256 .f32 := spec0_4.stage ((cfgA ch).slots t (4 : Fin 8))
abbrev hs_4 (t : Fin (cfgA ch).N) : (ms_4 ch t).IsWhole := hstage0_4 (((cfgA ch).slots t (4 : Fin 8)).cast nbuf0_4)
abbrev ms_5 (t : Fin (cfgA ch).N) : Memref sig .tc .vmem S1x256x2048 .f32 := spec0_5.stage ((cfgA ch).slots t (5 : Fin 8))
abbrev hs_5 (t : Fin (cfgA ch).N) : (ms_5 ch t).IsWhole := hstage0_5 (((cfgA ch).slots t (5 : Fin 8)).cast nbuf0_5)
abbrev ms_6 (t : Fin (cfgA ch).N) : Memref sig .tc .vmem S1x1x2048 .f32 := spec0_6.stage ((cfgA ch).slots t (6 : Fin 8))
abbrev hs_6 (t : Fin (cfgA ch).N) : (ms_6 ch t).IsWhole := hstage0_6 (((cfgA ch).slots t (6 : Fin 8)).cast nbuf0_6)
abbrev ms_7 (t : Fin (cfgA ch).N) : Memref sig .tc .vmem S16384x128 .f32 := spec0_7.stage ((cfgA ch).slots t (7 : Fin 8))
abbrev hs_7 (t : Fin (cfgA ch).N) : (ms_7 ch t).IsWhole := hstage0_7 (((cfgA ch).slots t (7 : Fin 8)).cast nbuf0_7)

/-- Window `w`'s block at point `t`, read off its array at launch. -/
def iblk (c : Dev nD) (w : Fin (cfgA ch).W) (t : Fin (cfgA ch).N) :
    (((cfgA ch).win w).xblock (crd ch t)).Idx → Elt F ((cfgA ch).win w).elt :=
  (((cfgA ch).win w).blk t).view.read (Elt F) ((s₀ m ρ).mem (((cfgA ch).win w).arr.view.loc (c : Thread nD τ)))

/-- Point `t`'s block is valid. -/
abbrev Valid (t : Fin (cfgA ch).N) : Prop := ch.v (at96 (crd ch t 0)) = 1#32

theorem hvalid {t : Fin (cfgA ch).N} (c : Dev nD) (h : Valid ch t) : word (F := F) (crd ch t) (c := c) ch.v = 1#32 :=
  (word_eq ch _ c).trans h

theorem hinvalid {t : Fin (cfgA ch).N} (c : Dev nD) (h : ¬Valid ch t) : ¬word (F := F) (crd ch t) (c := c) ch.v = 1#32 :=
  fun e => h ((word_eq ch _ c).symm.trans e)

theorem hzero {t : Fin (cfgA ch).N} (c : Dev nD) (h : ¬Valid ch t) : word (F := F) (crd ch t) (c := c) ch.v = 0#32 :=
  (word_eq ch _ c).trans ((ch.hv _).resolve_right h)

/-! ## What the buffers hold -/

/-- What the scratch buffers hold after point `t`, from what they held before. -/
def scrStep (c : Dev nD) (t : Fin (cfgA ch).N) (p : Scr F c) : Scr F c :=
  if hv : Valid ch t then
    if h0 : (crd ch t 1).val = 0 then
      ((runFirst c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p.1 p.2 (hvalid ch c hv) h0).1, (runFirst c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p.1 p.2 (hvalid ch c hv) h0).2.1)
    else if h7 : (crd ch t 1).val = 7 then p
    else ((runMid c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h0 h7 p.1 p.2).1, (runMid c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h0 h7 p.1 p.2).2.1)
  else p

/-- What they hold before point `n`, where that is determined. -/
def scr (c : Dev nD) : ℕ → Scr F c
  | 0 => (default, default)
  | n + 1 => if h : n < (cfgA ch).N then scrStep ch m ρ c ⟨n, h⟩ (scr c n) else scr c n

theorem scr_succ (c : Dev nD) (t : Fin (cfgA ch).N) : scr ch m ρ c (t.val + 1) = scrStep ch m ρ c t (scr ch m ρ c t.val) := by
  show (if h : t.val < (cfgA ch).N then scrStep ch m ρ c ⟨t.val, h⟩ (scr ch m ρ c t.val) else _) = _
  rw [dif_pos t.isLt]

/-- Before point `n` both are determined: it is inside a valid block. -/
def Live (n : ℕ) : Prop := n % 8 ≠ 0 ∧ ∃ h : n / 8 < 96, ch.v (at96 ⟨n / 8, h⟩) = 1#32

theorem live_iff (t : Fin (cfgA ch).N) : Live ch t.val ↔ (crd ch t 1).val ≠ 0 ∧ Valid ch t := by
  have hp := points t
  have hlt : (crd ch t 0).val < 96 := (crd ch t 0).isLt
  have e : (crd ch t 0).val = t.val / 8 := hp.1
  have e0 : ∀ h : t.val / 8 < 96, (⟨t.val / 8, h⟩ : Fin 96) = crd ch t 0 := fun h => Fin.ext e.symm
  have e1 : (crd ch t 1).val = t.val % 8 := hp.2
  unfold Live Valid
  rw [e1]
  exact and_congr_right fun _ => ⟨fun ⟨h, hv⟩ => by rw [← e0 h]; exact hv, fun hv => ⟨by omega, by rw [e0]; exact hv⟩⟩

theorem live_succ (t : Fin (cfgA ch).N) (h : Live ch (t.val + 1)) : (crd ch t 1).val ≠ 7 ∧ Valid ch t := by
  have hp := points t
  have e : (crd ch t 0).val = t.val / 8 := hp.1
  have e1 : (crd ch t 1).val = t.val % 8 := hp.2
  obtain ⟨hn, hb, hv⟩ := h
  refine ⟨by omega, ?_⟩
  have : (⟨(t.val + 1) / 8, hb⟩ : Fin 96) = crd ch t 0 := Fin.ext (by show (t.val + 1) / 8 = _; omega)
  unfold Valid
  rw [← this]; exact hv

/-- The rows stored at point `t`. -/
def outAt (c : Dev nD) (t : Fin (cfgA ch).N) : S16384x128.Idx → Elt F .f32 :=
  if h7 : (crd ch t 1).val = 7 then
    if hv : Valid ch t then
      VO0_7.read (Elt F) (VO0_7.writes (Elt F) VO0_7.junk
        (runLast c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h7 (scr ch m ρ c t.val).1 (scr ch m ρ c t.val).2).1)
    else
      VO0_7.read (Elt F) (VO0_7.writes (Elt F) VO0_7.junk
        (runEmpty c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hzero ch c hv) h7 (scr ch m ρ c t.val).1 (scr ch m ρ c t.val).2).1)
  else VO0_7.read (Elt F) VO0_7.junk

/-! ## The pipeline's proof data -/

/-- The invariant before point `n`. -/
def Phi (c : Dev nD) (n : ℕ) : sProp 𝕄 :=
  iprop((∃ p : Scr F c, ⌜Live ch n → p = scr ch m ρ c n⌝ ∗ (scM0_0.view.loc (c : Thread nD τ) ↦{fullShare} p.1)
      ∗ (scM0_1.view.loc (c : Thread nD τ) ↦{fullShare} p.2))
    ∗ (tbM0_0.view.loc (c : Thread nD τ) ↦{fullShare.right} (ch.e : Buf (Elt F) ((c : Thread nD τ).loc main_arg0)))
    ∗ (tbM0_1.view.loc (c : Thread nD τ) ↦{fullShare.right} (ch.r : Buf (Elt F) ((c : Thread nD τ).loc main_arg1)))
    ∗ (tbM0_2.view.loc (c : Thread nD τ) ↦{fullShare.right} (ch.v : Buf (Elt F) ((c : Thread nD τ).loc main_arg2))))

/-- The proof data of the one pipeline on core `c`. -/
def dats (_ : Fin 1) (c : Dev nD) : Dat τ (Elt F) Unit ℕ (UR sig nD τ) ℕ (cfgA ch) c where
  A w := (s₀ m ρ).mem (((cfgA ch).win w).arr.view.loc (c : Thread nD τ))
  after w t := match w with
    | ⟨0, _⟩ => iblk ch m ρ c (0 : Fin 8) t
    | ⟨1, _⟩ => iblk ch m ρ c (1 : Fin 8) t
    | ⟨2, _⟩ => iblk ch m ρ c (2 : Fin 8) t
    | ⟨3, _⟩ => iblk ch m ρ c (3 : Fin 8) t
    | ⟨4, _⟩ => iblk ch m ρ c (4 : Fin 8) t
    | ⟨5, _⟩ => iblk ch m ρ c (5 : Fin 8) t
    | ⟨6, _⟩ => iblk ch m ρ c (6 : Fin 8) t
    | ⟨7, _⟩ => outAt ch m ρ c t
  Φ t := Phi ch m ρ c t.val
  q _ := fullShare
  owed _ := 0

theorem after_0 (c : Dev nD) (t : Fin (cfgA ch).N) : (dats ch m ρ 0 c).after (0 : Fin 8) t = iblk ch m ρ c (0 : Fin 8) t := rfl
theorem after_1 (c : Dev nD) (t : Fin (cfgA ch).N) : (dats ch m ρ 0 c).after (1 : Fin 8) t = iblk ch m ρ c (1 : Fin 8) t := rfl
theorem after_2 (c : Dev nD) (t : Fin (cfgA ch).N) : (dats ch m ρ 0 c).after (2 : Fin 8) t = iblk ch m ρ c (2 : Fin 8) t := rfl
theorem after_3 (c : Dev nD) (t : Fin (cfgA ch).N) : (dats ch m ρ 0 c).after (3 : Fin 8) t = iblk ch m ρ c (3 : Fin 8) t := rfl
theorem after_4 (c : Dev nD) (t : Fin (cfgA ch).N) : (dats ch m ρ 0 c).after (4 : Fin 8) t = iblk ch m ρ c (4 : Fin 8) t := rfl
theorem after_5 (c : Dev nD) (t : Fin (cfgA ch).N) : (dats ch m ρ 0 c).after (5 : Fin 8) t = iblk ch m ρ c (5 : Fin 8) t := rfl
theorem after_6 (c : Dev nD) (t : Fin (cfgA ch).N) : (dats ch m ρ 0 c).after (6 : Fin 8) t = iblk ch m ρ c (6 : Fin 8) t := rfl
theorem after_7 (c : Dev nD) (t : Fin (cfgA ch).N) : (dats ch m ρ 0 c).after (7 : Fin 8) t = outAt ch m ρ c t := rfl

theorem before_0 (c : Dev nD) (t : Fin (cfgA ch).N) (d) : (dats ch m ρ 0 c).before (0 : Fin 8) t d = iblk ch m ρ c (0 : Fin 8) t :=
  ((dats ch m ρ 0 c).before_in_eq_fetched (0 : Fin 8) rfl (fun _ => rfl) (fun _ _ _ => rfl) (fun t => by rw [after_0]; unfold Dat.blockOf iblk; rfl) t d).trans
    (by unfold Dat.fetched Dat.blockOf iblk; rfl)
theorem before_1 (c : Dev nD) (t : Fin (cfgA ch).N) (d) : (dats ch m ρ 0 c).before (1 : Fin 8) t d = iblk ch m ρ c (1 : Fin 8) t :=
  ((dats ch m ρ 0 c).before_in_eq_fetched (1 : Fin 8) rfl (fun _ => rfl) (fun _ _ _ => rfl) (fun t => by rw [after_1]; unfold Dat.blockOf iblk; rfl) t d).trans
    (by unfold Dat.fetched Dat.blockOf iblk; rfl)
theorem before_2 (c : Dev nD) (t : Fin (cfgA ch).N) (d) : (dats ch m ρ 0 c).before (2 : Fin 8) t d = iblk ch m ρ c (2 : Fin 8) t :=
  ((dats ch m ρ 0 c).before_in_eq_fetched (2 : Fin 8) rfl (fun _ => rfl) (fun _ _ _ => rfl) (fun t => by rw [after_2]; unfold Dat.blockOf iblk; rfl) t d).trans
    (by unfold Dat.fetched Dat.blockOf iblk; rfl)
theorem before_3 (c : Dev nD) (t : Fin (cfgA ch).N) (d) : (dats ch m ρ 0 c).before (3 : Fin 8) t d = iblk ch m ρ c (3 : Fin 8) t :=
  ((dats ch m ρ 0 c).before_in_eq_fetched (3 : Fin 8) rfl (fun _ => rfl) (fun _ _ _ => rfl) (fun t => by rw [after_3]; unfold Dat.blockOf iblk; rfl) t d).trans
    (by unfold Dat.fetched Dat.blockOf iblk; rfl)
theorem before_4 (c : Dev nD) (t : Fin (cfgA ch).N) (d) : (dats ch m ρ 0 c).before (4 : Fin 8) t d = iblk ch m ρ c (4 : Fin 8) t :=
  ((dats ch m ρ 0 c).before_in_eq_fetched (4 : Fin 8) rfl (fun _ => rfl) (fun _ _ _ => rfl) (fun t => by rw [after_4]; unfold Dat.blockOf iblk; rfl) t d).trans
    (by unfold Dat.fetched Dat.blockOf iblk; rfl)
theorem before_5 (c : Dev nD) (t : Fin (cfgA ch).N) (d) : (dats ch m ρ 0 c).before (5 : Fin 8) t d = iblk ch m ρ c (5 : Fin 8) t :=
  ((dats ch m ρ 0 c).before_in_eq_fetched (5 : Fin 8) rfl (fun _ => rfl) (fun _ _ _ => rfl) (fun t => by rw [after_5]; unfold Dat.blockOf iblk; rfl) t d).trans
    (by unfold Dat.fetched Dat.blockOf iblk; rfl)
theorem before_6 (c : Dev nD) (t : Fin (cfgA ch).N) (d) : (dats ch m ρ 0 c).before (6 : Fin 8) t d = iblk ch m ρ c (6 : Fin 8) t :=
  ((dats ch m ρ 0 c).before_in_eq_fetched (6 : Fin 8) rfl (fun _ => rfl) (fun _ _ _ => rfl) (fun t => by rw [after_6]; unfold Dat.blockOf iblk; rfl) t d).trans
    (by unfold Dat.fetched Dat.blockOf iblk; rfl)

end Cert.ExpertsFrame

end
-- ==== Proof.ExpertsBody.lean ====
module

public import proofs.«01_k».proof.Defs
public import proofs.«01_k».proof.Proof.ExpertsPoint
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.Claim

/-!
# The experts kernel's points in the pipeline

Each of the five kinds of point meets the pipeline's obligation.
-/

@[expose] public section

set_option maxRecDepth 16384
set_option Elab.async false

noncomputable section

namespace Cert.ExpertsFrame

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section

variable (c : Dev nD) (i : grid0.Coords)
  (arg5 : Memref sig .tc .vmem S8192x128 .i32) (harg5 : arg5.IsWhole)
  (arg6 : Memref sig .tc .vmem S1x2048x256 .f32) (harg6 : arg6.IsWhole)
  (arg7 : Memref sig .tc .vmem S1x2048x256 .f32) (harg7 : arg7.IsWhole)
  (arg8 : Memref sig .tc .vmem S1x1x256 .f32) (harg8 : arg8.IsWhole)
  (arg9 : Memref sig .tc .vmem S1x1x256 .f32) (harg9 : arg9.IsWhole)
  (arg10 : Memref sig .tc .vmem S1x256x2048 .f32) (harg10 : arg10.IsWhole)
  (arg11 : Memref sig .tc .vmem S1x1x2048 .f32) (harg11 : arg11.IsWhole)
  (arg12 : Memref sig .tc .vmem S16384x128 .f32) (harg12 : arg12.IsWhole)
  (T0 : Buf (Elt F) ((c : Thread nD τ).loc main_arg0)) (T1 : Buf (Elt F) ((c : Thread nD τ).loc main_arg1))
  (T2 : Buf (Elt F) ((c : Thread nD τ).loc main_arg2))
  (x0 : S8192x128.Idx → Elt F .i32) (x1 x2 : S1x2048x256.Idx → Elt F .f32) (x3 x4 : S1x1x256.Idx → Elt F .f32)
  (x5 : S1x256x2048.Idx → Elt F .f32) (x6 : S1x1x2048.Idx → Elt F .f32)

/-- A place lies in the sixteenth that its row's remainder names. -/
theorem mem_strided (r : Rect S16384x128) (n : ℕ) (ho : r.off = ![n, 0]) (hs : r.size = ![1024, 128]) (ht : r.stride = ![16, 1])
    (y : S16384x128.Idx) (hy : (y 0).val % 16 = n) : y ∈ r.set := by
  have h0 : (y 0).val < 16384 := (y 0).isLt
  have h1 : (y 1).val < 128 := (y 1).isLt
  refine r.toLoadRect.mem_set.mpr ?_
  rw [ho, hs, ht]
  intro a
  match a with
  | ⟨0, _⟩ => exact ⟨(y 0).val / 16, by show _ < 1024; omega, by show (y 0).val = n + 16 * _; omega⟩
  | ⟨1, _⟩ => exact ⟨(y 1).val, h1, by show (y 1).val = 0 + 1 * _; omega⟩

theorem runLast_cover (hv : word i T2 = 1#32) (h7 : (i 1).val = 7) (p : Scr F c) (y : S16384x128.Idx) :
    ∃ q ∈ (runLast c i arg5 harg5 arg6 harg6 arg7 harg7 arg8 harg8 arg9 harg9 arg10 harg10 arg11 harg11 arg12 harg12 T0 T1 T2 x0 x1 x2 x3 x4 x5 x6 hv h7 p.1 p.2).1, y ∈ q.1.set := by
  have key : ∀ n : Fin 16, ∃ q ∈ (runLast c i arg5 harg5 arg6 harg6 arg7 harg7 arg8 harg8 arg9 harg9 arg10 harg10 arg11 harg11 arg12 harg12 T0 T1 T2 x0 x1 x2 x3 x4 x5 x6 hv h7 p.1 p.2).1,
      q.1.off = ![n.val, 0] ∧ q.1.size = ![1024, 128] ∧ q.1.stride = ![16, 1] := by
    intro n
    have hlen : (runLast c i arg5 harg5 arg6 harg6 arg7 harg7 arg8 harg8 arg9 harg9 arg10 harg10 arg11 harg11 arg12 harg12 T0 T1 T2 x0 x1 x2 x3 x4 x5 x6 hv h7 p.1 p.2).1.length = 16 := rfl
    refine ⟨(runLast c i arg5 harg5 arg6 harg6 arg7 harg7 arg8 harg8 arg9 harg9 arg10 harg10 arg11 harg11 arg12 harg12 T0 T1 T2 x0 x1 x2 x3 x4 x5 x6 hv h7 p.1 p.2).1[15 - n.val]'(by rw [hlen]; omega), List.getElem_mem _, ?_⟩
    fin_cases n <;> exact ⟨rfl, rfl, rfl⟩
  obtain ⟨q, hq, ho, hs, ht⟩ := key ⟨(y 0).val % 16, Nat.mod_lt _ (by omega)⟩
  exact ⟨q, hq, mem_strided q.1 _ ho hs ht y rfl⟩

theorem runEmpty_cover (hv : word i T2 = 0#32) (h7 : (i 1).val = 7) (p : Scr F c) (y : S16384x128.Idx) :
    ∃ q ∈ (runEmpty c i arg5 harg5 arg6 harg6 arg7 harg7 arg8 harg8 arg9 harg9 arg10 harg10 arg11 harg11 arg12 harg12 T0 T1 T2 x0 x1 x2 x3 x4 x5 x6 hv h7 p.1 p.2).1, y ∈ q.1.set :=
  View.cover_of_tiledL (runEmpty c i arg5 harg5 arg6 harg6 arg7 harg7 arg8 harg8 arg9 harg9 arg10 harg10 arg11 harg11 arg12 harg12 T0 T1 T2 x0 x1 x2 x3 x4 x5 x6 hv h7 p.1 p.2).1 S16384x128.size (by sl_kernel_rfl) y

end

variable (ch : Tabs F)
variable (m : (ℓ : Loc nD τ sig) → Buf (Elt F) ℓ) (ρ : Dev nD → PrngReg)

theorem before_7 (c : Dev nD) (t : Fin (cfgA ch).N) (d) : (dats ch m ρ 0 c).before (7 : Fin 8) t d = d := by
  rw [(dats ch m ρ 0 c).before_out_traj (7 : Fin 8) rfl (fun _ _ => rfl)
    (fun t _ _ hf => absurd (hf.symm.trans (fresh7 ch t.val (Nat.le_of_lt t.isLt))) Bool.false_ne_true) t.val t rfl d]
  rw [fresh7 ch t.val (Nat.le_of_lt t.isLt)]
  rfl

/-- The body at point `t` on its staging buffers. -/
abbrev bodyAt (c : Dev nD) (t : Fin (cfgA ch).N) (K : PUnit → sProp 𝕄) : sProp 𝕄 :=
  runs c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) K

set_option maxHeartbeats 4000000 in
/-- A run meets the obligation at its point: the blocks and the tables are given back as they were, the scratch buffers at what
    they are followed to, the result's buffer as the point leaves it. -/
theorem sound_core (c : Dev nD) (t : Fin (cfgA ch).N) (p p' : Scr F c) (P7 Q7 R : sProp 𝕄) (d : S16384x128.Idx → Elt F .f32)
    (hrun : ∀ K : PUnit → sProp 𝕄, iprop(held c (ms_0 ch t) (ms_1 ch t) (ms_2 ch t) (ms_3 ch t) (ms_4 ch t) (ms_5 ch t) (ms_6 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t)
        ∗ owns (c : Thread nD τ) (ms_7 ch t) fullShare d ∗ (scM0_0.view.loc (c : Thread nD τ) ↦{fullShare} p.1) ∗ (scM0_1.view.loc (c : Thread nD τ) ↦{fullShare} p.2)
        ∗ (iprop(held c (ms_0 ch t) (ms_1 ch t) (ms_2 ch t) (ms_3 ch t) (ms_4 ch t) (ms_5 ch t) (ms_6 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) ∗ P7 ∗ (scM0_0.view.loc (c : Thread nD τ) ↦{fullShare} p'.1) ∗ (scM0_1.view.loc (c : Thread nD τ) ↦{fullShare} p'.2)) -∗ K ⟨⟩))
      ⊢ bodyAt ch c t K)
    (h7 : P7 ⊢ Q7) (hl : Live ch (t.val + 1) → p' = scr ch m ρ c (t.val + 1)) :
    iprop(((scM0_0.view.loc (c : Thread nD τ) ↦{fullShare} p.1) ∗ (scM0_1.view.loc (c : Thread nD τ) ↦{fullShare} p.2)) ∗ ((tbM0_0.view.loc (c : Thread nD τ) ↦{fullShare.right} (ch.e : Buf (Elt F) ((c : Thread nD τ).loc main_arg0)))
      ∗ (tbM0_1.view.loc (c : Thread nD τ) ↦{fullShare.right} (ch.r : Buf (Elt F) ((c : Thread nD τ).loc main_arg1)))
      ∗ (tbM0_2.view.loc (c : Thread nD τ) ↦{fullShare.right} (ch.v : Buf (Elt F) ((c : Thread nD τ).loc main_arg2))))
      ∗ R ∗ owns (c : Thread nD τ) (ms_0 ch t) fullShare (iblk ch m ρ c (0 : Fin 8) t) ∗ owns (c : Thread nD τ) (ms_1 ch t) fullShare (iblk ch m ρ c (1 : Fin 8) t) ∗ owns (c : Thread nD τ) (ms_2 ch t) fullShare (iblk ch m ρ c (2 : Fin 8) t) ∗ owns (c : Thread nD τ) (ms_3 ch t) fullShare (iblk ch m ρ c (3 : Fin 8) t) ∗ owns (c : Thread nD τ) (ms_4 ch t) fullShare (iblk ch m ρ c (4 : Fin 8) t) ∗ owns (c : Thread nD τ) (ms_5 ch t) fullShare (iblk ch m ρ c (5 : Fin 8) t) ∗ owns (c : Thread nD τ) (ms_6 ch t) fullShare (iblk ch m ρ c (6 : Fin 8) t)
      ∗ owns (c : Thread nD τ) (ms_7 ch t) fullShare d)
    ⊢ bodyAt ch c t fun _ => iprop(Phi ch m ρ c (t.val + 1) ∗ R ∗ owns (c : Thread nD τ) (ms_0 ch t) fullShare (iblk ch m ρ c (0 : Fin 8) t) ∗ owns (c : Thread nD τ) (ms_1 ch t) fullShare (iblk ch m ρ c (1 : Fin 8) t) ∗ owns (c : Thread nD τ) (ms_2 ch t) fullShare (iblk ch m ρ c (2 : Fin 8) t) ∗ owns (c : Thread nD τ) (ms_3 ch t) fullShare (iblk ch m ρ c (3 : Fin 8) t) ∗ owns (c : Thread nD τ) (ms_4 ch t) fullShare (iblk ch m ρ c (4 : Fin 8) t) ∗ owns (c : Thread nD τ) (ms_5 ch t) fullShare (iblk ch m ρ c (5 : Fin 8) t) ∗ owns (c : Thread nD τ) (ms_6 ch t) fullShare (iblk ch m ρ c (6 : Fin 8) t) ∗ Q7) := by
  iintro ⟨⟨HS0, HS1⟩, ⟨HT0, HT1, HT2⟩, Ho, H0, H1, H2, H3, H4, H5, H6, H7⟩
  iapply (hrun _)
  unfold held Phi
  isplitl [H0 H1 H2 H3 H4 H5 H6 HT0 HT1 HT2]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    iexact HT2
  isplitl [H7]; · iexact H7
  isplitl [HS0]; · iexact HS0
  isplitl [HS1]; · iexact HS1
  iintro ⟨⟨H0, H1, H2, H3, H4, H5, H6, HT0, HT1, HT2⟩, H7, HS0, HS1⟩
  isplitl [HS0 HS1 HT0 HT1 HT2]
  · isplitl [HS0 HS1]
    · iexists p'
      isplitr; · ipureintro; exact hl
      isplitl [HS0]; · iexact HS0
      iexact HS1
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iapply h7
  iexact H7

theorem scr_first (c : Dev nD) (t : Fin (cfgA ch).N) (hv : Valid ch t) (h0 : (crd ch t 1).val = 0) (p : Scr F c) :
    ((runFirst c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p.1 p.2 (hvalid ch c hv) h0).1, (runFirst c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p.1 p.2 (hvalid ch c hv) h0).2.1)
      = scr ch m ρ c (t.val + 1) := by
  rw [scr_succ, scrStep, dif_pos hv, dif_pos h0]
  exact congrArg₂ Prod.mk (runFirst_scr0 c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p (scr ch m ρ c t.val) (hvalid ch c hv) h0)
    (runFirst_scr1 c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p (scr ch m ρ c t.val) (hvalid ch c hv) h0)

theorem scr_mid (c : Dev nD) (t : Fin (cfgA ch).N) (hv : Valid ch t) (h0 : (crd ch t 1).val ≠ 0) (h7 : (crd ch t 1).val ≠ 7) :
    ((runMid c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h0 h7 (scr ch m ρ c t.val).1 (scr ch m ρ c t.val).2).1,
      (runMid c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h0 h7 (scr ch m ρ c t.val).1 (scr ch m ρ c t.val).2).2.1)
      = scr ch m ρ c (t.val + 1) := by
  rw [scr_succ, scrStep, dif_pos hv, dif_neg h0, dif_neg h7]

attribute [local irreducible] runFirst runMid

set_option maxHeartbeats 8000000 in
/-- The obligation at every point, by its kind. -/
theorem sound_body (c : Dev nD) (t : Fin (cfgA ch).N) :
    iprop((dats ch m ρ 0 c).Φ t.castSucc ∗ (dats ch m ρ 0 c).owesAt () t.castSucc
        ∗ (∃ d, owns (c : Thread nD τ) (ms_0 ch t) fullShare ((dats ch m ρ 0 c).before (0 : Fin 8) t d))
        ∗ (∃ d, owns (c : Thread nD τ) (ms_1 ch t) fullShare ((dats ch m ρ 0 c).before (1 : Fin 8) t d))
        ∗ (∃ d, owns (c : Thread nD τ) (ms_2 ch t) fullShare ((dats ch m ρ 0 c).before (2 : Fin 8) t d))
        ∗ (∃ d, owns (c : Thread nD τ) (ms_3 ch t) fullShare ((dats ch m ρ 0 c).before (3 : Fin 8) t d))
        ∗ (∃ d, owns (c : Thread nD τ) (ms_4 ch t) fullShare ((dats ch m ρ 0 c).before (4 : Fin 8) t d))
        ∗ (∃ d, owns (c : Thread nD τ) (ms_5 ch t) fullShare ((dats ch m ρ 0 c).before (5 : Fin 8) t d))
        ∗ (∃ d, owns (c : Thread nD τ) (ms_6 ch t) fullShare ((dats ch m ρ 0 c).before (6 : Fin 8) t d))
        ∗ (∃ d, owns (c : Thread nD τ) (ms_7 ch t) fullShare ((dats ch m ρ 0 c).before (7 : Fin 8) t d)))
      ⊢ bodyAt ch c t fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases h7 : (crd ch t 1).val = 7
  · have i7 : (cfgA ch).idle (7 : Fin 8) ((cfgA ch).grid.coords t) = false := (idle7 ch t).trans (by rw [decide_eq_true h7]; rfl)
    have f7 := (flush7 ch t).trans (decide_eq_true h7)
    by_cases hv : Valid ch t
    · rewrite [i7]
      simp only [before_0, before_1, before_2, before_3, before_4, before_5, before_6, before_7, after_0, after_1, after_2, after_3, after_4, after_5, after_6, after_7, f7]
      rewrite [show (dats ch m ρ 0 c).Φ t.succ = Phi ch m ρ c (t.val + 1) from rfl, show (dats ch m ρ 0 c).Φ t.castSucc = Phi ch m ρ c t.val from rfl,
        show (dats ch m ρ 0 c).owesAt () t.succ = (dats ch m ρ 0 c).owesAt () t.castSucc from rfl]
      unfold Phi
      iintro ⟨⟨⟨%p, %hp, HS0, HS1⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have hp := hp ((live_iff ch t).2 ⟨by omega, hv⟩)
      obtain rfl := hp
      iapply (sound_core ch m ρ c t (scr ch m ρ c t.val) ((runLast c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h7 (scr ch m ρ c t.val).1 (scr ch m ρ c t.val).2).2.1, (runLast c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h7 (scr ch m ρ c t.val).1 (scr ch m ρ c t.val).2).2.2.1) _ _ _ d7 (fun K => by
          iintro ⟨Hh, H7, HS0, HS1, Hk⟩
          iapply ((runLast c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h7 (scr ch m ρ c t.val).1 (scr ch m ρ c t.val).2).2.2.2 K)
          isplitl [Hh]; · iexact Hh
          isplitl [H7]; · iexists _; iexact H7
          isplitl [HS0]; · iexact HS0
          isplitl [HS1]; · iexact HS1
          iexact Hk) (by
          iintro ⟨%f, H⟩
          unfold owns; iexists _; isplitr; swap
          · iexact H
          · ipureintro; unfold outAt; rw [dif_pos h7, dif_pos hv]; exact View.read_writes_of_cover _ _ _ _ _ (runLast_cover c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h7 (scr ch m ρ c t.val))) (fun h => absurd h7 (live_succ ch t h).1))
      isplitl [HS0 HS1]
      · isplitl [HS0]; · iexact HS0
        iexact HS1
      isplitl [HT0 HT1 HT2]
      · isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rewrite [i7]
      simp only [before_0, before_1, before_2, before_3, before_4, before_5, before_6, before_7, after_0, after_1, after_2, after_3, after_4, after_5, after_6, after_7, f7]
      rewrite [show (dats ch m ρ 0 c).Φ t.succ = Phi ch m ρ c (t.val + 1) from rfl, show (dats ch m ρ 0 c).Φ t.castSucc = Phi ch m ρ c t.val from rfl,
        show (dats ch m ρ 0 c).owesAt () t.succ = (dats ch m ρ 0 c).owesAt () t.castSucc from rfl]
      unfold Phi
      iintro ⟨⟨⟨%p, %hp, HS0, HS1⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_core ch m ρ c t p ((runEmpty c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hzero ch c hv) h7 p.1 p.2).2.1, (runEmpty c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hzero ch c hv) h7 p.1 p.2).2.2.1) _ _ _ d7 (fun K => by
          iintro ⟨Hh, H7, HS0, HS1, Hk⟩
          iapply ((runEmpty c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hzero ch c hv) h7 p.1 p.2).2.2.2 K)
          isplitl [Hh]; · iexact Hh
          isplitl [H7]; · iexists _; iexact H7
          isplitl [HS0]; · iexact HS0
          isplitl [HS1]; · iexact HS1
          iexact Hk) (by
          iintro ⟨%f, H⟩
          unfold owns; iexists _; isplitr; swap
          · iexact H
          · ipureintro; unfold outAt; rw [dif_pos h7, dif_neg hv]; exact View.read_writes_of_cover _ _ _ _ _ (runEmpty_cover c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hzero ch c hv) h7 p)) (fun h => absurd h7 (live_succ ch t h).1))
      isplitl [HS0 HS1]
      · isplitl [HS0]; · iexact HS0
        iexact HS1
      isplitl [HT0 HT1 HT2]
      · isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have i7 : (cfgA ch).idle (7 : Fin 8) ((cfgA ch).grid.coords t) = true := (idle7 ch t).trans (by rw [decide_eq_false h7]; rfl)
    have f7 := (flush7 ch t).trans (decide_eq_false h7)
    by_cases hv : Valid ch t
    · by_cases h0 : (crd ch t 1).val = 0
      · rewrite [i7]
        simp only [before_0, before_1, before_2, before_3, before_4, before_5, before_6, before_7, after_0, after_1, after_2, after_3, after_4, after_5, after_6, after_7, f7]
        rewrite [show (dats ch m ρ 0 c).Φ t.succ = Phi ch m ρ c (t.val + 1) from rfl, show (dats ch m ρ 0 c).Φ t.castSucc = Phi ch m ρ c t.val from rfl,
          show (dats ch m ρ 0 c).owesAt () t.succ = (dats ch m ρ 0 c).owesAt () t.castSucc from rfl]
        unfold Phi
        iintro ⟨⟨⟨%p, %hp, HS0, HS1⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (sound_core ch m ρ c t p ((runFirst c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p.1 p.2 (hvalid ch c hv) h0).1, (runFirst c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p.1 p.2 (hvalid ch c hv) h0).2.1) _ _ _ d7 (fun K => (runFirst c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) p.1 p.2 (hvalid ch c hv) h0).2.2 _ K) (by iintro H; iexists d7; iexact H) (fun _ => scr_first ch m ρ c t hv h0 p))
        isplitl [HS0 HS1]
        · isplitl [HS0]; · iexact HS0
          iexact HS1
        isplitl [HT0 HT1 HT2]
        · isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rewrite [i7]
        simp only [before_0, before_1, before_2, before_3, before_4, before_5, before_6, before_7, after_0, after_1, after_2, after_3, after_4, after_5, after_6, after_7, f7]
        rewrite [show (dats ch m ρ 0 c).Φ t.succ = Phi ch m ρ c (t.val + 1) from rfl, show (dats ch m ρ 0 c).Φ t.castSucc = Phi ch m ρ c t.val from rfl,
          show (dats ch m ρ 0 c).owesAt () t.succ = (dats ch m ρ 0 c).owesAt () t.castSucc from rfl]
        unfold Phi
        iintro ⟨⟨⟨%p, %hp, HS0, HS1⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        have hp := hp ((live_iff ch t).2 ⟨h0, hv⟩)
        obtain rfl := hp
        iapply (sound_core ch m ρ c t (scr ch m ρ c t.val) ((runMid c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h0 h7 (scr ch m ρ c t.val).1 (scr ch m ρ c t.val).2).1, (runMid c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h0 h7 (scr ch m ρ c t.val).1 (scr ch m ρ c t.val).2).2.1) _ _ _ d7 (fun K => (runMid c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hvalid ch c hv) h0 h7 (scr ch m ρ c t.val).1 (scr ch m ρ c t.val).2).2.2 _ K) (by iintro H; iexists d7; iexact H) (fun _ => scr_mid ch m ρ c t hv h0 h7))
        isplitl [HS0 HS1]
        · isplitl [HS0]; · iexact HS0
          iexact HS1
        isplitl [HT0 HT1 HT2]
        · isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · rewrite [i7]
      simp only [before_0, before_1, before_2, before_3, before_4, before_5, before_6, before_7, after_0, after_1, after_2, after_3, after_4, after_5, after_6, after_7, f7]
      rewrite [show (dats ch m ρ 0 c).Φ t.succ = Phi ch m ρ c (t.val + 1) from rfl, show (dats ch m ρ 0 c).Φ t.castSucc = Phi ch m ρ c t.val from rfl,
        show (dats ch m ρ 0 c).owesAt () t.succ = (dats ch m ρ 0 c).owesAt () t.castSucc from rfl]
      unfold Phi
      iintro ⟨⟨⟨%p, %hp, HS0, HS1⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_core ch m ρ c t p ((runSkip c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hinvalid ch c hv) h7 p.1 p.2).1, (runSkip c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hinvalid ch c hv) h7 p.1 p.2).2.1) _ _ _ d7 (fun K => (runSkip c (crd ch t) (ms_0 ch t) (hs_0 ch t) (ms_1 ch t) (hs_1 ch t) (ms_2 ch t) (hs_2 ch t) (ms_3 ch t) (hs_3 ch t) (ms_4 ch t) (hs_4 ch t) (ms_5 ch t) (hs_5 ch t) (ms_6 ch t) (hs_6 ch t) (ms_7 ch t) (hs_7 ch t) ch.e ch.r ch.v (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (iblk ch m ρ c (6 : Fin 8) t) (hinvalid ch c hv) h7 p.1 p.2).2.2 _ K) (by iintro H; iexists d7; iexact H) (fun h => absurd (live_succ ch t h).2 hv))
      isplitl [HS0 HS1]
      · isplitl [HS0]; · iexact HS0
        iexact HS1
      isplitl [HT0 HT1 HT2]
      · isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.ExpertsFrame

end
-- ==== Proof.ExpertsLaunch.lean ====
module

public import proofs.«01_k».proof.Defs
public import proofs.«01_k».proof.Proof.ExpertsBody
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.Claim

/-!
# The experts kernel's launch

From any memory whose tables are in range the run ends, the arguments unchanged and the result as the points leave it.
-/

@[expose] public section

set_option maxRecDepth 16384
set_option Elab.async false

noncomputable section

namespace Cert.ExpertsFrame

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resources of the run. -/
abbrev EP : Emb (UR sig nD τ) 𝕄 := emb₁

variable (ch : Tabs F)
variable (m : (ℓ : Loc nD τ sig) → Buf (Elt F) ℓ) (ρ : Dev nD → PrngReg)

/-- The memory's tables are `ch`'s. -/
def Pinned : Prop :=
  (∀ c : Dev nD, m ((c : Thread nD τ).loc main_arg0) = ch.e) ∧ (∀ c : Dev nD, m ((c : Thread nD τ).loc main_arg1) = ch.r)
    ∧ (∀ c : Dev nD, m ((c : Thread nD τ).loc main_arg2) = ch.v)

/-- The library's body obligation, at every point. -/
theorem body_obligation (c : Dev nD) : BodyObligation (dats ch m ρ 0 c) (defs₀ (F := F)) Variants.none () Set.univ := fun t => by
  rw [bigSep_W0]
  exact sound_body ch m ρ c t

/-! ## The launch -/

/-- The rounds library's launch element. -/
def u₀ : UR sig nD τ :=
  initOf (Pipeline.cells (pcs ch) ((launch0 (F := F)).cellOf_inj fun _ => adm ch))
    (Pipeline.launchToks (pcs ch) ((launch0 (F := F)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2⟩, ⟨%a0, HS0⟩, ⟨%a1, HS1⟩⟩
  isplitl [HS0 HS1]
  · iexists (a0, a1)
    isplitr; · ipureintro; intro h; exact absurd rfl h.1
    isplitl [HS0]; · iexact HS0
    iexact HS1
  isplitl [HT0]
  · iexact HT0
  isplitl [HT1]
  · iexact HT1
  iexact HT2

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (cfgA ch).N from rfl]
  unfold Phi
  iintro ⟨⟨%p, -, HS0, HS1⟩, -, -, -⟩
  isplitr; · iempintro
  isplitl [HS0]
  · iexists p.1; iexact HS0
  iexists p.2; iexact HS1

/-- The physical post: every array at what the library computes, every table at what the pipeline ran at. -/
def QC : PUnit × MemSt nD τ sig (Elt F) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 3) : m ((c : Thread nD τ).loc (pre0.ref j)) = (adm ch).1 j := by
  fin_cases j
  · exact hp.1 c
  · exact hp.2.1 c
  · exact hp.2.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := F)) (onTc (τ := τ) (main (F := F))) (s₀ m ρ) (fun r => QC ch m ρ r ∧ r.2.sem = fun _ => 0) :=
  Pipeline.θ_run_region_noSem_pf_quiescent pcfgs (fun _ => adm ch) (dats ch m ρ) () ((launch0 (F := F)).cellOf_inj fun _ => adm ch) (0 : Fin 1)
    (launch0 (F := F)).win.to₀ (launch0 (F := F)).pre EP defs₀ Variants.none m ρ main
    (hbody := fun c => (body_obligation ch m ρ c).loose) (hne := (launch0 (F := F)).block_pos)
    (harr := (launch0 (F := F)).arr_whole) (hstage := (launch0 (F := F)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := F)).win.arr_inj c (launch0 (F := F)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := F)) (onTc (τ := τ) (main (F := F))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 0).trans (hp.1 c).symm, ((h c).2 1).trans (hp.2.1 c).symm, ((h c).2 2).trans (hp.2.2 c).symm, ((h c).1 (0 : Fin 8)).trans ((dats ch m ρ 0 c).arrAt_in (0 : Fin 8) rfl _), ((h c).1 (1 : Fin 8)).trans ((dats ch m ρ 0 c).arrAt_in (1 : Fin 8) rfl _), ((h c).1 (2 : Fin 8)).trans ((dats ch m ρ 0 c).arrAt_in (2 : Fin 8) rfl _), ((h c).1 (3 : Fin 8)).trans ((dats ch m ρ 0 c).arrAt_in (3 : Fin 8) rfl _), ((h c).1 (4 : Fin 8)).trans ((dats ch m ρ 0 c).arrAt_in (4 : Fin 8) rfl _), ((h c).1 (5 : Fin 8)).trans ((dats ch m ρ 0 c).arrAt_in (5 : Fin 8) rfl _), ((h c).1 (6 : Fin 8)).trans ((dats ch m ρ 0 c).arrAt_in (6 : Fin 8) rfl _)⟩) (run_main ch m ρ hp)

/-- The run ends, every argument unchanged and every counter at zero. -/
theorem frame (hp : Pinned ch m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged ch m ρ hp) ((θ_run defs _ _).mono (fun _ h => h.2) (run_main_quiescent ch m ρ hp))

end Cert.ExpertsFrame

end
-- ==== Proof.ExpertsRange.lean ====
module

public import proofs.«01_k».proof.Defs
public import proofs.«01_k».proof.Proof.ExpertsLaunch
public import proofs.«01_k».proof.Proof.Gen.Pre_block_ranges

/-!
# The tables' ranges, read off the precondition
-/

@[expose] public section

noncomputable section

namespace Cert.ExpertsFrame

open Cert.ExpertsIdeal Cert.ExpertsIdeal.Gen
open Idealize.ShloMosaic
open Idealize.ShloMosaic.TcCoe

variable {F : FTy → Type} [FloatOps F]

/-- A word at least zero and below `n`, both read signed, is below `n`. -/
theorem below {n : ℕ} (hn : n < 2 ^ 31) (w : BitVec 32)
    (h : IntOp.andi (BitVec.ofBool ((0#32).sle w)) (BitVec.ofBool (w.slt (BitVec.ofNat 32 n))) = 1#1) : w.toNat < n := by
  have h0 : (0#32).sle w = true := by
    revert h; cases (0#32).sle w <;> cases w.slt (BitVec.ofNat 32 n) <;> decide
  have h1 : w.slt (BitVec.ofNat 32 n) = true := by
    revert h; cases (0#32).sle w <;> cases w.slt (BitVec.ofNat 32 n) <;> decide
  have hw := w.isLt
  have a0 : (0#32).toInt ≤ w.toInt := by simpa [BitVec.sle] using h0
  have a1 : w.toInt < (BitVec.ofNat 32 n).toInt := by simpa [BitVec.slt] using h1
  have e : (BitVec.ofNat 32 n).toNat = n := by rw [BitVec.toNat_ofNat]; omega
  have z : (0#32).toInt = 0 := by decide
  have ez : (BitVec.ofNat 32 n).toInt = n := by
    rw [BitVec.toInt_eq_toNat_cond, e, if_pos (by omega)]
  rw [z, BitVec.toInt_eq_toNat_cond] at a0
  rw [ez, BitVec.toInt_eq_toNat_cond] at a1
  split at a0 <;> split at a1 <;> omega

/-- A word at least zero and at most one, both read signed. -/
theorem bit (w : BitVec 32)
    (h : IntOp.andi (BitVec.ofBool ((0#32).sle w)) (BitVec.ofBool (w.sle 1#32)) = 1#1) : w = 0#32 ∨ w = 1#32 := by
  have h0 : (0#32).sle w = true := by
    revert h; cases (0#32).sle w <;> cases w.sle 1#32 <;> decide
  have h1 : w.sle 1#32 = true := by
    revert h; cases (0#32).sle w <;> cases w.sle 1#32 <;> decide
  have hw := w.isLt
  have a0 : (0#32).toInt ≤ w.toInt := by simpa [BitVec.sle] using h0
  have a1 : w.toInt ≤ (1#32).toInt := by simpa [BitVec.sle] using h1
  have z : (0#32).toInt = 0 := by decide
  have o : (1#32).toInt = 1 := by decide
  rw [z] at a0
  rw [o] at a1
  rw [BitVec.toInt_eq_toNat_cond] at a0 a1
  have : w.toNat = 0 ∨ w.toNat = 1 := by split at a0 <;> split at a1 <;> omega
  exact this.imp (fun e => BitVec.eq_of_toNat_eq e) (fun e => BitVec.eq_of_toNat_eq e)

/-- In range on every device, the tables are those of the frame. -/
theorem tabs_of_ranges (m : (ℓ : Loc nD τ sig) → Buf (Elt F) ℓ)
    (h : ∀ c : Dev nD,
      (∀ x, IntOp.andi (BitVec.ofBool ((0#32).sle (m ((c.tc : Thread nD τ).loc main_arg0) x)))
        (BitVec.ofBool (BitVec.slt (m ((c.tc : Thread nD τ).loc main_arg0) x) 32#32)) = 1#1)
      ∧ (∀ x, IntOp.andi (BitVec.ofBool ((0#32).sle (m ((c.tc : Thread nD τ).loc main_arg1) x)))
        (BitVec.ofBool (BitVec.slt (m ((c.tc : Thread nD τ).loc main_arg1) x) 96#32)) = 1#1)
      ∧ ∀ x, IntOp.andi (BitVec.ofBool ((0#32).sle (m ((c.tc : Thread nD τ).loc main_arg2) x)))
        (BitVec.ofBool (BitVec.sle (m ((c.tc : Thread nD τ).loc main_arg2) x) 1#32)) = 1#1) :
    ∃ ch : Tabs F, Pinned ch m := by
  have one : ∀ c : Dev nD, c = (0 : Fin 1) := fun c => Subsingleton.elim (α := Fin 1) c 0
  refine ⟨⟨m (((0 : Fin 1) : Thread nD τ).loc main_arg0), m (((0 : Fin 1) : Thread nD τ).loc main_arg1),
    m (((0 : Fin 1) : Thread nD τ).loc main_arg2), fun x => below (n := 32) (by decide) _ ((h (0 : Fin 1)).1 x),
    fun x => below (n := 96) (by decide) _ ((h (0 : Fin 1)).2.1 x), fun x => bit _ ((h (0 : Fin 1)).2.2 x)⟩, ?_, ?_, ?_⟩
  all_goals (intro c; rw [one c])

/-- The ideal program's frame. -/
theorem ideal_frame : Cert.quiescent_ExpertsIdeal := fun m ρ hp => by
  obtain ⟨ch, h⟩ := tabs_of_ranges (F := Ideal) m fun c =>
    ⟨fun x => congrFun (hp c).1 x, fun x => congrFun (hp c).2.1 x, fun x => congrFun (hp c).2.2 x⟩
  exact frame ch m ρ h

end Cert.ExpertsFrame

end
-- ==== Proof.ExpertsBits.lean ====
module

public import proofs.«01_k».proof.Defs
public import proofs.«01_k».proof.Proof.ExpertsRange
public import proofs.«01_k».proof.Proof.Gen.Experts

/-!
# The experts program's frame

Its text is that of the program read at the ideal instance, so its body table is that one's.
-/

@[expose] public section

set_option maxRecDepth 100000

noncomputable section

namespace Cert.ExpertsFrame

open Idealize.ShloMosaic
open Idealize.ShloMosaic.TcCoe

variable {F : FTy → Type} [FloatOps F]

set_option maxHeartbeats 4000000 in
/-- The two programs' bodies are one. -/
theorem body_eq : @Cert.Experts.cc0_experts F _ _ = @Cert.ExpertsIdeal.cc0_experts F _ _ := rfl

set_option maxHeartbeats 4000000 in
theorem defs0_eq : Cert.Experts.defs₀ (F := F) = Cert.ExpertsIdeal.defs₀ (F := F) := by
  unfold Cert.Experts.defs₀ Cert.ExpertsIdeal.defs₀
  congr 1
  funext l x
  obtain rfl : l = (0 : Fin 1) := Subsingleton.elim _ _
  obtain ⟨t, s⟩ := x
  dsimp only
  rw [body_eq]
  rfl

/-- The two body tables are one. -/
theorem defs_eq : Cert.Experts.defs (F := F) = Cert.ExpertsIdeal.defs (F := F) :=
  congrArg (Pipeline.defs (Cert.ExpertsIdeal.pcfgs (F := F))) defs0_eq

set_option maxHeartbeats 4000000 in
/-- The program's frame. -/
theorem bits_frame : Cert.quiescent_Experts := fun m ρ hp => by
  obtain ⟨ch, h⟩ := tabs_of_ranges (F := Bits) m fun c =>
    ⟨fun x => congrFun (hp c).1 x, fun x => congrFun (hp c).2.1 x, fun x => congrFun (hp c).2.2 x⟩
  rw [defs_eq]
  exact frame ch m ρ h

end Cert.ExpertsFrame

end
-- ==== Proof.lean ====
/-
Everything the certificate claims, put together: the frames of the programs, the idealizations that keep the
kernels' meaning, and the equation of each kernel with its reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnReferenceIdeal
public import proofs.«01_k».proof.Proof.Gen.Pre_finite_qk
public import proofs.«01_k».proof.Proof.Gen.KernelIdeal.Value
public import proofs.«01_k».proof.Proof.Gen.InprojIdeal.Value
public import proofs.«01_k».proof.Proof.Gen.MergeIdeal.Value
public import proofs.«01_k».proof.Proof.Gen.XattnIdeal.Value
public import proofs.«01_k».proof.Proof.Gen.ReferenceIdeal.Read
public import proofs.«01_k».proof.Proof.Gen.InprojReferenceIdeal.Read
public import proofs.«01_k».proof.Proof.Gen.MergeReferenceIdeal.Read
public import proofs.«01_k».proof.Proof.Gen.XattnReferenceIdeal.Read
public import proofs.«01_k».proof.Proof.Equation
public import proofs.«01_k».proof.Proof.InprojValue
public import proofs.«01_k».proof.Proof.MergeValue
public import proofs.«01_k».proof.Proof.XattnValue
public import proofs.«01_k».proof.Proof.MlaprepArray
public import proofs.«01_k».proof.Proof.MemkvValue
public import Idealize.ShloMosaic.Adequacy
public import Idealize.ShloMosaic.Init
public import proofs.«01_k».proof.Proof.Gen.Mlaprep
public import proofs.«01_k».proof.Proof.Gen.Mlaprep.Skeleton
public import proofs.«01_k».proof.Proof.Gen.Mlaprep.Launch
public import proofs.«01_k».proof.Proof.Gen.Mlaprep.Points
public import proofs.«01_k».proof.Proof.Gen.Mlaprep.Frame
public import proofs.«01_k».proof.Proof.Gen.MlaprepIdeal
public import proofs.«01_k».proof.Proof.Gen.MlaprepIdeal.Skeleton
public import proofs.«01_k».proof.Proof.Gen.MlaprepIdeal.Launch
public import proofs.«01_k».proof.Proof.Gen.MlaprepIdeal.Points
public import proofs.«01_k».proof.Proof.Gen.MlaprepIdeal.Frame
public import proofs.«01_k».proof.Proof.Gen.MlaprepReferenceIdeal
public import proofs.«01_k».proof.Proof.Gen.MlaprepIdeal.Value
public import proofs.«01_k».proof.Proof.Gen.MlaprepReferenceIdeal.Read
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.Experts
public import proofs.«01_k».proof.Proof.Gen.ExpertsIdeal
public import proofs.«01_k».proof.Proof.Gen.Pre_block_ranges
public import proofs.«01_k».proof.Proof.ExpertsRange
public import proofs.«01_k».proof.Proof.ExpertsBits
public import proofs.«01_k».proof.Proof.Gen.MemkvReferenceIdeal
public import proofs.«01_k».proof.Proof.Gen.MemkvIdeal.Value
public import proofs.«01_k».proof.Proof.Gen.MemkvReferenceIdeal.Read

@[expose] public section

noncomputable section

namespace Cert.Proof

open Idealize.ShloMosaic Idealize.SL.Sem

/-- The reference ends with its arguments as they were; it has no counter to leave behind. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0 :=
  (θ_run Cert.ReferenceIdeal.defs _ _).mono (fun r h => ⟨fun c => (h c).2, sem_eq_zero_of_no_sems (by decide) r.2⟩)
    (Cert.ReferenceIdeal.Value.run (F := Ideal) m ρ)

/-- The kernel and its reference end with the same array, on finite queries and keys. -/
theorem equation : Cert.algebraic_KernelIdeal_ReferenceIdeal_pre_finite_qk := by
  intro m g m' g' hpre hargs
  refine ⟨fun c => Cert.Attn.result (Cert.Attn.argQ m c) (Cert.Attn.argK m c) (Cert.Attn.argV m c), Cert.Attn.kernel_run m g, ?_⟩
  refine (θ_run Cert.ReferenceIdeal.defs _ _).mono (fun r h c => ⟨(h c).1.trans ?_, (h c).2⟩) (Cert.ReferenceIdeal.Value.run (F := Ideal) m' g')
  obtain ⟨a0, a1, a2⟩ := hargs c
  obtain ⟨hQ, hK⟩ := Cert.Attn.finite_of_pre _ _ _ (hpre c).1 (hpre c).2
  rw [a0, a1, a2]
  exact (Cert.ReferenceIdeal.Read.val_main_v23_eq _ _ _).trans (Cert.Attn.ref_result _ _ _ hQ hK)

/-- The input projection's reference ends with its arguments as they were. -/
theorem inproj_reference_frame (m : (ℓ : Loc Cert.InprojReferenceIdeal.nD Cert.InprojReferenceIdeal.τ Cert.InprojReferenceIdeal.sig) → Buf (Elt Ideal) ℓ)
    (ρ : Dev Cert.InprojReferenceIdeal.nD → PrngReg) :
    θ_run (Cert.InprojReferenceIdeal.defs (F := Ideal)) (onTc (τ := Cert.InprojReferenceIdeal.τ) (Cert.InprojReferenceIdeal.main (F := Ideal))) ⟨m, fun _ => 0, ρ⟩ fun r =>
      (∀ c : Dev Cert.InprojReferenceIdeal.nD,
        r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
        ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
        ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0 :=
  (θ_run Cert.InprojReferenceIdeal.defs _ _).mono (fun r h => ⟨fun c => (h c).2.2.2, sem_eq_zero_of_no_sems (by decide) r.2⟩)
    (Cert.InprojReferenceIdeal.Value.run (F := Ideal) m ρ)

/-- The input projection and its reference end with the same three arrays. -/
theorem inproj_equation : Cert.algebraic_InprojIdeal_InprojReferenceIdeal := by
  intro m g m' g' _ hargs
  refine ⟨fun c => Cert.Inproj.result3 m c, fun c => Cert.Inproj.result4 m c, fun c => Cert.Inproj.result5 m c,
    (θ_run Cert.InprojIdeal.defs _ _).mono (fun r h c => ⟨(h c).1.trans (Cert.Inproj.array_result3 m c),
      (h c).2.1.trans (Cert.Inproj.array_result4 m c), (h c).2.2.1.trans (Cert.Inproj.array_result5 m c), (h c).2.2.2⟩)
      (Cert.InprojIdeal.Value.run_blocks (F := Ideal) m g), ?_⟩
  refine (θ_run Cert.InprojReferenceIdeal.defs _ _).mono (fun r h c =>
    ⟨(h c).1.trans ?_, (h c).2.1.trans ?_, (h c).2.2.1.trans ?_, (h c).2.2.2⟩) (Cert.InprojReferenceIdeal.Value.run (F := Ideal) m' g')
  · obtain ⟨a0, a1, a2⟩ := hargs c
    rw [a0, a1, a2]
    exact Cert.InprojReferenceIdeal.Read.val_main_v15_eq _ _ _
  · obtain ⟨a0, a1, a2⟩ := hargs c
    rw [a0, a1, a2]
    exact Cert.InprojReferenceIdeal.Read.val_main_v16_eq _ _ _
  · obtain ⟨a0, a1, a2⟩ := hargs c
    rw [a0, a1, a2]
    exact Cert.InprojReferenceIdeal.Read.val_main_v17_eq _ _ _

/-- The merge's reference ends with its arguments as they were. -/
theorem merge_reference_frame (m : (ℓ : Loc Cert.MergeReferenceIdeal.nD Cert.MergeReferenceIdeal.τ Cert.MergeReferenceIdeal.sig) → Buf (Elt Ideal) ℓ)
    (ρ : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, ρ⟩ fun r =>
      (∀ c : Dev Cert.MergeReferenceIdeal.nD,
        r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
        ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
        ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
        ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
        ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
        ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
        ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0 :=
  (θ_run Cert.MergeReferenceIdeal.defs _ _).mono (fun r h => ⟨fun c => (h c).2, sem_eq_zero_of_no_sems (by decide) r.2⟩)
    (Cert.MergeReferenceIdeal.Value.run (F := Ideal) m ρ)

/-- The merge and its reference end with the same array. -/
theorem merge_equation : Cert.algebraic_MergeIdeal_MergeReferenceIdeal := by
  intro m g m' g' _ hargs
  refine ⟨fun c => Cert.Merge.result m c,
    (θ_run Cert.MergeIdeal.defs _ _).mono (fun r h c => ⟨(h c).1.trans (Cert.Merge.array_result m c), (h c).2⟩)
      (Cert.MergeIdeal.Value.run_blocks (F := Ideal) m g), ?_⟩
  refine (θ_run Cert.MergeReferenceIdeal.defs _ _).mono (fun r h c => ⟨(h c).1.trans ?_, (h c).2⟩) (Cert.MergeReferenceIdeal.Value.run (F := Ideal) m' g')
  obtain ⟨a0, a1, a2, a3, a4, a5, a6⟩ := hargs c
  rw [a0, a1, a2, a3, a4, a5, a6]
  exact Cert.MergeReferenceIdeal.Read.val_main_v26_eq _ _ _ _ _ _ _

/-- The cross attention's reference ends with its arguments as they were. -/
theorem xattn_reference_frame (m : (ℓ : Loc Cert.XattnReferenceIdeal.nD Cert.XattnReferenceIdeal.τ Cert.XattnReferenceIdeal.sig) → Buf (Elt Ideal) ℓ)
    (ρ : Dev Cert.XattnReferenceIdeal.nD → PrngReg) :
    θ_run (Cert.XattnReferenceIdeal.defs (F := Ideal)) (onTc (τ := Cert.XattnReferenceIdeal.τ) (Cert.XattnReferenceIdeal.main (F := Ideal))) ⟨m, fun _ => 0, ρ⟩ fun r =>
      (∀ c : Dev Cert.XattnReferenceIdeal.nD,
        r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
        ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
        ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
        ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
        ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
        ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5))
      ∧ r.2.sem = fun _ => 0 :=
  (θ_run Cert.XattnReferenceIdeal.defs _ _).mono (fun r h => ⟨fun c => (h c).2, sem_eq_zero_of_no_sems (by decide) r.2⟩)
    (Cert.XattnReferenceIdeal.Value.run (F := Ideal) m ρ)

/-- The cross attention and its reference end with the same array. -/
theorem xattn_equation : Cert.algebraic_XattnIdeal_XattnReferenceIdeal := by
  intro m g m' g' _ hargs
  refine ⟨fun c => Cert.Xattn.result m c,
    (θ_run Cert.XattnIdeal.defs _ _).mono (fun r h c => ⟨(h c).1.trans (Cert.Xattn.array_result m c), (h c).2⟩)
      (Cert.XattnIdeal.Value.run_blocks (F := Ideal) m g), ?_⟩
  refine (θ_run Cert.XattnReferenceIdeal.defs _ _).mono (fun r h c => ⟨(h c).1.trans ?_, (h c).2⟩) (Cert.XattnReferenceIdeal.Value.run (F := Ideal) m' g')
  obtain ⟨a0, a1, a2, a3, a4, a5⟩ := hargs c
  refine (Cert.XattnReferenceIdeal.Read.val_main_v36_eq m' c).trans ?_
  rw [a0, a1, a2, a3, a4, a5]

/-- The latent projections' reference ends with its arguments as they were. -/
theorem mlaprep_reference_frame (m : (ℓ : Loc Cert.MlaprepReferenceIdeal.nD Cert.MlaprepReferenceIdeal.τ Cert.MlaprepReferenceIdeal.sig) → Buf (Elt Ideal) ℓ)
    (ρ : Dev Cert.MlaprepReferenceIdeal.nD → PrngReg) :
    θ_run (Cert.MlaprepReferenceIdeal.defs (F := Ideal)) (onTc (τ := Cert.MlaprepReferenceIdeal.τ) (Cert.MlaprepReferenceIdeal.main (F := Ideal))) ⟨m, fun _ => 0, ρ⟩ fun r =>
      (∀ c : Dev Cert.MlaprepReferenceIdeal.nD,
        r.2.mem ((c.tc : Thread Cert.MlaprepReferenceIdeal.nD Cert.MlaprepReferenceIdeal.τ).loc Cert.MlaprepReferenceIdeal.main_arg0) = m ((c.tc : Thread Cert.MlaprepReferenceIdeal.nD Cert.MlaprepReferenceIdeal.τ).loc Cert.MlaprepReferenceIdeal.main_arg0)
        ∧ r.2.mem ((c.tc : Thread Cert.MlaprepReferenceIdeal.nD Cert.MlaprepReferenceIdeal.τ).loc Cert.MlaprepReferenceIdeal.main_arg1) = m ((c.tc : Thread Cert.MlaprepReferenceIdeal.nD Cert.MlaprepReferenceIdeal.τ).loc Cert.MlaprepReferenceIdeal.main_arg1)
        ∧ r.2.mem ((c.tc : Thread Cert.MlaprepReferenceIdeal.nD Cert.MlaprepReferenceIdeal.τ).loc Cert.MlaprepReferenceIdeal.main_arg2) = m ((c.tc : Thread Cert.MlaprepReferenceIdeal.nD Cert.MlaprepReferenceIdeal.τ).loc Cert.MlaprepReferenceIdeal.main_arg2)
        ∧ r.2.mem ((c.tc : Thread Cert.MlaprepReferenceIdeal.nD Cert.MlaprepReferenceIdeal.τ).loc Cert.MlaprepReferenceIdeal.main_arg3) = m ((c.tc : Thread Cert.MlaprepReferenceIdeal.nD Cert.MlaprepReferenceIdeal.τ).loc Cert.MlaprepReferenceIdeal.main_arg3)
        ∧ r.2.mem ((c.tc : Thread Cert.MlaprepReferenceIdeal.nD Cert.MlaprepReferenceIdeal.τ).loc Cert.MlaprepReferenceIdeal.main_arg4) = m ((c.tc : Thread Cert.MlaprepReferenceIdeal.nD Cert.MlaprepReferenceIdeal.τ).loc Cert.MlaprepReferenceIdeal.main_arg4)
        ∧ r.2.mem ((c.tc : Thread Cert.MlaprepReferenceIdeal.nD Cert.MlaprepReferenceIdeal.τ).loc Cert.MlaprepReferenceIdeal.main_arg5) = m ((c.tc : Thread Cert.MlaprepReferenceIdeal.nD Cert.MlaprepReferenceIdeal.τ).loc Cert.MlaprepReferenceIdeal.main_arg5)
        ∧ r.2.mem ((c.tc : Thread Cert.MlaprepReferenceIdeal.nD Cert.MlaprepReferenceIdeal.τ).loc Cert.MlaprepReferenceIdeal.main_arg6) = m ((c.tc : Thread Cert.MlaprepReferenceIdeal.nD Cert.MlaprepReferenceIdeal.τ).loc Cert.MlaprepReferenceIdeal.main_arg6)
        ∧ r.2.mem ((c.tc : Thread Cert.MlaprepReferenceIdeal.nD Cert.MlaprepReferenceIdeal.τ).loc Cert.MlaprepReferenceIdeal.main_arg7) = m ((c.tc : Thread Cert.MlaprepReferenceIdeal.nD Cert.MlaprepReferenceIdeal.τ).loc Cert.MlaprepReferenceIdeal.main_arg7)
        ∧ r.2.mem ((c.tc : Thread Cert.MlaprepReferenceIdeal.nD Cert.MlaprepReferenceIdeal.τ).loc Cert.MlaprepReferenceIdeal.main_arg8) = m ((c.tc : Thread Cert.MlaprepReferenceIdeal.nD Cert.MlaprepReferenceIdeal.τ).loc Cert.MlaprepReferenceIdeal.main_arg8))
      ∧ r.2.sem = fun _ => 0 :=
  (θ_run Cert.MlaprepReferenceIdeal.defs _ _).mono (fun r h => ⟨fun c => (h c).2.2.2, sem_eq_zero_of_no_sems (by decide) r.2⟩)
    (Cert.MlaprepReferenceIdeal.Value.run (F := Ideal) m ρ)

/-- The latent projections and their reference end with the same three arrays. -/
theorem mlaprep_equation : Cert.algebraic_MlaprepIdeal_MlaprepReferenceIdeal := by
  intro m g m' g' _ hargs
  refine ⟨fun c => Cert.Mlaprep.resultQ m c, fun c => Cert.Mlaprep.resultK m c, fun c => Cert.Mlaprep.resultV m c,
    (θ_run Cert.MlaprepIdeal.defs _ _).mono (fun r h c => ⟨(h c).1.trans (Cert.Mlaprep.arrayQ m c),
      (h c).2.1.trans (Cert.Mlaprep.arrayK m c), (h c).2.2.1.trans (Cert.Mlaprep.arrayV m c), (h c).2.2.2⟩)
      (Cert.MlaprepIdeal.Value.run_blocks (F := Ideal) m g), ?_⟩
  refine (θ_run Cert.MlaprepReferenceIdeal.defs _ _).mono (fun r h c =>
    ⟨(h c).1.trans ?_, (h c).2.1.trans ?_, (h c).2.2.1.trans ?_, (h c).2.2.2⟩) (Cert.MlaprepReferenceIdeal.Value.run (F := Ideal) m' g')
  · obtain ⟨a0, a1, a2, a3, a4, a5, a6, a7, a8⟩ := hargs c
    refine (Cert.MlaprepReferenceIdeal.Read.val_main_v64_eq m' c).trans ?_
    rw [a0, a1, a2, a3, a5, a6]
  · obtain ⟨a0, a1, a2, a3, a4, a5, a6, a7, a8⟩ := hargs c
    rw [a0, a1, a2, a4, a7]
    exact Cert.MlaprepReferenceIdeal.Read.val_main_v66_eq _ _ _ _ _
  · obtain ⟨a0, a1, a2, a3, a4, a5, a6, a7, a8⟩ := hargs c
    rw [a0, a4, a8]
    exact Cert.MlaprepReferenceIdeal.Read.val_main_v68_eq _ _ _

/-- The memory's reference ends with its arguments as they were. -/
theorem memkv_reference_frame (m : (ℓ : Loc Cert.MemkvReferenceIdeal.nD Cert.MemkvReferenceIdeal.τ Cert.MemkvReferenceIdeal.sig) → Buf (Elt Ideal) ℓ)
    (ρ : Dev Cert.MemkvReferenceIdeal.nD → PrngReg) :
    θ_run (Cert.MemkvReferenceIdeal.defs (F := Ideal)) (onTc (τ := Cert.MemkvReferenceIdeal.τ) (Cert.MemkvReferenceIdeal.main (F := Ideal))) ⟨m, fun _ => 0, ρ⟩ fun r =>
      (∀ c : Dev Cert.MemkvReferenceIdeal.nD,
        r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
        ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
        ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2)
        ∧ r.2.mem ((c.tc : Thread Cert.MemkvReferenceIdeal.nD Cert.MemkvReferenceIdeal.τ).loc Cert.MemkvReferenceIdeal.main_arg3) = m ((c.tc : Thread Cert.MemkvReferenceIdeal.nD Cert.MemkvReferenceIdeal.τ).loc Cert.MemkvReferenceIdeal.main_arg3))
      ∧ r.2.sem = fun _ => 0 :=
  (θ_run Cert.MemkvReferenceIdeal.defs _ _).mono (fun r h => ⟨fun c => (h c).2.2, sem_eq_zero_of_no_sems (by decide) r.2⟩)
    (Cert.MemkvReferenceIdeal.Value.run (F := Ideal) m ρ)

/-- The memory's keys and values and their reference end with the same two arrays. -/
theorem memkv_equation : Cert.algebraic_MemkvIdeal_MemkvReferenceIdeal := by
  intro m g m' g' _ hargs
  refine ⟨fun c => Cert.Memkv.resultK m c, fun c => Cert.Memkv.resultV m c,
    (θ_run Cert.MemkvIdeal.defs _ _).mono (fun r h c => ⟨(h c).1.trans (Cert.Memkv.keys_array _ _ _),
      (h c).2.1.trans (Cert.Memkv.values_array _ _ _), (h c).2.2⟩) (Cert.MemkvIdeal.Value.run (F := Ideal) m g), ?_⟩
  refine (θ_run Cert.MemkvReferenceIdeal.defs _ _).mono (fun r h c =>
    ⟨(h c).1.trans ?_, (h c).2.1.trans ?_, (h c).2.2⟩) (Cert.MemkvReferenceIdeal.Value.run (F := Ideal) m' g')
  · obtain ⟨a0, a1, a2, a3⟩ := hargs c
    rw [a0, a1, a2]
    exact Cert.MemkvReferenceIdeal.Read.val_main_v14_eq _ _ _
  · obtain ⟨a0, a1, a2, a3⟩ := hargs c
    rw [a0, a1, a3]
    exact Cert.MemkvReferenceIdeal.Read.val_main_v17_eq _ _ _

/-- The certificate's claim. -/
theorem claim : Cert.Claim :=
  ⟨Cert.Kernel.Gen.facts, Cert.KernelIdeal.Gen.facts, Cert.ReferenceIdeal.Gen.facts, Cert.Inproj.Gen.facts,
    Cert.InprojIdeal.Gen.facts, Cert.InprojReferenceIdeal.Gen.facts, Cert.Merge.Gen.facts,
    Cert.MergeIdeal.Gen.facts, Cert.MergeReferenceIdeal.Gen.facts, Cert.Xattn.Gen.facts, Cert.XattnIdeal.Gen.facts,
    Cert.XattnReferenceIdeal.Gen.facts, Cert.Mlaprep.Gen.facts, Cert.MlaprepIdeal.Gen.facts,
    Cert.MlaprepReferenceIdeal.Gen.facts, Cert.Memkv.Gen.facts, Cert.MemkvIdeal.Gen.facts,
    Cert.MemkvReferenceIdeal.Gen.facts, Cert.Experts.Gen.facts, Cert.ExpertsIdeal.Gen.facts,
    Cert.Pre_finite_qk.Gen.facts, Cert.Pre_block_ranges.Gen.facts, fun m ρ _ => Cert.Kernel.Gen.frame m ρ,
    fun m ρ _ => Cert.KernelIdeal.Gen.frame m ρ, fun m ρ _ => Cert.KernelIdeal.Gen.frame m ρ,
    fun m ρ _ => reference_frame m ρ, fun m ρ _ => reference_frame m ρ, fun m ρ _ => Cert.Inproj.Gen.frame m ρ,
    fun m ρ _ => Cert.InprojIdeal.Gen.frame m ρ, fun m ρ _ => inproj_reference_frame m ρ, fun m ρ _ => Cert.Merge.Gen.frame m ρ, fun m ρ _ => Cert.MergeIdeal.Gen.frame m ρ,
    fun m ρ _ => merge_reference_frame m ρ, fun m ρ _ => Cert.Xattn.Gen.frame m ρ, fun m ρ _ => Cert.XattnIdeal.Gen.frame m ρ, fun m ρ _ => xattn_reference_frame m ρ,
    fun m ρ _ => Cert.Mlaprep.Gen.frame m ρ, fun m ρ _ => Cert.MlaprepIdeal.Gen.frame m ρ, fun m ρ _ => mlaprep_reference_frame m ρ,
    fun m ρ _ => Cert.Memkv.Gen.frame m ρ, fun m ρ _ => Cert.MemkvIdeal.Gen.frame m ρ, fun m ρ _ => memkv_reference_frame m ρ,
    Cert.ExpertsFrame.bits_frame, Cert.ExpertsFrame.ideal_frame,
    IdealRules.named_const.statement Cert.KernelIdeal.κ "minus_inf" .f32 0xF149F2CA#32 ⊥ rfl, equation, trivial,
    inproj_equation, trivial, merge_equation, trivial, xattn_equation, trivial, mlaprep_equation, trivial, memkv_equation, trivial⟩

end Cert.Proof

end
